-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_2)) (v2 : (c : Dev Cert.Kernel3Ideal.nD) → Buf (Elt Ideal) ((c.tc : Thread Cert.Kernel3Ideal.nD Cert.Kernel3Ideal.τ).loc Cert.Kernel3Ideal.main_v41_4)) (v3 : (c : Dev Cert.Kernel3Ideal.nD) → Buf (Elt Ideal) ((c.tc : Thread Cert.Kernel3Ideal.nD Cert.Kernel3Ideal.τ).loc Cert.Kernel3Ideal.main_v41_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_2) = v1 c
          ∧ r.2.mem ((c.tc : Thread Cert.Kernel3Ideal.nD Cert.Kernel3Ideal.τ).loc Cert.Kernel3Ideal.main_v41_4) = v2 c
          ∧ r.2.mem ((c.tc : Thread Cert.Kernel3Ideal.nD Cert.Kernel3Ideal.τ).loc Cert.Kernel3Ideal.main_v41_5) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x4096x512 : Shape := ⟨3, ![8, 4096, 512]⟩
abbrev S8x4096x8 : Shape := ⟨3, ![8, 4096, 8]⟩
abbrev S8 : Shape := ⟨1, ![8]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x8 : S_.BroadcastsInDim S8x4096x8 (![] : Fin 0 → Fin S8x4096x8.rank)
  reducesTo_S8x4096x8_S_d0_1_2 : S8x4096x8.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x4096x512 .f32) (main_arg1 : FVec F S8x4096x512 .f32) (main_arg2 : FVec F S8x4096x512 .f32) (main_arg3 : FVec F S8x4096x8 .f32) (main_arg4 : FVec F S8 .f32) (main_arg5 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x8 .f32 := Host.absf main_arg3
  let main_cst_2 : FVec F S_ .f32 := constant S_ .f32 0x7F800000#32
  let main_v10 : FVec F S8x4096x8 .f32 := broadcastInDim S8x4096x8 ![] bcast_S_S8x4096x8 main_cst_2
  let main_v11 : IVec S8x4096x8 1 := cmpf .olt main_v9 main_v10
  let main_c_3 : IVec S_ 1 := constantI S_ 1 1#1
  let main_v12 : IVec S_ 1 := (fun x v => Host.reduce IntOp.andi x v reducesTo_S8x4096x8_S_d0_1_2 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x4096x512 : Shape := ⟨3, ![8, 4096, 512]⟩
abbrev S8x4096x8 : Shape := ⟨3, ![8, 4096, 8]⟩
abbrev S8 : Shape := ⟨1, ![8]⟩
abbrev S512 : Shape := ⟨1, ![512]⟩
abbrev S_ : Shape := ⟨0, ![]⟩
abbrev S64x512x512 : Shape := ⟨3, ![64, 512, 512]⟩
abbrev S128x256x512 : Shape := ⟨3, ![128, 256, 512]⟩
abbrev S128x512x256 : Shape := ⟨3, ![128, 512, 256]⟩
abbrev S1x1x8 : Shape := ⟨3, ![1, 1, 8]⟩
abbrev S32768x8 : Shape := ⟨2, ![32768, 8]⟩
abbrev S32768x104 : Shape := ⟨2, ![32768, 104]⟩
abbrev S32768x128 : Shape := ⟨2, ![32768, 128]⟩
abbrev S32768x512 : Shape := ⟨2, ![32768, 512]⟩
abbrev S1x512 : Shape := ⟨2, ![1, 512]⟩
abbrev S2x512x512 : Shape := ⟨3, ![2, 512, 512]⟩
abbrev S4096x512 : Shape := ⟨2, ![4096, 512]⟩
abbrev S4096x128 : Shape := ⟨2, ![4096, 128]⟩
abbrev S16x512x256 : Shape := ⟨3, ![16, 512, 256]⟩
abbrev S1024x512 : Shape := ⟨2, ![1024, 512]⟩
abbrev S8x256x1024 : Shape := ⟨3, ![8, 256, 1024]⟩
abbrev S32x1x256 : Shape := ⟨3, ![32, 1, 256]⟩
abbrev S32x80x256 : Shape := ⟨3, ![32, 80, 256]⟩
abbrev S512x1024 : Shape := ⟨2, ![512, 1024]⟩
abbrev S6x256x256 : Shape := ⟨3, ![6, 256, 256]⟩
abbrev S128x512 : Shape := ⟨2, ![128, 512]⟩
abbrev S1x128x512 : Shape := ⟨3, ![1, 128, 512]⟩
abbrev S16x256 : Shape := ⟨2, ![16, 256]⟩
abbrev S256x256 : Shape := ⟨2, ![256, 256]⟩
abbrev S256x128 : Shape := ⟨2, ![256, 128]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S1x64x256 : Shape := ⟨3, ![1, 64, 256]⟩
abbrev S64x256 : Shape := ⟨2, ![64, 256]⟩
abbrev S80x256 : Shape := ⟨2, ![80, 256]⟩
abbrev S1x80x256 : Shape := ⟨3, ![1, 80, 256]⟩

abbrev nBuf : Space → Nat
  | .hbm => 59
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x8, .f32⟩
  | .hbm, ⟨4, _⟩ => ⟨S8, .f32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S64x512x512, .f32⟩
  | .hbm, ⟨9, _⟩ => ⟨S64x512x512, .f32⟩
  | .hbm, ⟨10, _⟩ => ⟨S_, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S64x512x512, .bf16⟩
  | .hbm, ⟨16, _⟩ => ⟨S128x256x512, .f32⟩
  | .hbm, ⟨17, _⟩ => ⟨S128x512x256, .f32⟩
  | .hbm, ⟨18, _⟩ => ⟨S128x512x256, .bf16⟩
  | .hbm, ⟨19, _⟩ => ⟨S1x1x8, .f32⟩
  | .hbm, ⟨20, _⟩ => ⟨S8x4096x8, .f32⟩
  | .hbm, ⟨21, _⟩ => ⟨S8x4096x8, .f32⟩
  | .hbm, ⟨22, _⟩ => ⟨S8x4096x8, .f32⟩
  | .hbm, ⟨23, _⟩ => ⟨S_, .f32⟩
  | .hbm, ⟨24, _⟩ => ⟨S8x4096x8, .f32⟩
  | .hbm, ⟨25, _⟩ => ⟨S8x4096x8, .f32⟩
  | .hbm, ⟨26, _⟩ => ⟨S8x4096x8, .f32⟩
  | .hbm, ⟨27, _⟩ => ⟨S8x4096x8, .f32⟩
  | .hbm, ⟨28, _⟩ => ⟨S8x4096x8, .i1⟩
  | .hbm, ⟨29, _⟩ => ⟨S8x4096x8, .f32⟩
  | .hbm, ⟨30, _⟩ => ⟨S8x4096x8, .f32⟩
  | .hbm, ⟨31, _⟩ => ⟨S8x4096x8, .f32⟩
  | .hbm, ⟨32, _⟩ => ⟨S8x4096x8, .f32⟩
  | .hbm, ⟨33, _⟩ => ⟨S8x4096x8, .f32⟩
  | .hbm, ⟨34, _⟩ => ⟨S8x4096x8, .f32⟩
  | .hbm, ⟨35, _⟩ => ⟨S8x4096x8, .f32⟩
  | .hbm, ⟨36, _⟩ => ⟨S8x4096x8, .f32⟩
  | .hbm, ⟨37, _⟩ => ⟨S8x4096x8, .f32⟩
  | .hbm, ⟨38, _⟩ => ⟨S_, .f32⟩
  | .hbm, ⟨39, _⟩ => ⟨S_, .f32⟩
  | .hbm, ⟨40, _⟩ => ⟨S8x4096x8, .f32⟩
  | .hbm, ⟨41, _⟩ => ⟨S32768x8, .f32⟩
  | .hbm, ⟨42, _⟩ => ⟨S32768x8, .f32⟩
  | .hbm, ⟨43, _⟩ => ⟨S32768x8, .f32⟩
  | .hbm, ⟨44, _⟩ => ⟨S32768x8, .f32⟩
  | .hbm, ⟨45, _⟩ => ⟨S32768x8, .bf16⟩
  | .hbm, ⟨46, _⟩ => ⟨S32768x8, .f32⟩
  | .hbm, ⟨47, _⟩ => ⟨S32768x8, .f32⟩
  | .hbm, ⟨48, _⟩ => ⟨S32768x8, .bf16⟩
  | .hbm, ⟨49, _⟩ => ⟨S32768x8, .f32⟩
  | .hbm, ⟨50, _⟩ => ⟨S32768x8, .f32⟩
  | .hbm, ⟨51, _⟩ => ⟨S32768x8, .bf16⟩
  | .hbm, ⟨52, _⟩ => ⟨S_, .bf16⟩
  | .hbm, ⟨53, _⟩ => ⟨S32768x104, .bf16⟩
  | .hbm, ⟨54, _⟩ => ⟨S32768x128, .bf16⟩
  | .hbm, ⟨55, _⟩ => ⟨S32768x512, .f32⟩
  | .hbm, ⟨56, _⟩ => ⟨S32768x512, .bf16⟩
  | .hbm, ⟨57, _⟩ => ⟨S1x512, .f32⟩
  | .hbm, ⟨58, _⟩ => ⟨S32768x512, .bf16⟩
  | .local _ .vmem, ⟨0, _⟩ => ⟨S2x512x512, .bf16⟩
  | .local _ .vmem, ⟨1, _⟩ => ⟨S2x512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S16x512x256, .bf16⟩
  | .local _ .vmem, ⟨7, _⟩ => ⟨S16x512x256, .bf16⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S8x256x1024, .bf16⟩
  | .local _ .vmem, ⟨12, _⟩ => ⟨S32x1x256, .f32⟩
  | .local _ .vmem, ⟨13, _⟩ => ⟨S32x80x256, .f32⟩
  | .local _ .vmem, ⟨14, _⟩ => ⟨S512x1024, .f32⟩
  | .local _ .vmem, ⟨15, _⟩ => ⟨S6x256x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v14 : Ref sig .tc := ⟨.hbm, 37, rfl⟩
abbrev main_call1_call0_cst : Ref sig .tc := ⟨.hbm, 38, rfl⟩
abbrev main_call1_call0_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_247 : BitVec 32 := 1#32
  ⟨c0_i32_245, v570, c1_i32_247⟩
def k0_mult1 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2651 : BitVec 32 := 256#32
  let v4207 : BitVec 32 := Scalar.muli v4200 c256_i32_2651
  v4207
def k0_off1 (i : grid0.Coords) (k0_t1 : Fin (k0_t1_loop i).trips) (c0_i32_2644 : BitVec 32) : Fin 2 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let c256_i32_2651 : BitVec 32 := 256#32
  let v4207 : BitVec 32 := Scalar.muli v4200 c256_i32_2651
  let v4208 : BitVec 32 := v4207
  let v4209 : Index := Scalar.indexCast v4208
  let c0_2652 : Index := 0#32
  ![v4209.toNat, 0]
def k0_off2 (i : grid0.Coords) (k0_t1 : Fin (k0_t1_loop i).trips) (c0_i32_2644 : BitVec 32) : Fin 2 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let c256_i32_2651 : BitVec 32 := 256#32
  let v4207 : BitVec 32 := Scalar.muli v4200 c256_i32_2651
  let v4208 : BitVec 32 := v4207
  let v4212 : Index := Scalar.indexCast v4208
  let c0_2653 : Index := 0#32
  ![v4212.toNat, 0]
def k0_mult2 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2662 : BitVec 32 := 256#32
  let v4222 : BitVec 32 := Scalar.muli v4200 c256_i32_2662
  v4222
def k0_off3 (i : grid0.Coords) (k0_t1 : Fin (k0_t1_loop i).trips) (c0_i32_2644 : BitVec 32) : Fin 2 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let c256_i32_2662 : BitVec 32 := 256#32
  let v4222 : BitVec 32 := Scalar.muli v4200 c256_i32_2662
  let v4223 : BitVec 32 := v4222
  let v4224 : Index := Scalar.indexCast v4223
  let c128_2663 : Index := 128#32
  ![v4224.toNat, 128]
def k0_mult3 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2673 : BitVec 32 := 256#32
  let v4237 : BitVec 32 := Scalar.muli v4200 c256_i32_2673
  v4237
def k0_off4 (i : grid0.Coords) (k0_t1 : Fin (k0_t1_loop i).trips) (c0_i32_2644 : BitVec 32) : Fin 2 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let c256_i32_2673 : BitVec 32 := 256#32
  let v4237 : BitVec 32 := Scalar.muli v4200 c256_i32_2673
  let v4238 : BitVec 32 := v4237
  let v4239 : Index := Scalar.indexCast v4238
  let c256_2674 : Index := 256#32
  ![v4239.toNat, 256]
def k0_mult4 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2694 : BitVec 32 := 256#32
  let v4265 : BitVec 32 := Scalar.muli v4200 c256_i32_2694
  v4265
def k0_off5 (i : grid0.Coords) (k0_t1 : Fin (k0_t1_loop i).trips) (c0_i32_2644 : BitVec 32) : Fin 2 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let c256_i32_2694 : BitVec 32 := 256#32
  let v4265 : BitVec 32 := Scalar.muli v4200 c256_i32_2694
  let v4266 : BitVec 32 := v4265
  let v4267 : Index := Scalar.indexCast v4266
  let c384_2695 : Index := 384#32
  ![v4267.toNat, 384]
def k0_off6 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4328 : Index := Scalar.indexCast v4200
  let c0_2742 : Index := 0#32
  let c0_2743 : Index := 0#32
  ![v4328.toNat, 0, 0]
def k0_off7 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4363 : Index := Scalar.indexCast v4200
  let c64_2768 : Index := 64#32
  let c0_2769 : Index := 0#32
  ![v4363.toNat, 64, 0]
def k0_off8 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4398 : Index := Scalar.indexCast v4200
  let c128_2794 : Index := 128#32
  let c0_2795 : Index := 0#32
  ![v4398.toNat, 128, 0]
def k0_off9 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4433 : Index := Scalar.indexCast v4200
  let c192_2820 : Index := 192#32
  let c0_2821 : Index := 0#32
  ![v4433.toNat, 192, 0]
def k0_off10 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4468 : Index := Scalar.indexCast v4200
  let c256_2846 : Index := 256#32
  let c0_2847 : Index := 0#32
  ![v4468.toNat, 256, 0]
def k0_off11 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4503 : Index := Scalar.indexCast v4200
  let c320_2872 : Index := 320#32
  let c0_2873 : Index := 0#32
  ![v4503.toNat, 320, 0]
def k0_off12 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4538 : Index := Scalar.indexCast v4200
  let c384_2898 : Index := 384#32
  let c0_2899 : Index := 0#32
  ![v4538.toNat, 384, 0]
def k0_off13 (i : grid0.Coords) (k0_t1 : Fin (k0_t1_loop i).trips) (c0_i32_2644 : BitVec 32) : Fin 3 → Nat :=
  let c0_i32_245 : BitVec 32 := 0#32
  let c1_i32_247 : BitVec 32 := 1#32
  let arg13 : BitVec 32 := Scf.iv c0_i32_245 c1_i32_247 k0_t1
  let c4_i32_2643 : BitVec 32 := 4#32
  let v4199 : BitVec 32 := Scalar.muli arg13 c4_i32_2643
  let v4200 : BitVec 32 := Scalar.addi v4199 c0_i32_2644
  let v4573 : Index := Scalar.indexCast v4200
  let c448_2924 : Index := 448#32
  let c0_2925 : Index := 0#32
  ![v4573.toNat, 448, 0]
def k0_mult5 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3349 : BitVec 32 := 256#32
  let v5146 : BitVec 32 := Scalar.muli v4202 c256_i32_3349
  v5146
def k0_mult6 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3404 : BitVec 32 := 256#32
  let v5225 : BitVec 32 := Scalar.muli v4202 c256_i32_3404
  v5225
def k0_mult7 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3459 : BitVec 32 := 256#32
  let v5304 : BitVec 32 := Scalar.muli v4202 c256_i32_3459
  v5304
def k0_mult8 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3514 : BitVec 32 := 256#32
  let v5383 : BitVec 32 := Scalar.muli v4202 c256_i32_3514
  v5383
def k0_mult9 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4193 : BitVec 32 := 256#32
  let v6302 : BitVec 32 := Scalar.muli v4204 c256_i32_4193
  v6302
def k0_mult10 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4248 : BitVec 32 := 256#32
  let v6381 : BitVec 32 := Scalar.muli v4204 c256_i32_4248
  v6381
def k0_mult11 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4303 : BitVec 32 := 256#32
  let v6460 : BitVec 32 := Scalar.muli v4204 c256_i32_4303
  v6460
def k0_mult12 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4358 : BitVec 32 := 256#32
  let v6539 : BitVec 32 := Scalar.muli v4204 c256_i32_4358
  v6539
def k0_mult13 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5037 : BitVec 32 := 256#32
  let v7458 : BitVec 32 := Scalar.muli v4206 c256_i32_5037
  v7458
def k0_mult14 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5092 : BitVec 32 := 256#32
  let v7537 : BitVec 32 := Scalar.muli v4206 c256_i32_5092
  v7537
def k0_mult15 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5147 : BitVec 32 := 256#32
  let v7616 : BitVec 32 := Scalar.muli v4206 c256_i32_5147
  v7616
def k0_mult16 (i : grid0.Coords) (k0_t1 : Fin (k0_t1_loop i).trips) : BitVec 32 :=
  let c0_i32_245 : BitVec 32 := 0#32
  let c1_i32_247 : BitVec 32 := 1#32
  let arg13 : BitVec 32 := Scf.iv c0_i32_245 c1_i32_247 k0_t1
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5202 : BitVec 32 := 256#32
  let v7695 : BitVec 32 := Scalar.muli v4206 c256_i32_5202
  v7695
@[reducible] def k0_t2_loop (i : grid0.Coords) : Scf.Loop 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let v567 : BitVec 32 := Scalar.addi c0_i32_245 v566
  let c1_i32_248 : BitVec 32 := 1#32
  ⟨v570, v567, c1_i32_248⟩
def k0_mult17 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2651 : BitVec 32 := 256#32
  let v4207 : BitVec 32 := Scalar.muli v4200 c256_i32_2651
  v4207
def k0_off14 (i : grid0.Coords) (k0_t2 : Fin (k0_t2_loop i).trips) (c0_i32_2644 : BitVec 32) : Fin 2 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let c256_i32_2651 : BitVec 32 := 256#32
  let v4207 : BitVec 32 := Scalar.muli v4200 c256_i32_2651
  let v4208 : BitVec 32 := v4207
  let v4209 : Index := Scalar.indexCast v4208
  let c0_2652 : Index := 0#32
  ![v4209.toNat, 0]
def k0_off15 (i : grid0.Coords) (k0_t2 : Fin (k0_t2_loop i).trips) (c0_i32_2644 : BitVec 32) : Fin 2 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let c256_i32_2651 : BitVec 32 := 256#32
  let v4207 : BitVec 32 := Scalar.muli v4200 c256_i32_2651
  let v4208 : BitVec 32 := v4207
  let v4212 : Index := Scalar.indexCast v4208
  let c0_2653 : Index := 0#32
  ![v4212.toNat, 0]
def k0_mult18 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2662 : BitVec 32 := 256#32
  let v4222 : BitVec 32 := Scalar.muli v4200 c256_i32_2662
  v4222
def k0_off16 (i : grid0.Coords) (k0_t2 : Fin (k0_t2_loop i).trips) (c0_i32_2644 : BitVec 32) : Fin 2 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let c256_i32_2662 : BitVec 32 := 256#32
  let v4222 : BitVec 32 := Scalar.muli v4200 c256_i32_2662
  let v4223 : BitVec 32 := v4222
  let v4224 : Index := Scalar.indexCast v4223
  let c128_2663 : Index := 128#32
  ![v4224.toNat, 128]
def k0_mult19 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2673 : BitVec 32 := 256#32
  let v4237 : BitVec 32 := Scalar.muli v4200 c256_i32_2673
  v4237
def k0_off17 (i : grid0.Coords) (k0_t2 : Fin (k0_t2_loop i).trips) (c0_i32_2644 : BitVec 32) : Fin 2 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let c256_i32_2673 : BitVec 32 := 256#32
  let v4237 : BitVec 32 := Scalar.muli v4200 c256_i32_2673
  let v4238 : BitVec 32 := v4237
  let v4239 : Index := Scalar.indexCast v4238
  let c256_2674 : Index := 256#32
  ![v4239.toNat, 256]
def k0_mult20 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let c0_i32_2644 : BitVec 32 := 0#32
  let v4200 : BitVec 32 := Scalar.addi v4199 c0_i32_2644
  let c256_i32_2694 : BitVec 32 := 256#32
  let v4265 : BitVec 32 := Scalar.muli v4200 c256_i32_2694
  v4265
def k0_off18 (i : grid0.Coords) (k0_t2 : Fin (k0_t2_loop i).trips) (c0_i32_2644 : BitVec 32) : Fin 2 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let c256_i32_2694 : BitVec 32 := 256#32
  let v4265 : BitVec 32 := Scalar.muli v4200 c256_i32_2694
  let v4266 : BitVec 32 := v4265
  let v4267 : Index := Scalar.indexCast v4266
  let c384_2695 : Index := 384#32
  ![v4267.toNat, 384]
def k0_off19 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4328 : Index := Scalar.indexCast v4200
  let c0_2742 : Index := 0#32
  let c0_2743 : Index := 0#32
  ![v4328.toNat, 0, 0]
def k0_off20 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4363 : Index := Scalar.indexCast v4200
  let c64_2768 : Index := 64#32
  let c0_2769 : Index := 0#32
  ![v4363.toNat, 64, 0]
def k0_off21 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4398 : Index := Scalar.indexCast v4200
  let c128_2794 : Index := 128#32
  let c0_2795 : Index := 0#32
  ![v4398.toNat, 128, 0]
def k0_off22 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4433 : Index := Scalar.indexCast v4200
  let c192_2820 : Index := 192#32
  let c0_2821 : Index := 0#32
  ![v4433.toNat, 192, 0]
def k0_off23 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4468 : Index := Scalar.indexCast v4200
  let c256_2846 : Index := 256#32
  let c0_2847 : Index := 0#32
  ![v4468.toNat, 256, 0]
def k0_off24 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4503 : Index := Scalar.indexCast v4200
  let c320_2872 : Index := 320#32
  let c0_2873 : Index := 0#32
  ![v4503.toNat, 320, 0]
def k0_off25 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4538 : Index := Scalar.indexCast v4200
  let c384_2898 : Index := 384#32
  let c0_2899 : Index := 0#32
  ![v4538.toNat, 384, 0]
def k0_off26 (i : grid0.Coords) (k0_t2 : Fin (k0_t2_loop i).trips) (c0_i32_2644 : BitVec 32) : Fin 3 → Nat :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2643 : BitVec 32 := 4#32
  let v4199 : BitVec 32 := Scalar.muli arg13 c4_i32_2643
  let v4200 : BitVec 32 := Scalar.addi v4199 c0_i32_2644
  let v4573 : Index := Scalar.indexCast v4200
  let c448_2924 : Index := 448#32
  let c0_2925 : Index := 0#32
  ![v4573.toNat, 448, 0]
def k0_mult21 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3349 : BitVec 32 := 256#32
  let v5146 : BitVec 32 := Scalar.muli v4202 c256_i32_3349
  v5146
def k0_mult22 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3404 : BitVec 32 := 256#32
  let v5225 : BitVec 32 := Scalar.muli v4202 c256_i32_3404
  v5225
def k0_mult23 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3459 : BitVec 32 := 256#32
  let v5304 : BitVec 32 := Scalar.muli v4202 c256_i32_3459
  v5304
def k0_mult24 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2645 : BitVec 32 := 4#32
  let v4201 : BitVec 32 := Scalar.muli arg13 c4_i32_2645
  let c1_i32_2646 : BitVec 32 := 1#32
  let v4202 : BitVec 32 := Scalar.addi v4201 c1_i32_2646
  let c256_i32_3514 : BitVec 32 := 256#32
  let v5383 : BitVec 32 := Scalar.muli v4202 c256_i32_3514
  v5383
def k0_mult25 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4193 : BitVec 32 := 256#32
  let v6302 : BitVec 32 := Scalar.muli v4204 c256_i32_4193
  v6302
def k0_mult26 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4248 : BitVec 32 := 256#32
  let v6381 : BitVec 32 := Scalar.muli v4204 c256_i32_4248
  v6381
def k0_mult27 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4303 : BitVec 32 := 256#32
  let v6460 : BitVec 32 := Scalar.muli v4204 c256_i32_4303
  v6460
def k0_mult28 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2647 : BitVec 32 := 4#32
  let v4203 : BitVec 32 := Scalar.muli arg13 c4_i32_2647
  let c2_i32_2648 : BitVec 32 := 2#32
  let v4204 : BitVec 32 := Scalar.addi v4203 c2_i32_2648
  let c256_i32_4358 : BitVec 32 := 256#32
  let v6539 : BitVec 32 := Scalar.muli v4204 c256_i32_4358
  v6539
def k0_mult29 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5037 : BitVec 32 := 256#32
  let v7458 : BitVec 32 := Scalar.muli v4206 c256_i32_5037
  v7458
def k0_mult30 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5092 : BitVec 32 := 256#32
  let v7537 : BitVec 32 := Scalar.muli v4206 c256_i32_5092
  v7537
def k0_mult31 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5147 : BitVec 32 := 256#32
  let v7616 : BitVec 32 := Scalar.muli v4206 c256_i32_5147
  v7616
def k0_mult32 (i : grid0.Coords) (k0_t2 : Fin (k0_t2_loop i).trips) : BitVec 32 :=
  let c0_i32_245 : BitVec 32 := 0#32
  let arg1 : BitVec 32 := BitVec.ofNat 32 (i 1).val
  let c4_i32 : BitVec 32 := 4#32
  let v548 : BitVec 32 := Scalar.muli arg1 c4_i32
  let c0_i32_238 : BitVec 32 := 0#32
  let v550 : BitVec 1 := Scalar.cmpi .sgt v548 c0_i32_238
  let v551 : BitVec 32 := Scalar.extui v550
  let c0_i32_239 : BitVec 32 := 0#32
  let v552 : BitVec 1 := Scalar.cmpi .slt v548 c0_i32_239
  let v553 : BitVec 32 := Scalar.extui v552
  let v554 : BitVec 32 := Scalar.subi v551 v553
  let c4_i32_237 : BitVec 32 := 4#32
  let c0_i32_240 : BitVec 32 := 0#32
  let v555 : BitVec 1 := Scalar.cmpi .sgt c4_i32_237 c0_i32_240
  let v556 : BitVec 32 := Scalar.extui v555
  let c0_i32_241 : BitVec 32 := 0#32
  let v557 : BitVec 1 := Scalar.cmpi .slt c4_i32_237 c0_i32_241
  let v558 : BitVec 32 := Scalar.extui v557
  let v559 : BitVec 32 := Scalar.subi v556 v558
  let v560 : BitVec 1 := Scalar.cmpi .ne v554 v559
  let v561 : BitVec 32 := Scalar.remsi v548 c4_i32_237
  let c0_i32_242 : BitVec 32 := 0#32
  let v562 : BitVec 1 := Scalar.cmpi .ne v561 c0_i32_242
  let v563 : BitVec 1 := Scalar.andi v560 v562
  let v549 : BitVec 32 := Scalar.divsi v548 c4_i32_237
  let c1_i32_243 : BitVec 32 := 1#32
  let v564 : BitVec 32 := Scalar.subi v549 c1_i32_243
  let v565 : BitVec 32 := Scalar.select v563 v564 v549
  let v566 : BitVec 32 := Scalar.subi v565 c0_i32_245
  let c1_i32_246 : BitVec 32 := 1#32
  let v568 : BitVec 32 := Scalar.divsi v566 c1_i32_246
  let v569 : BitVec 32 := Scalar.muli v568 c1_i32_246
  let v570 : BitVec 32 := Scalar.addi c0_i32_245 v569
  let c1_i32_248 : BitVec 32 := 1#32
  let arg13 : BitVec 32 := Scf.iv v570 c1_i32_248 k0_t2
  let c4_i32_2649 : BitVec 32 := 4#32
  let v4205 : BitVec 32 := Scalar.muli arg13 c4_i32_2649
  let c3_i32_2650 : BitVec 32 := 3#32
  let v4206 : BitVec 32 := Scalar.addi v4205 c3_i32_2650
  let c256_i32_5202 : BitVec 32 := 256#32
  let v7695 : BitVec 32 := Scalar.muli v4206 c256_i32_5202
  v7695
def k0_mult33 (i : grid0.Coords) : BitVec 32 :=
  let arg1 : BitVec 32 := BitVec.ofNat 32 (i 1).val
  let c4_i32 : BitVec 32 := 4#32
  let v548 : BitVec 32 := Scalar.muli arg1 c4_i32
  let c0_i32_249 : BitVec 32 := 0#32
  let v571 : BitVec 32 := Scalar.addi v548 c0_i32_249
  let c256_i32 : BitVec 32 := 256#32
  let v575 : BitVec 32 := Scalar.muli v571 c256_i32
  v575
def k0_off27 (i : grid0.Coords) (c0_i32_249 : BitVec 32) : Fin 2 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let c256_i32 : BitVec 32 := 256#32
  let v575 : BitVec 32 := Scalar.muli v571 c256_i32
  let v576 : BitVec 32 := v575
  let v577 : Index := Scalar.indexCast v576
  let c0_251 : Index := 0#32
  ![v577.toNat, 0]
def k0_off28 (i : grid0.Coords) (c0_i32_249 : BitVec 32) : Fin 2 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let c256_i32 : BitVec 32 := 256#32
  let v575 : BitVec 32 := Scalar.muli v571 c256_i32
  let v576 : BitVec 32 := v575
  let v580 : Index := Scalar.indexCast v576
  let c0_252 : Index := 0#32
  ![v580.toNat, 0]
def k0_mult34 (i : grid0.Coords) : BitVec 32 :=
  let arg1 : BitVec 32 := BitVec.ofNat 32 (i 1).val
  let c4_i32 : BitVec 32 := 4#32
  let v548 : BitVec 32 := Scalar.muli arg1 c4_i32
  let c0_i32_249 : BitVec 32 := 0#32
  let v571 : BitVec 32 := Scalar.addi v548 c0_i32_249
  let c256_i32_261 : BitVec 32 := 256#32
  let v590 : BitVec 32 := Scalar.muli v571 c256_i32_261
  v590
def k0_off29 (i : grid0.Coords) (c0_i32_249 : BitVec 32) : Fin 2 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let c256_i32_261 : BitVec 32 := 256#32
  let v590 : BitVec 32 := Scalar.muli v571 c256_i32_261
  let v591 : BitVec 32 := v590
  let v592 : Index := Scalar.indexCast v591
  let c128_262 : Index := 128#32
  ![v592.toNat, 128]
def k0_mult35 (i : grid0.Coords) : BitVec 32 :=
  let arg1 : BitVec 32 := BitVec.ofNat 32 (i 1).val
  let c4_i32 : BitVec 32 := 4#32
  let v548 : BitVec 32 := Scalar.muli arg1 c4_i32
  let c0_i32_249 : BitVec 32 := 0#32
  let v571 : BitVec 32 := Scalar.addi v548 c0_i32_249
  let c256_i32_272 : BitVec 32 := 256#32
  let v605 : BitVec 32 := Scalar.muli v571 c256_i32_272
  v605
def k0_off30 (i : grid0.Coords) (c0_i32_249 : BitVec 32) : Fin 2 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let c256_i32_272 : BitVec 32 := 256#32
  let v605 : BitVec 32 := Scalar.muli v571 c256_i32_272
  let v606 : BitVec 32 := v605
  let v607 : Index := Scalar.indexCast v606
  let c256_273 : Index := 256#32
  ![v607.toNat, 256]
def k0_mult36 (i : grid0.Coords) : BitVec 32 :=
  let arg1 : BitVec 32 := BitVec.ofNat 32 (i 1).val
  let c4_i32 : BitVec 32 := 4#32
  let v548 : BitVec 32 := Scalar.muli arg1 c4_i32
  let c0_i32_249 : BitVec 32 := 0#32
  let v571 : BitVec 32 := Scalar.addi v548 c0_i32_249
  let c256_i32_294 : BitVec 32 := 256#32
  let v635 : BitVec 32 := Scalar.muli v571 c256_i32_294
  v635
def k0_off31 (i : grid0.Coords) (c0_i32_249 : BitVec 32) : Fin 2 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let c256_i32_294 : BitVec 32 := 256#32
  let v635 : BitVec 32 := Scalar.muli v571 c256_i32_294
  let v636 : BitVec 32 := v635
  let v637 : Index := Scalar.indexCast v636
  let c384_295 : Index := 384#32
  ![v637.toNat, 384]
def k0_off32 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v704 : Index := Scalar.indexCast v571
  let c0_343 : Index := 0#32
  let c0_344 : Index := 0#32
  ![v704.toNat, 0, 0]
def k0_off33 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v741 : Index := Scalar.indexCast v571
  let c64 : Index := 64#32
  let c0_369 : Index := 0#32
  ![v741.toNat, 64, 0]
def k0_off34 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v778 : Index := Scalar.indexCast v571
  let c128_394 : Index := 128#32
  let c0_395 : Index := 0#32
  ![v778.toNat, 128, 0]
def k0_off35 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v815 : Index := Scalar.indexCast v571
  let c192 : Index := 192#32
  let c0_420 : Index := 0#32
  ![v815.toNat, 192, 0]
def k0_off36 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v852 : Index := Scalar.indexCast v571
  let c256_445 : Index := 256#32
  let c0_446 : Index := 0#32
  ![v852.toNat, 256, 0]
def k0_off37 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v887 : Index := Scalar.indexCast v571
  let c320 : Index := 320#32
  let c0_471 : Index := 0#32
  ![v887.toNat, 320, 0]
def k0_off38 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v922 : Index := Scalar.indexCast v571
  let c384_496 : Index := 384#32
  let c0_497 : Index := 0#32
  ![v922.toNat, 384, 0]
def k0_off39 (i : grid0.Coords) (c0_i32_249 : BitVec 32) : Fin 3 → Nat :=
  let arg1 : BitVec 32 := BitVec.ofNat 32 (i 1).val
  let c4_i32 : BitVec 32 := 4#32
  let v548 : BitVec 32 := Scalar.muli arg1 c4_i32
  let v571 : BitVec 32 := Scalar.addi v548 c0_i32_249
  let v957 : Index := Scalar.indexCast v571
  let c448 : Index := 448#32
  let c0_521 : Index := 0#32
  ![v957.toNat, 448, 0]
def k0_mult37 (i : grid0.Coords) : BitVec 32 :=
  let arg1 : BitVec 32 := BitVec.ofNat 32 (i 1).val
  let c4_i32 : BitVec 32 := 4#32
  let v548 : BitVec 32 := Scalar.muli arg1 c4_i32
  let c1_i32_250 : BitVec 32 := 1#32
  let v572 : BitVec 32 := Scalar.addi v548 c1_i32_250
  let c256_i32_932 : BitVec 32 := 256#32
  let v1530 : BitVec 32 := Scalar.muli v572 c256_i32_932
  v1530
def k0_mult38 (i : grid0.Coords) : BitVec 32 :=
  let arg1 : BitVec 32 := BitVec.ofNat 32 (i 1).val
  let c4_i32 : BitVec 32 := 4#32
  let v548 : BitVec 32 := Scalar.muli arg1 c4_i32
  let c1_i32_250 : BitVec 32 := 1#32
  let v572 : BitVec 32 := Scalar.addi v548 c1_i32_250
  let c256_i32_985 : BitVec 32 := 256#32
  let v1609 : BitVec 32 := Scalar.muli v572 c256_i32_985
  v1609
def k0_mult39 (i : grid0.Coords) : BitVec 32 :=
  let arg1 : BitVec 32 := BitVec.ofNat 32 (i 1).val
  let c4_i32 : BitVec 32 := 4#32
  let v548 : BitVec 32 := Scalar.muli arg1 c4_i32
  let c1_i32_250 : BitVec 32 := 1#32
  let v572 : BitVec 32 := Scalar.addi v548 c1_i32_250
  let c256_i32_1038 : BitVec 32 := 256#32
  let v1688 : BitVec 32 := Scalar.muli v572 c256_i32_1038
  v1688
def k0_mult40 (i : grid0.Coords) : BitVec 32 :=
  let arg1 : BitVec 32 := BitVec.ofNat 32 (i 1).val
  let c4_i32 : BitVec 32 := 4#32
  let v548 : BitVec 32 := Scalar.muli arg1 c4_i32
  let c1_i32_250 : BitVec 32 := 1#32
  let v572 : BitVec 32 := Scalar.addi v548 c1_i32_250
  let c256_i32_1093 : BitVec 32 := 256#32
  let v1769 : BitVec 32 := Scalar.muli v572 c256_i32_1093
  v1769
def k0_mult41 (i : grid0.Coords) : BitVec 32 :=
  let arg1 : BitVec 32 := BitVec.ofNat 32 (i 1).val
  let c4_i32 : BitVec 32 := 4#32
  let v548 : BitVec 32 := Scalar.muli arg1 c4_i32
  let c2_i32 : BitVec 32 := 2#32
  let v573 : BitVec 32 := Scalar.addi v548 c2_i32
  let c256_i32_1571 : BitVec 32 := 256#32
  let v2422 : BitVec 32 := Scalar.muli v573 c256_i32_1571
  v2422
def k0_mult42 (i : grid0.Coords) : BitVec 32 :=
  let arg1 : BitVec 32 := BitVec.ofNat 32 (i 1).val
  let c4_i32 : BitVec 32 := 4#32
  let v548 : BitVec 32 := Scalar.muli arg1 c4_i32
  let c2_i32 : BitVec 32 := 2#32
  let v573 : BitVec 32 := Scalar.addi v548 c2_i32
  let c256_i32_1626 : BitVec 32 := 256#32
  let v2501 : BitVec 32 := Scalar.muli v573 c256_i32_1626
  v2501
def k0_mult43 (i : grid0.Coords) : BitVec 32 :=
  let arg1 : BitVec 32 := BitVec.ofNat 32 (i 1).val
  let c4_i32 : BitVec 32 := 4#32
  let v548 : BitVec 32 := Scalar.muli arg1 c4_i32
  let c2_i32 : BitVec 32 := 2#32
  let v573 : BitVec 32 := Scalar.addi v548 c2_i32
  let c256_i32_1681 : BitVec 32 := 256#32
  let v2580 : BitVec 32 := Scalar.muli v573 c256_i32_1681
  v2580
def k0_mult44 (i : grid0.Coords) : BitVec 32 :=
  let arg1 : BitVec 32 := BitVec.ofNat 32 (i 1).val
  let c4_i32 : BitVec 32 := 4#32
  let v548 : BitVec 32 := Scalar.muli arg1 c4_i32
  let c2_i32 : BitVec 32 := 2#32
  let v573 : BitVec 32 := Scalar.addi v548 c2_i32
  let c256_i32_1737 : BitVec 32 := 256#32
  let v2661 : BitVec 32 := Scalar.muli v573 c256_i32_1737
  v2661
def k0_mult45 (i : grid0.Coords) : BitVec 32 :=
  let arg1 : BitVec 32 := BitVec.ofNat 32 (i 1).val
  let c4_i32 : BitVec 32 := 4#32
  let v548 : BitVec 32 := Scalar.muli arg1 c4_i32
  let c3_i32 : BitVec 32 := 3#32
  let v574 : BitVec 32 := Scalar.addi v548 c3_i32
  let c256_i32_2007 : BitVec 32 := 256#32
  let v3034 : BitVec 32 := Scalar.muli v574 c256_i32_2007
  v3034
def k0_mult46 (i : grid0.Coords) : BitVec 32 :=
  let arg1 : BitVec 32 := BitVec.ofNat 32 (i 1).val
  let c4_i32 : BitVec 32 := 4#32
  let v548 : BitVec 32 := Scalar.muli arg1 c4_i32
  let c3_i32 : BitVec 32 := 3#32
  let v574 : BitVec 32 := Scalar.addi v548 c3_i32
  let c256_i32_2062 : BitVec 32 := 256#32
  let v3113 : BitVec 32 := Scalar.muli v574 c256_i32_2062
  v3113
def k0_mult47 (i : grid0.Coords) : BitVec 32 :=
  let arg1 : BitVec 32 := BitVec.ofNat 32 (i 1).val
  let c4_i32 : BitVec 32 := 4#32
  let v548 : BitVec 32 := Scalar.muli arg1 c4_i32
  let c3_i32 : BitVec 32 := 3#32
  let v574 : BitVec 32 := Scalar.addi v548 c3_i32
  let c256_i32_2117 : BitVec 32 := 256#32
  let v3192 : BitVec 32 := Scalar.muli v574 c256_i32_2117
  v3192
def k0_mult48 (i : grid0.Coords) : BitVec 32 :=
  let arg1 : BitVec 32 := BitVec.ofNat 32 (i 1).val
  let c4_i32 : BitVec 32 := 4#32
  let v548 : BitVec 32 := Scalar.muli arg1 c4_i32
  let c3_i32 : BitVec 32 := 3#32
  let v574 : BitVec 32 := Scalar.addi v548 c3_i32
  let c256_i32_2173 : BitVec 32 := 256#32
  let v3273 : BitVec 32 := Scalar.muli v574 c256_i32_2173
  v3273
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S8x4096x8 : Shape := ⟨3, ![8, 4096, 8]⟩
abbrev S8 : Shape := ⟨1, ![8]⟩
abbrev S512 : Shape := ⟨1, ![512]⟩
abbrev S8x4096x8x64 : Shape := ⟨4, ![8, 4096, 8, 64]⟩
abbrev S8x8x4096x64 : Shape := ⟨4, ![8, 8, 4096, 64]⟩
abbrev S1x1x8 : Shape := ⟨3, ![1, 1, 8]⟩
abbrev S_ : Shape := ⟨0, ![]⟩
abbrev S8x8x4096 : Shape := ⟨3, ![8, 8, 4096]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x8x1 : Shape := ⟨4, ![8, 4096, 8, 1]⟩
abbrev S32768x512 : Shape := ⟨2, ![32768, 512]⟩
abbrev S1x512 : Shape := ⟨2, ![1, 512]⟩

abbrev nBuf : Space → Nat
  | .hbm => 90
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x8, .f32⟩
  | .hbm, ⟨4, _⟩ => ⟨S8, .f32⟩
  | .hbm, ⟨5, _⟩ => ⟨S512, .f32⟩
  | .hbm, ⟨6, _⟩ => ⟨S8x4096x8x64, .f32⟩
  | .hbm, ⟨7, _⟩ => ⟨S8x8x4096x64, .f32⟩
  | .hbm, ⟨8, _⟩ => ⟨S8x4096x8x64, .f32⟩
  | .hbm, ⟨9, _⟩ => ⟨S8x8x4096x64, .f32⟩
  | .hbm, ⟨10, _⟩ => ⟨S8x4096x8x64, .f32⟩
  | .hbm, ⟨11, _⟩ => ⟨S8x8x4096x64, .f32⟩
  | .hbm, ⟨12, _⟩ => ⟨S1x1x8, .f32⟩
  | .hbm, ⟨13, _⟩ => ⟨S8x4096x8, .f32⟩
  | .hbm, ⟨14, _⟩ => ⟨S8x4096x8, .f32⟩
  | .hbm, ⟨15, _⟩ => ⟨S8x4096x8, .f32⟩
  | .hbm, ⟨16, _⟩ => ⟨S_, .f32⟩
  | .hbm, ⟨17, _⟩ => ⟨S8x4096x8, .f32⟩
  | .hbm, ⟨18, _⟩ => ⟨S8x4096x8, .f32⟩
  | .hbm, ⟨19, _⟩ => ⟨S8x4096x8, .f32⟩
  | .hbm, ⟨20, _⟩ => ⟨S8x4096x8, .f32⟩
  | .hbm, ⟨21, _⟩ => ⟨S8x4096x8, .i1⟩
  | .hbm, ⟨22, _⟩ => ⟨S8x4096x8, .f32⟩
  | .hbm, ⟨23, _⟩ => ⟨S8x4096x8, .f32⟩
  | .hbm, ⟨24, _⟩ => ⟨S8x4096x8, .f32⟩
  | .hbm, ⟨25, _⟩ => ⟨S8x4096x8, .f32⟩
  | .hbm, ⟨26, _⟩ => ⟨S8x4096x8, .f32⟩
  | .hbm, ⟨27, _⟩ => ⟨S8x4096x8, .f32⟩
  | .hbm, ⟨28, _⟩ => ⟨S8x4096x8, .f32⟩
  | .hbm, ⟨29, _⟩ => ⟨S8x4096x8, .f32⟩
  | .hbm, ⟨30, _⟩ => ⟨S8x4096x8, .f32⟩
  | .hbm, ⟨31, _⟩ => ⟨S_, .f32⟩
  | .hbm, ⟨32, _⟩ => ⟨S_, .f32⟩
  | .hbm, ⟨33, _⟩ => ⟨S8x4096x8, .f32⟩
  | .hbm, ⟨34, _⟩ => ⟨S8x8x4096, .f32⟩
  | .hbm, ⟨35, _⟩ => ⟨S8x8x4096x4096, .f32⟩
  | .hbm, ⟨36, _⟩ => ⟨S_, .f32⟩
  | .hbm, ⟨37, _⟩ => ⟨S8x8x4096x4096, .f32⟩
  | .hbm, ⟨38, _⟩ => ⟨S8x8x4096x4096, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x1x4096, .f32⟩
  | .hbm, ⟨43, _⟩ => ⟨S8x8x4096x4096, .f32⟩
  | .hbm, ⟨44, _⟩ => ⟨S8x8x4096x4096, .f32⟩
  | .hbm, ⟨45, _⟩ => ⟨S4096, .i32⟩
  | .hbm, ⟨46, _⟩ => ⟨S1x4096, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .f32⟩
  | .hbm, ⟨52, _⟩ => ⟨S_, .f32⟩
  | .hbm, ⟨53, _⟩ => ⟨S8x8x4096x4096, .i1⟩
  | .hbm, ⟨54, _⟩ => ⟨S8x8x4096x4096, .f32⟩
  | .hbm, ⟨55, _⟩ => ⟨S8x8x4096x4096, .f32⟩
  | .hbm, ⟨56, _⟩ => ⟨S_, .f32⟩
  | .hbm, ⟨57, _⟩ => ⟨S8x8x4096, .f32⟩
  | .hbm, ⟨58, _⟩ => ⟨S_, .f32⟩
  | .hbm, ⟨59, _⟩ => ⟨S8x8x4096, .f32⟩
  | .hbm, ⟨60, _⟩ => ⟨S8x8x4096, .f32⟩
  | .hbm, ⟨61, _⟩ => ⟨S8x8x4096x1, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S_, .f32⟩
  | .hbm, ⟨66, _⟩ => ⟨S8x8x4096, .f32⟩
  | .hbm, ⟨67, _⟩ => ⟨S8x8x4096x1, .f32⟩
  | .hbm, ⟨68, _⟩ => ⟨S8x8x4096x4096, .f32⟩
  | .hbm, ⟨69, _⟩ => ⟨S8x8x4096x4096, .f32⟩
  | .hbm, ⟨70, _⟩ => ⟨S8x8x4096x64, .f32⟩
  | .hbm, ⟨71, _⟩ => ⟨S8x4096x8x64, .f32⟩
  | .hbm, ⟨72, _⟩ => ⟨S8x4096x8x64, .f32⟩
  | .hbm, ⟨73, _⟩ => ⟨S_, .f32⟩
  | .hbm, ⟨74, _⟩ => ⟨S8x4096x8, .f32⟩
  | .hbm, ⟨75, _⟩ => ⟨S8x4096x8x1, .f32⟩
  | .hbm, ⟨76, _⟩ => ⟨S_, .f32⟩
  | .hbm, ⟨77, _⟩ => ⟨S8x4096x8x1, .f32⟩
  | .hbm, ⟨78, _⟩ => ⟨S8x4096x8x1, .f32⟩
  | .hbm, ⟨79, _⟩ => ⟨S_, .f32⟩
  | .hbm, ⟨80, _⟩ => ⟨S8x4096x8x1, .f32⟩
  | .hbm, ⟨81, _⟩ => ⟨S8x4096x8x1, .f32⟩
  | .hbm, ⟨82, _⟩ => ⟨S8x4096x8x1, .f32⟩
  | .hbm, ⟨83, _⟩ => ⟨S8x4096x8x64, .f32⟩
  | .hbm, ⟨84, _⟩ => ⟨S8x4096x8x64, .f32⟩
  | .hbm, ⟨85, _⟩ => ⟨S32768x512, .f32⟩
  | .hbm, ⟨86, _⟩ => ⟨S1x512, .f32⟩
  | .hbm, ⟨87, _⟩ => ⟨S32768x512, .f32⟩
  | .hbm, ⟨88, _⟩ => ⟨S32768x512, .f32⟩
  | .hbm, ⟨89, _⟩ => ⟨S32768x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v9 : Ref sig .tc := ⟨.hbm, 30, rfl⟩
abbrev main_call1_call0_cst : Ref sig .tc := ⟨.hbm, 31, rfl⟩
abbrev main_call1_call0_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v27 : Ref sig .tc := ⟨.hbm, 55, rfl⟩
abbrev main_cst_1 : Ref sig .tc := ⟨.hbm, 56, rfl⟩
abbrev main_v28 : Ref sig .tc := ⟨.hbm, 57, rfl⟩
abbrev main_cst_2 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512x2816 : Shape := ⟨2, ![512, 2816]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 21
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .f32⟩
  | .hbm, ⟨10, _⟩ => ⟨S32768x512, .f32⟩
  | .hbm, ⟨11, _⟩ => ⟨S32768x512, .bf16⟩
  | .hbm, ⟨12, _⟩ => ⟨S32768x512, .f32⟩
  | .hbm, ⟨13, _⟩ => ⟨S32768x512, .bf16⟩
  | .hbm, ⟨14, _⟩ => ⟨S1024x1024, .bf16⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x2568 : Shape := ⟨2, ![1024, 2568]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S32768x1024 : Shape := ⟨2, ![32768, 1024]⟩
abbrev S1024x512 : Shape := ⟨2, ![1024, 512]⟩
abbrev S1024x8 : Shape := ⟨2, ![1024, 8]⟩
abbrev S_ : Shape := ⟨0, ![]⟩
abbrev S1024x16 : Shape := ⟨2, ![1024, 16]⟩
abbrev S1024x1040 : Shape := ⟨2, ![1024, 1040]⟩
abbrev S1040x1024 : Shape := ⟨2, ![1040, 1024]⟩
abbrev S16 : Shape := ⟨1, ![16]⟩
abbrev S16x1 : Shape := ⟨2, ![16, 1]⟩
abbrev S4x256x128 : Shape := ⟨3, ![4, 256, 128]⟩
abbrev S128x8 : Shape := ⟨2, ![128, 8]⟩
abbrev S128x8x64 : Shape := ⟨3, ![128, 8, 64]⟩
abbrev S128x512 : Shape := ⟨2, ![128, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x512 : Shape := ⟨2, ![1, 512]⟩
abbrev S32768x512 : Shape := ⟨2, ![32768, 512]⟩
abbrev S32768x128 : Shape := ⟨2, ![32768, 128]⟩
abbrev S64x512x512 : Shape := ⟨3, ![64, 512, 512]⟩
abbrev S128x512x256 : Shape := ⟨3, ![128, 512, 256]⟩
abbrev S512x1024 : Shape := ⟨2, ![512, 1024]⟩
abbrev S16x2816 : Shape := ⟨2, ![16, 2816]⟩
abbrev S16x1024 : Shape := ⟨2, ![16, 1024]⟩
abbrev S512x512 : Shape := ⟨2, ![512, 512]⟩
abbrev S512x128 : Shape := ⟨2, ![512, 128]⟩
abbrev S1x512x512 : Shape := ⟨3, ![1, 512, 512]⟩
abbrev S2x512x256 : Shape := ⟨3, ![2, 512, 256]⟩
abbrev S512x2816 : Shape := ⟨2, ![512, 2816]⟩
abbrev S16x512 : Shape := ⟨2, ![16, 512]⟩
abbrev S256x128 : Shape := ⟨2, ![256, 128]⟩
abbrev S128x128 : Shape := ⟨2, ![128, 128]⟩
abbrev S16x256 : Shape := ⟨2, ![16, 256]⟩
abbrev S256x1024 : Shape := ⟨2, ![256, 1024]⟩
abbrev S1024x256 : Shape := ⟨2, ![1024, 256]⟩
abbrev S256x2816 : Shape := ⟨2, ![256, 2816]⟩
abbrev S256x512 : Shape := ⟨2, ![256, 512]⟩
abbrev S8x256 : Shape := ⟨2, ![8, 256]⟩
abbrev S104x256 : Shape := ⟨2, ![104, 256]⟩
abbrev S128x256 : Shape := ⟨2, ![128, 256]⟩
abbrev S1x256x128 : Shape := ⟨3, ![1, 256, 128]⟩
abbrev S1040x256 : Shape := ⟨2, ![1040, 256]⟩
abbrev S512x256 : Shape := ⟨2, ![512, 256]⟩
abbrev S1x512x256 : Shape := ⟨3, ![1, 512, 256]⟩

abbrev nBuf : Space → Nat
  | .hbm => 108
  | .vmem => 47
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2568, .f32⟩
  | .hbm, ⟨7, _⟩ => ⟨S8, .f32⟩
  | .hbm, ⟨8, _⟩ => ⟨S512, .f32⟩
  | .hbm, ⟨9, _⟩ => ⟨S512, .f32⟩
  | .hbm, ⟨10, _⟩ => ⟨S8x128x128, .f32⟩
  | .hbm, ⟨11, _⟩ => ⟨S8x128, .f32⟩
  | .hbm, ⟨12, _⟩ => ⟨S1024, .f32⟩
  | .hbm, ⟨13, _⟩ => ⟨S1024x1024, .f32⟩
  | .hbm, ⟨14, _⟩ => ⟨S1024x2816, .f32⟩
  | .hbm, ⟨15, _⟩ => ⟨S1024x2816, .f32⟩
  | .hbm, ⟨16, _⟩ => ⟨S32768x1024, .f32⟩
  | .hbm, ⟨17, _⟩ => ⟨S1024x512, .f32⟩
  | .hbm, ⟨18, _⟩ => ⟨S1024x512, .bf16⟩
  | .hbm, ⟨19, _⟩ => ⟨S1024x512, .f32⟩
  | .hbm, ⟨20, _⟩ => ⟨S1024x512, .bf16⟩
  | .hbm, ⟨21, _⟩ => ⟨S1024x512, .f32⟩
  | .hbm, ⟨22, _⟩ => ⟨S1024x512, .f32⟩
  | .hbm, ⟨23, _⟩ => ⟨S1024x512, .bf16⟩
  | .hbm, ⟨24, _⟩ => ⟨S1024x512, .f32⟩
  | .hbm, ⟨25, _⟩ => ⟨S1024x8, .f32⟩
  | .hbm, ⟨26, _⟩ => ⟨S_, .i32⟩
  | .hbm, ⟨27, _⟩ => ⟨S_, .f32⟩
  | .hbm, ⟨28, _⟩ => ⟨S1024x16, .f32⟩
  | .hbm, ⟨29, _⟩ => ⟨S1024x1040, .f32⟩
  | .hbm, ⟨30, _⟩ => ⟨S1040x1024, .f32⟩
  | .hbm, ⟨31, _⟩ => ⟨S1040x1024, .bf16⟩
  | .hbm, ⟨32, _⟩ => ⟨S_, .i32⟩
  | .hbm, ⟨33, _⟩ => ⟨S_, .f32⟩
  | .hbm, ⟨34, _⟩ => ⟨S16, .f32⟩
  | .hbm, ⟨35, _⟩ => ⟨S16x1, .f32⟩
  | .hbm, ⟨36, _⟩ => ⟨S4x256x128, .f32⟩
  | .hbm, ⟨37, _⟩ => ⟨S4x256x128, .bf16⟩
  | .hbm, ⟨38, _⟩ => ⟨S128x8, .f32⟩
  | .hbm, ⟨39, _⟩ => ⟨S128x8x64, .f32⟩
  | .hbm, ⟨40, _⟩ => ⟨S128x512, .f32⟩
  | .hbm, ⟨41, _⟩ => ⟨S256, .i32⟩
  | .hbm, ⟨42, _⟩ => ⟨S256x1, .i32⟩
  | .hbm, ⟨43, _⟩ => ⟨S_, .i32⟩
  | .hbm, ⟨44, _⟩ => ⟨S_, .i32⟩
  | .hbm, ⟨45, _⟩ => ⟨S256x1, .i32⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i1⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S256x1, .i32⟩
  | .hbm, ⟨55, _⟩ => ⟨S256x1, .i1⟩
  | .hbm, ⟨56, _⟩ => ⟨S256x1, .i1⟩
  | .hbm, ⟨57, _⟩ => ⟨S_, .i32⟩
  | .hbm, ⟨58, _⟩ => ⟨S256x1, .i32⟩
  | .hbm, ⟨59, _⟩ => ⟨S256x1, .i32⟩
  | .hbm, ⟨60, _⟩ => ⟨S256x1, .i32⟩
  | .hbm, ⟨61, _⟩ => ⟨S256, .i32⟩
  | .hbm, ⟨62, _⟩ => ⟨S1x256, .i32⟩
  | .hbm, ⟨63, _⟩ => ⟨S_, .i32⟩
  | .hbm, ⟨64, _⟩ => ⟨S_, .i32⟩
  | .hbm, ⟨65, _⟩ => ⟨S1x256, .i32⟩
  | .hbm, ⟨66, _⟩ => ⟨S1x256, .i32⟩
  | .hbm, ⟨67, _⟩ => ⟨S1x256, .i32⟩
  | .hbm, ⟨68, _⟩ => ⟨S_, .i32⟩
  | .hbm, ⟨69, _⟩ => ⟨S1x256, .i32⟩
  | .hbm, ⟨70, _⟩ => ⟨S1x256, .i1⟩
  | .hbm, ⟨71, _⟩ => ⟨S1x256, .i32⟩
  | .hbm, ⟨72, _⟩ => ⟨S1x256, .i32⟩
  | .hbm, ⟨73, _⟩ => ⟨S_, .i32⟩
  | .hbm, ⟨74, _⟩ => ⟨S1x256, .i32⟩
  | .hbm, ⟨75, _⟩ => ⟨S1x256, .i1⟩
  | .hbm, ⟨76, _⟩ => ⟨S1x256, .i1⟩
  | .hbm, ⟨77, _⟩ => ⟨S_, .i32⟩
  | .hbm, ⟨78, _⟩ => ⟨S1x256, .i32⟩
  | .hbm, ⟨79, _⟩ => ⟨S1x256, .i32⟩
  | .hbm, ⟨80, _⟩ => ⟨S1x256, .i32⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S_, .f32⟩
  | .hbm, ⟨85, _⟩ => ⟨S_, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S256x256, .bf16⟩
  | .hbm, ⟨90, _⟩ => ⟨S1x1024, .f32⟩
  | .hbm, ⟨91, _⟩ => ⟨S1x1024, .f32⟩
  | .hbm, ⟨92, _⟩ => ⟨S1024x2816, .bf16⟩
  | .hbm, ⟨93, _⟩ => ⟨S1024x2816, .bf16⟩
  | .hbm, ⟨94, _⟩ => ⟨S2816x1024, .bf16⟩
  | .hbm, ⟨95, _⟩ => ⟨S1x1024, .f32⟩
  | .hbm, ⟨96, _⟩ => ⟨S1x512, .f32⟩
  | .hbm, ⟨97, _⟩ => ⟨S1x512, .f32⟩
  | .hbm, ⟨98, _⟩ => ⟨S1x512, .f32⟩
  | .hbm, ⟨99, _⟩ => ⟨S32768x1024, .f32⟩
  | .hbm, ⟨100, _⟩ => ⟨S32768x512, .bf16⟩
  | .hbm, ⟨101, _⟩ => ⟨S32768x512, .bf16⟩
  | .hbm, ⟨102, _⟩ => ⟨S32768x128, .bf16⟩
  | .hbm, ⟨103, _⟩ => ⟨S64x512x512, .bf16⟩
  | .hbm, ⟨104, _⟩ => ⟨S128x512x256, .bf16⟩
  | .hbm, ⟨105, _⟩ => ⟨S1024x2816, .bf16⟩
  | .hbm, ⟨106, _⟩ => ⟨S1024x2816, .bf16⟩
  | .hbm, ⟨107, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1040x1024, .bf16⟩
  | .local _ .vmem, ⟨11, _⟩ => ⟨S16x1, .f32⟩
  | .local _ .vmem, ⟨12, _⟩ => ⟨S1x512, .f32⟩
  | .local _ .vmem, ⟨13, _⟩ => ⟨S1x512, .f32⟩
  | .local _ .vmem, ⟨14, _⟩ => ⟨S4x256x128, .bf16⟩
  | .local _ .vmem, ⟨15, _⟩ => ⟨S128x512, .f32⟩
  | .local _ .vmem, ⟨16, _⟩ => ⟨S1x512, .f32⟩
  | .local _ .vmem, ⟨17, _⟩ => ⟨S256x256, .bf16⟩
  | .local _ .vmem, ⟨18, _⟩ => ⟨S16x2816, .f32⟩
  | .local _ .vmem, ⟨19, _⟩ => ⟨S16x2816, .f32⟩
  | .local _ .vmem, ⟨20, _⟩ => ⟨S16x2816, .f32⟩
  | .local _ .vmem, ⟨21, _⟩ => ⟨S16x2816, .f32⟩
  | .local _ .vmem, ⟨22, _⟩ => ⟨S16x1024, .f32⟩
  | .local _ .vmem, ⟨23, _⟩ => ⟨S16x1024, .f32⟩
  | .local _ .vmem, ⟨24, _⟩ => ⟨S512x1024, .f32⟩
  | .local _ .vmem, ⟨25, _⟩ => ⟨S512x1024, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x128, .bf16⟩
  | .local _ .vmem, ⟨31, _⟩ => ⟨S512x128, .bf16⟩
  | .local _ .vmem, ⟨32, _⟩ => ⟨S1x512x512, .bf16⟩
  | .local _ .vmem, ⟨33, _⟩ => ⟨S1x512x512, .bf16⟩
  | .local _ .vmem, ⟨34, _⟩ => ⟨S2x512x256, .bf16⟩
  | .local _ .vmem, ⟨35, _⟩ => ⟨S2x512x256, .bf16⟩
  | .local _ .vmem, ⟨36, _⟩ => ⟨S16x2816, .bf16⟩
  | .local _ .vmem, ⟨37, _⟩ => ⟨S16x2816, .bf16⟩
  | .local _ .vmem, ⟨38, _⟩ => ⟨S16x2816, .bf16⟩
  | .local _ .vmem, ⟨39, _⟩ => ⟨S16x2816, .bf16⟩
  | .local _ .vmem, ⟨40, _⟩ => ⟨S16x1024, .bf16⟩
  | .local _ .vmem, ⟨41, _⟩ => ⟨S16x1024, .bf16⟩
  | .local _ .vmem, ⟨42, _⟩ => ⟨S512x2816, .bf16⟩
  | .local _ .vmem, ⟨43, _⟩ => ⟨S512x512, .f32⟩
  | .local _ .vmem, ⟨44, _⟩ => ⟨S16x1, .f32⟩
  | .local _ .vmem, ⟨45, _⟩ => ⟨S512x1024, .f32⟩
  | .local _ .vmem, ⟨46, _⟩ => ⟨S16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_2 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_cst : Ref sig .tc := ⟨.hbm, 84, rfl⟩
abbrev main_cst_3 : Ref sig .tc := ⟨.hbm, 85, rfl⟩
abbrev main_call4_v0 : Ref sig .tc := ⟨.hbm, 86, rfl⟩
abbrev main_call4_v1 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41_0 : Ref sig .tc := ⟨.hbm, 99, rfl⟩
abbrev main_v41_1 : Ref sig .tc := ⟨.hbm, 100, rfl⟩
abbrev main_v41_2 : Ref sig .tc := ⟨.hbm, 101, rfl⟩
abbrev main_v41_3 : Ref sig .tc := ⟨.hbm, 102, rfl⟩
abbrev main_v41_4 : Ref sig .tc := ⟨.hbm, 103, rfl⟩
abbrev main_v41_5 : Ref sig .tc := ⟨.hbm, 104, rfl⟩
abbrev main_v41_6 : Ref sig .tc := ⟨.hbm, 105, rfl⟩
abbrev main_v41_7 : Ref sig .tc := ⟨.hbm, 106, rfl⟩
abbrev main_v41_8 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_19 : BitVec 32 := 64#32
  let v69 : BitVec 1 := Scalar.cmpi .slt arg0 c64_i32_19
  let v70 : BitVec 32 := Scalar.extui v69
  let c0_i32_20 : BitVec 32 := 0#32
  let v71 : BitVec 1 := Scalar.cmpi .ne v70 c0_i32_20
  v71

def k0_cond4 (i : grid0.Coords) : BitVec 1 :=
  let arg0 : BitVec 32 := BitVec.ofNat 32 (i 0).val
  let c64_i32_21 : BitVec 32 := 64#32
  let v72 : BitVec 1 := Scalar.cmpi .eq arg0 c64_i32_21
  let v73 : BitVec 32 := Scalar.extui v72
  let c0_i32_22 : BitVec 32 := 0#32
  let v74 : BitVec 1 := Scalar.cmpi .ne v73 c0_i32_22
  v74

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_24 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_25 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_26 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_27 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1040x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16x2816 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x2816 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S16x2816 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S16x2816 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S16x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Kernel3Ideal.lean ====
variable {F : FTy → Type} [FloatOps F] [Named F]
def κ : String → Option EReal := fun
  | "scale" => some (((1 / 8) * (Real.log 2)⁻¹ : ℝ) : EReal)
  | _ => none
-- ==== Reference3Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x2568 : Shape := ⟨2, ![1024, 2568]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4096x2568 : Shape := ⟨3, ![8, 4096, 2568]⟩
abbrev S8x4096x512 : Shape := ⟨3, ![8, 4096, 512]⟩
abbrev S8x4096x8 : Shape := ⟨3, ![8, 4096, 8]⟩
abbrev S32768x1024 : Shape := ⟨2, ![32768, 1024]⟩
abbrev S32768x512 : Shape := ⟨2, ![32768, 512]⟩
abbrev S64x512x512 : Shape := ⟨3, ![64, 512, 512]⟩
abbrev S128x256x512 : Shape := ⟨3, ![128, 256, 512]⟩
abbrev S128x512x256 : Shape := ⟨3, ![128, 512, 256]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2568, .f32⟩
  | .hbm, ⟨7, _⟩ => ⟨S8, .f32⟩
  | .hbm, ⟨8, _⟩ => ⟨S512, .f32⟩
  | .hbm, ⟨9, _⟩ => ⟨S512, .f32⟩
  | .hbm, ⟨10, _⟩ => ⟨S8x128x128, .f32⟩
  | .hbm, ⟨11, _⟩ => ⟨S8x128, .f32⟩
  | .hbm, ⟨12, _⟩ => ⟨S1024, .f32⟩
  | .hbm, ⟨13, _⟩ => ⟨S1024x1024, .f32⟩
  | .hbm, ⟨14, _⟩ => ⟨S1024x2816, .f32⟩
  | .hbm, ⟨15, _⟩ => ⟨S1024x2816, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S_, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S8x4096x2568, .f32⟩
  | .hbm, ⟨66, _⟩ => ⟨S8x4096x512, .f32⟩
  | .hbm, ⟨67, _⟩ => ⟨S8x4096x512, .f32⟩
  | .hbm, ⟨68, _⟩ => ⟨S8x4096x512, .f32⟩
  | .hbm, ⟨69, _⟩ => ⟨S8x4096x512, .f32⟩
  | .hbm, ⟨70, _⟩ => ⟨S8x4096x512, .f32⟩
  | .hbm, ⟨71, _⟩ => ⟨S8x4096x8, .f32⟩
  | .hbm, ⟨72, _⟩ => ⟨S_, .f32⟩
  | .hbm, ⟨73, _⟩ => ⟨S8x4096x512, .f32⟩
  | .hbm, ⟨74, _⟩ => ⟨S8x4096x512, .f32⟩
  | .hbm, ⟨75, _⟩ => ⟨S_, .f32⟩
  | .hbm, ⟨76, _⟩ => ⟨S_, .f32⟩
  | .hbm, ⟨77, _⟩ => ⟨S8x4096x512, .f32⟩
  | .hbm, ⟨78, _⟩ => ⟨S8x4096x512, .f32⟩
  | .hbm, ⟨79, _⟩ => ⟨S32768x1024, .f32⟩
  | .hbm, ⟨80, _⟩ => ⟨S32768x512, .f32⟩
  | .hbm, ⟨81, _⟩ => ⟨S32768x512, .bf16⟩
  | .hbm, ⟨82, _⟩ => ⟨S64x512x512, .f32⟩
  | .hbm, ⟨83, _⟩ => ⟨S64x512x512, .f32⟩
  | .hbm, ⟨84, _⟩ => ⟨S64x512x512, .bf16⟩
  | .hbm, ⟨85, _⟩ => ⟨S128x256x512, .f32⟩
  | .hbm, ⟨86, _⟩ => ⟨S128x512x256, .f32⟩
  | .hbm, ⟨87, _⟩ => ⟨S128x512x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Proof.Machine.lean ====
module

public import proofs.«01_k».proof.KernelIdeal

@[expose] public section

noncomputable section

namespace Fox

open Idealize.ShloMosaic Idealize.SL.Sem
open Cert.KernelIdeal Cert.KernelIdeal.Facts₀ Cert.KernelIdeal.Facts

variable {F : FTy → Type} [FloatOps F] [Named F]

/-- The buffers the attention items read and write. -/
structure Refs where
  kk : Memref sig .tc .vmem S4096x512 .bf16
  fa : Memref sig .tc .vmem S4096x128 .bf16
  vv : Memref sig .tc .vmem S16x512x256 .bf16
  qa : Memref sig .tc .vmem S8x256x1024 .bf16
  mm : Memref sig .tc .vmem S32x1x256 .f32
  ac : Memref sig .tc .vmem S32x80x256 .f32
  st : Memref sig .tc .vmem S6x256x256 .f32

/-- One head of one sub-block of queries against one block of keys. -/
structure Item where
  j : Fin 16
  h : Fin 8
  sub : Fin 4
  fresh : Bool
  masked : Bool

/-- The steps the kernel's body is a sequence of. -/
inductive Act where
  | kload (j : Fin 16) (g : Fin 4)
  | logit (h : Fin 8) (sub : Fin 4) (g : Fin 4)
  | maxp (h : Fin 8) (sub : Fin 4) (ring : Fin 6) (masked : Bool)
  | expp (j : Fin 16) (h : Fin 8) (sub : Fin 4) (ring : Fin 6)

/-- The values the steps hand on. -/
structure Regs (F : FTy → Type) where
  k0 : FVec F S256x256 .bf16
  k1 : FVec F S256x256 .bf16
  k2 : FVec F S256x256 .bf16
  k3 : FVec F S256x256 .bf16
  pend : List (FVec F S256x256 .f32)
  stats : List (FVec F S1x256 .f32 × FVec F S1x256 .f32)

def Regs.set : Regs F → ℕ → FVec F S256x256 .bf16 → Regs F
  | ⟨_, b, c, d, p, s⟩, 0, v => ⟨v, b, c, d, p, s⟩
  | ⟨a, _, c, d, p, s⟩, 1, v => ⟨a, v, c, d, p, s⟩
  | ⟨a, b, _, d, p, s⟩, 2, v => ⟨a, b, v, d, p, s⟩
  | ⟨a, b, c, _, p, s⟩, _, v => ⟨a, b, c, v, p, s⟩

def Regs.get : Regs F → ℕ → FVec F S256x256 .bf16
  | ⟨a, _, _, _, _, _⟩, 0 => a
  | ⟨_, b, _, _, _, _⟩, 1 => b
  | ⟨_, _, c, _, _, _⟩, 2 => c
  | ⟨_, _, _, d, _, _⟩, _ => d

def Regs.push : Regs F → FVec F S256x256 .f32 → Regs F
  | ⟨a, b, c, d, p, s⟩, v => ⟨a, b, c, d, p ++ [v], s⟩

variable [Facts]

theorem kk_inb (j : Fin 16) (g : Fin 4) : ∀ a, (![j.val * 256, g.val * 128] : Fin 2 → ℕ) a + S256x128.size a ≤ S4096x512.size a := by
  have := j.isLt
  intro a
  fin_cases a
  · show j.val * 256 + 256 ≤ 4096
    omega
  · have := g.isLt
    show g.val * 128 + 128 ≤ 512
    omega

theorem fa_inb (j : Fin 16) : ∀ a, (![j.val * 256, 0] : Fin 2 → ℕ) a + S256x128.size a ≤ S4096x128.size a := by
  have := j.isLt
  intro a
  fin_cases a
  · show j.val * 256 + 256 ≤ 4096
    omega
  · show 0 + 128 ≤ 128
    omega

theorem vv_inb (j : Fin 16) (h : Fin 8) : ∀ a, (![j.val, h.val * 64, 0] : Fin 3 → ℕ) a + S1x64x256.size a ≤ S16x512x256.size a := by
  have := j.isLt
  intro a
  fin_cases a
  · show j.val + 1 ≤ 16
    omega
  · have := h.isLt
    show h.val * 64 + 64 ≤ 512
    omega
  · show 0 + 256 ≤ 256
    omega

theorem qa_inb (h : Fin 8) (sub : Fin 4) : ∀ a, (![h.val, 0, sub.val * 256] : Fin 3 → ℕ) a + S1x256x256.size a ≤ S8x256x1024.size a := by
  intro a
  fin_cases a
  · have := h.isLt
    show h.val + 1 ≤ 8
    omega
  · show 0 + 256 ≤ 256
    omega
  · have := sub.isLt
    show sub.val * 256 + 256 ≤ 1024
    omega

theorem mm_inb (h : Fin 8) (sub : Fin 4) : ∀ a, (![h.val * 4 + sub.val, 0, 0] : Fin 3 → ℕ) a + S1x1x256.size a ≤ S32x1x256.size a := by
  intro a
  fin_cases a
  · have := h.isLt
    have := sub.isLt
    show h.val * 4 + sub.val + 1 ≤ 32
    omega
  · show 0 + 1 ≤ 1
    omega
  · show 0 + 256 ≤ 256
    omega

theorem ac_inb (h : Fin 8) (sub : Fin 4) : ∀ a, (![h.val * 4 + sub.val, 0, 0] : Fin 3 → ℕ) a + S1x80x256.size a ≤ S32x80x256.size a := by
  intro a
  fin_cases a
  · have := h.isLt
    have := sub.isLt
    show h.val * 4 + sub.val + 1 ≤ 32
    omega
  · show 0 + 80 ≤ 80
    omega
  · show 0 + 256 ≤ 256
    omega

theorem st_inb (r : Fin 6) : ∀ a, (![r.val, 0, 0] : Fin 3 → ℕ) a + S1x256x256.size a ≤ S6x256x256.size a := by
  intro a
  fin_cases a
  · have := r.isLt
    show r.val + 1 ≤ 6
    omega
  · show 0 + 256 ≤ 256
    omega
  · show 0 + 256 ≤ 256
    omega

/-- A block of keys beside its forget columns. -/
def kcat (a b : FVec F S256x128 .bf16) : FVec F S256x256 .bf16 :=
  concatenate S256x256 1 [⟨S256x128, shapeCast S256x128 a shapeCasts_S256x128_S256x128⟩,
    ⟨S256x128, shapeCast S256x128 b shapeCasts_S256x128_S256x128⟩] concatenates_S256x128_S256x128_S256x256_d1

/-- The logits of a block of keys against a sub-block of queries. -/
def logitV (k : FVec F S256x256 .bf16) (q : Vec F S1x256x256 .bf16) : FVec F S256x256 .f32 :=
  matmul dot_S256x256_S256x256_S256x256_1_0_0_1_n_n none k
    (shapeCast S256x256 q shapeCasts_S1x256x256_S256x256) (constant S256x256 .f32 0x00000000#32)

/-- The logits, with those above the diagonal at the mask's value. -/
def maskV (mask : IVec S256x256 1) : Bool → FVec F S256x256 .f32 → FVec F S256x256 .f32
  | true, s => select mask s (broadcast S256x256 (Named.named κ "mask" 0xF149F2CA#32))
  | false, s => s

/-- The running maximum after a block. -/
def maxV (m : Vec F S1x1x256 .f32) (s : FVec F S256x256 .f32) : FVec F S1x256 .f32 :=
  maximumf (shapeCast S1x256 m shapeCasts_S1x1x256_S1x256)
    (shapeCast S1x256 (multiReduction .maximumf [0] S256 s 0xFF800000#32 reduces_S256x256_S256 (.inl rfl) rfl)
      shapeCasts_S256_S1x256)

/-- The factor the running sums are carried over with. -/
def alphaV (m : Vec F S1x1x256 .f32) (mn : FVec F S1x256 .f32) : FVec F S1x256 .f32 :=
  exp2 (subf (shapeCast S1x256 m shapeCasts_S1x1x256_S1x256) mn)

/-- The block's weights. -/
def probV (s : Vec F S1x256x256 .f32) (mn : FVec F S1x256 .f32) : FVec F S256x256 .bf16 :=
  truncf .bf16 (exp2 (subf (shapeCast S256x256 s shapeCasts_S1x256x256_S256x256)
    (broadcastTo S256x256 mn broadcasts_S1x256_S256x256))) bitsLt_bf16_f32

/-- The running sums after a block. -/
def accV (ones : FVec F S16x256 .bf16) (al : FVec F S1x256 .f32) (p : FVec F S256x256 .bf16)
    (v : Vec F S1x64x256 .bf16) (a : Vec F S1x80x256 .f32) : FVec F S80x256 .f32 :=
  addf (mulf (broadcastTo S80x256 al broadcasts_S1x256_S80x256) (shapeCast S80x256 a shapeCasts_S1x80x256_S80x256))
    (matmul dot_S80x256_S256x256_S80x256_1_0_0_1_n_n none
      (concatenate S80x256 0 [⟨S64x256, shapeCast S64x256 v shapeCasts_S1x64x256_S64x256⟩, ⟨S16x256, ones⟩]
        concatenates_S64x256_S16x256_S80x256_d0) p (constant S80x256 .f32 0x00000000#32))

/-- One step, before the steps that follow it. -/
def step (R : Refs) (ones : FVec F S16x256 .bf16) (mask : IVec S256x256 1) :
    Act → (Regs F → Prog (TpuEff nD τ sig (Elt F) Λ₀ .tc) Unit) → Regs F →
      Prog (TpuEff nD τ sig (Elt F) Λ₀ .tc) Unit
  | .kload j g, k, r => do
    let a : Vec F S256x128 .bf16 ← Prog.lift (.load R.kk (Rect.unit (s := S4096x512) ![j.val * 256, g.val * 128] S256x128.size (kk_inb j g)).toLoadRect (View.loadsAt_vmem h_S256x128))
    let b : Vec F S256x128 .bf16 ← Prog.lift (.load R.fa (Rect.unit (s := S4096x128) ![j.val * 256, 0] S256x128.size (fa_inb j)).toLoadRect (View.loadsAt_vmem h_S256x128))
    k (r.set g.val (kcat a b))
  | .logit h sub g, k, r => do
    let q : Vec F S1x256x256 .bf16 ← Prog.lift (.load R.qa (Rect.unit (s := S8x256x1024) ![h.val, 0, sub.val * 256] S1x256x256.size (qa_inb h sub)).toLoadRect (View.loadsAt_vmem h_S1x256x256))
    k (r.push (logitV (r.get g.val) q))
  | .maxp h sub ring masked, k, ⟨k0, k1, k2, k3, x :: p, l⟩ => do
    let m : Vec F S1x1x256 .f32 ← Prog.lift (.load R.mm (Rect.unit (s := S32x1x256) ![h.val * 4 + sub.val, 0, 0] S1x1x256.size (mm_inb h sub)).toLoadRect (View.loadsAt_vmem h_S1x1x256))
    let m2 : Vec F S1x1x256 .f32 ← Prog.lift (.load R.mm (Rect.unit (s := S32x1x256) ![h.val * 4 + sub.val, 0, 0] S1x1x256.size (mm_inb h sub)).toLoadRect (View.loadsAt_vmem h_S1x1x256))
    Prog.lift (.store R.mm (Rect.unit (s := S32x1x256) ![h.val * 4 + sub.val, 0, 0] S1x1x256.size (mm_inb h sub))
      (shapeCast S1x1x256 (maxV m (maskV mask masked x)) shapeCasts_S1x256_S1x1x256) Finset.univ (View.stores_vmem_bits_univ h_S1x1x256 rfl) (.inl rfl))
    let s2 : Vec F S1x256x256 .f32 ← Prog.lift (.load R.st (Rect.unit (s := S6x256x256) ![ring.val, 0, 0] S1x256x256.size (st_inb ring)).toLoadRect (View.loadsAt_vmem h_S1x256x256))
    Prog.lift (.store R.st (Rect.unit (s := S6x256x256) ![ring.val, 0, 0] S1x256x256.size (st_inb ring))
      (shapeCast S1x256x256 (maskV mask masked x) shapeCasts_S256x256_S1x256x256) Finset.univ (View.stores_vmem_bits_univ h_S1x256x256 rfl) (.inl rfl))
    k ⟨k0, k1, k2, k3, p, l ++ [(maxV m (maskV mask masked x), alphaV m (maxV m (maskV mask masked x)))]⟩
  | .expp j h sub ring, k, ⟨k0, k1, k2, k3, p, x :: l⟩ => do
    let s : Vec F S1x256x256 .f32 ← Prog.lift (.load R.st (Rect.unit (s := S6x256x256) ![ring.val, 0, 0] S1x256x256.size (st_inb ring)).toLoadRect (View.loadsAt_vmem h_S1x256x256))
    let v : Vec F S1x64x256 .bf16 ← Prog.lift (.load R.vv (Rect.unit (s := S16x512x256) ![j.val, h.val * 64, 0] S1x64x256.size (vv_inb j h)).toLoadRect (View.loadsAt_vmem h_S1x64x256))
    let a : Vec F S1x80x256 .f32 ← Prog.lift (.load R.ac (Rect.unit (s := S32x80x256) ![h.val * 4 + sub.val, 0, 0] S1x80x256.size (ac_inb h sub)).toLoadRect (View.loadsAt_vmem h_S1x80x256))
    let a2 : Vec F S1x80x256 .f32 ← Prog.lift (.load R.ac (Rect.unit (s := S32x80x256) ![h.val * 4 + sub.val, 0, 0] S1x80x256.size (ac_inb h sub)).toLoadRect (View.loadsAt_vmem h_S1x80x256))
    Prog.lift (.store R.ac (Rect.unit (s := S32x80x256) ![h.val * 4 + sub.val, 0, 0] S1x80x256.size (ac_inb h sub))
      (shapeCast S1x80x256 (accV ones x.2 (probV s x.1) v a) shapeCasts_S80x256_S1x80x256) Finset.univ (View.stores_vmem_bits_univ h_S1x80x256 rfl) (.inl rfl))
    k ⟨k0, k1, k2, k3, p, l⟩
  | _, k, r => k r

/-- A list of steps, before what follows it. -/
def run (R : Refs) (ones : FVec F S16x256 .bf16) (mask : IVec S256x256 1) (l : List Act)
    (fin : Regs F → Prog (TpuEff nD τ sig (Elt F) Λ₀ .tc) Unit) :
    Regs F → Prog (TpuEff nD τ sig (Elt F) Λ₀ .tc) Unit :=
  List.rec fin (fun a _ ih => step R ones mask a ih) l

/-- The steps that bring item `i`'s logits. -/
def qk (n : ℕ) (it : ℕ → Item) (i : ℕ) : List Act :=
  bif Nat.blt i n then
    (bif (it i).fresh && (it i).h.val % 2 == 0 then [Act.kload (it i).j ⟨(it i).h.val / 2, by omega⟩] else [])
      ++ [Act.logit (it i).h (it i).sub ⟨(it i).h.val / 2, by omega⟩]
  else []

def mx (n : ℕ) (it : ℕ → Item) (i : ℕ) : List Act :=
  bif Nat.blt i n then [Act.maxp (it i).h (it i).sub ⟨i % 6, by omega⟩ (it i).masked] else []

def ex (n : ℕ) (it : ℕ → Item) (i : ℕ) : List Act :=
  bif Nat.ble 3 i then [Act.expp (it (i - 3)).j (it (i - 3)).h (it (i - 3)).sub ⟨(i - 3) % 6, by omega⟩] else []

def round (n : ℕ) (it : ℕ → Item) (i : ℕ) : List Act := qk n it (i + 5) ++ (mx n it i ++ ex n it i)

/-- The steps of `n` items: logits five items ahead, weights three items behind. -/
def sched (n : ℕ) (it : ℕ → Item) : List Act :=
  ((List.range 5).flatMap (qk n it)) ++ (List.range (n + 3)).flatMap (round n it)

def zeroRegs : Regs F := ⟨fun _ => Scalar.ofBits .bf16 0#16, fun _ => Scalar.ofBits .bf16 0#16,
  fun _ => Scalar.ofBits .bf16 0#16, fun _ => Scalar.ofBits .bf16 0#16, [], []⟩

end Fox
-- ==== Proof.Steps.lean ====
module

public import proofs.«01_k».proof.Proof.Machine
public import Idealize.ShloMosaic.Lib.Tactic

@[expose] public section

noncomputable section

namespace Fox

open Idealize.ShloMosaic Idealize.SL.Sem
open Cert.KernelIdeal Cert.KernelIdeal.Facts₀ Cert.KernelIdeal.Facts

variable {F : FTy → Type} [FloatOps F] [Named F] [Facts]

abbrev KProg (F : FTy → Type) := Prog (TpuEff nD τ sig (Elt F) Λ₀ .tc) Unit

/-- Programs one after the other. -/
def seq (l : List (KProg F)) : KProg F := List.rec (pure ⟨⟩) (fun a _ ih => Prog.bind a (fun _ => ih)) l

theorem half_inb (h : Fin 8) (lo : Fin 2) (t : Fin 2) :
    ∀ a, (![h.val, lo.val * 128, t.val * 512] : Fin 3 → ℕ) a + S1x128x512.size a ≤ S8x256x1024.size a := by
  intro a
  have := h.isLt
  have := lo.isLt
  have := t.isLt
  fin_cases a
  · show h.val + 1 ≤ 8
    omega
  · show lo.val * 128 + 128 ≤ 256
    omega
  · show t.val * 512 + 512 ≤ 1024
    omega

theorem qt_inb (t : Fin 2) (g : Fin 4) :
    ∀ a, (![t.val, g.val * 128, 0] : Fin 3 → ℕ) a + S1x128x512.size a ≤ S2x512x512.size a := by
  intro a
  have := g.isLt
  have := t.isLt
  fin_cases a
  · show t.val + 1 ≤ 2
    omega
  · show g.val * 128 + 128 ≤ 512
    omega
  · show 0 + 512 ≤ 512
    omega

theorem o_inb (h : Fin 8) (sub : Fin 4) :
    ∀ a, (![h.val * 64, sub.val * 256] : Fin 2 → ℕ) a + S64x256.size a ≤ S512x1024.size a := by
  intro a
  have := h.isLt
  have := sub.isLt
  fin_cases a
  · show h.val * 64 + 64 ≤ 512
    omega
  · show sub.val * 256 + 256 ≤ 1024
    omega

theorem half_packed (h : Fin 8) (lo t : Fin 2) :
    (Rect.unit (s := S8x256x1024) ![h.val, lo.val * 128, t.val * 512] S1x128x512.size (half_inb h lo t)).PackedRows (EltTy.packing .bf16) := by
  fin_cases h <;> fin_cases lo <;> fin_cases t <;>
    first
    | exact packedbf16_S8x256x1024_S1x128x512_0_0_0 | exact packedbf16_S8x256x1024_S1x128x512_0_0_512
    | exact packedbf16_S8x256x1024_S1x128x512_0_128_0 | exact packedbf16_S8x256x1024_S1x128x512_0_128_512
    | exact packedbf16_S8x256x1024_S1x128x512_1_0_0 | exact packedbf16_S8x256x1024_S1x128x512_1_0_512
    | exact packedbf16_S8x256x1024_S1x128x512_1_128_0 | exact packedbf16_S8x256x1024_S1x128x512_1_128_512
    | exact packedbf16_S8x256x1024_S1x128x512_2_0_0 | exact packedbf16_S8x256x1024_S1x128x512_2_0_512
    | exact packedbf16_S8x256x1024_S1x128x512_2_128_0 | exact packedbf16_S8x256x1024_S1x128x512_2_128_512
    | exact packedbf16_S8x256x1024_S1x128x512_3_0_0 | exact packedbf16_S8x256x1024_S1x128x512_3_0_512
    | exact packedbf16_S8x256x1024_S1x128x512_3_128_0 | exact packedbf16_S8x256x1024_S1x128x512_3_128_512
    | exact packedbf16_S8x256x1024_S1x128x512_4_0_0 | exact packedbf16_S8x256x1024_S1x128x512_4_0_512
    | exact packedbf16_S8x256x1024_S1x128x512_4_128_0 | exact packedbf16_S8x256x1024_S1x128x512_4_128_512
    | exact packedbf16_S8x256x1024_S1x128x512_5_0_0 | exact packedbf16_S8x256x1024_S1x128x512_5_0_512
    | exact packedbf16_S8x256x1024_S1x128x512_5_128_0 | exact packedbf16_S8x256x1024_S1x128x512_5_128_512
    | exact packedbf16_S8x256x1024_S1x128x512_6_0_0 | exact packedbf16_S8x256x1024_S1x128x512_6_0_512
    | exact packedbf16_S8x256x1024_S1x128x512_6_128_0 | exact packedbf16_S8x256x1024_S1x128x512_6_128_512
    | exact packedbf16_S8x256x1024_S1x128x512_7_0_0 | exact packedbf16_S8x256x1024_S1x128x512_7_0_512
    | exact packedbf16_S8x256x1024_S1x128x512_7_128_0 | exact packedbf16_S8x256x1024_S1x128x512_7_128_512

/-- The row numbers of a half of a head's query columns. -/
def rowsV : IVec S128x512 32 := iota .tc S128x512 32 [0] iota_S128x512_d0_w32

/-- The rows that pick a head's forget columns: one at rows `h`, `8 + h` and `16 + h`. -/
def onesV (h : BitVec 32) : FVec F S128x512 .bf16 :=
  truncf .bf16 (select (andi (cmpi .slt rowsV (broadcast S128x512 24#32))
      (cmpi .eq (remsi rowsV (broadcast S128x512 8#32)) (broadcast S128x512 h)))
    (broadcast S128x512 (Scalar.ofBits .f32 0x3F800000#32)) (broadcast S128x512 (Scalar.ofBits .f32 0x00000000#32)))
    bitsLt_bf16_f32

/-- Write the rows that pick a head's forget columns. -/
def onesAct (qa : Memref sig .tc .vmem S8x256x1024 .bf16) (hqa : qa.IsWhole) (h : Fin 8) (t : Fin 2) : KProg F := do
  let v : Vec F S1x128x512 .bf16 ← Prog.lift (.load qa (Rect.unit (s := S8x256x1024) ![h.val, (1 : Fin 2).val * 128, t.val * 512] S1x128x512.size (half_inb h 1 t)).toLoadRect (View.loadsAt_vmem h_S1x128x512))
  Prog.lift (.store qa (Rect.unit (s := S8x256x1024) ![h.val, (1 : Fin 2).val * 128, t.val * 512] S1x128x512.size (half_inb h 1 t))
    (shapeCast S1x128x512 (onesV (F := F) (BitVec.ofNat 32 h.val)) shapeCasts_S128x512_S1x128x512) Finset.univ
    (View.stores_vmem h_S1x128x512 (hqa.storeExact_slice rfl _ (half_packed h 1 t)) (fun _ => rfl)) (.inl rfl))

/-- The row numbers over 64, rounded down. -/
def rowHeadV : IVec S128x512 32 :=
  select (andi
      (cmpi .ne (subi (extui 32 (cmpi .sgt rowsV (broadcast S128x512 0#32)) natLt_1_32)
          (extui 32 (cmpi .slt rowsV (broadcast S128x512 0#32)) natLt_1_32))
        (broadcast S128x512 (Scalar.subi (Scalar.extui (Scalar.cmpi .sgt 64#32 0#32)) (Scalar.extui (Scalar.cmpi .slt 64#32 0#32)))))
      (cmpi .ne (remsi rowsV (broadcast S128x512 64#32)) (broadcast S128x512 0#32)))
    (subi (divsi rowsV (broadcast S128x512 64#32)) (broadcast S128x512 1#32))
    (divsi rowsV (broadcast S128x512 64#32))

/-- A pair of heads' queries with the other head's rows at zero. -/
def fillV (hh : BitVec 32) (q : Vec F S1x128x512 .bf16) : FVec F S128x512 .bf16 :=
  select (cmpi .eq rowHeadV (broadcast S128x512 hh)) (shapeCast S128x512 q shapeCasts_S1x128x512_S128x512)
    (broadcast S128x512 (Scalar.ofBits .bf16 0x0000#16))

/-- Write a head's queries. -/
def fillAct (qt : Memref sig .tc .vmem S2x512x512 .bf16) (qa : Memref sig .tc .vmem S8x256x1024 .bf16) (hqa : qa.IsWhole) (h : Fin 8) (t : Fin 2) : KProg F := do
  let q : Vec F S1x128x512 .bf16 ← Prog.lift (.load qt (Rect.unit (s := S2x512x512) ![t.val, (⟨h.val / 2, by omega⟩ : Fin 4).val * 128, 0] S1x128x512.size (qt_inb t ⟨h.val / 2, by omega⟩)).toLoadRect (View.loadsAt_vmem h_S1x128x512))
  let v : Vec F S1x128x512 .bf16 ← Prog.lift (.load qa (Rect.unit (s := S8x256x1024) ![h.val, (0 : Fin 2).val * 128, t.val * 512] S1x128x512.size (half_inb h 0 t)).toLoadRect (View.loadsAt_vmem h_S1x128x512))
  Prog.lift (.store qa (Rect.unit (s := S8x256x1024) ![h.val, (0 : Fin 2).val * 128, t.val * 512] S1x128x512.size (half_inb h 0 t))
    (shapeCast S1x128x512 (fillV (BitVec.ofNat 32 (h.val % 2)) q) shapeCasts_S128x512_S1x128x512) Finset.univ
    (View.stores_vmem h_S1x128x512 (hqa.storeExact_slice rfl _ (half_packed h 0 t)) (fun _ => rfl)) (.inl rfl))

/-- Set the running maxima to the mask's value and the running sums to zero. -/
def initM (mm : Memref sig .tc .vmem S32x1x256 .f32) : KProg F := do
  let m0 : Vec F S32x1x256 .f32 ← Prog.lift (.load mm (Rect.unit (s := S32x1x256) ![0, 0, 0] S32x1x256.size inb_S32x1x256_S32x1x256_0_0_0).toLoadRect (View.loadsAt_vmem h_S32x1x256))
  Prog.lift (.store mm (Rect.unit (s := S32x1x256) ![0, 0, 0] S32x1x256.size inb_S32x1x256_S32x1x256_0_0_0)
    (shapeCast S32x1x256 (broadcast S32x1x256 (Named.named (F := F) κ "mask" 0xF149F2CA#32)) shapeCasts_S32x1x256_S32x1x256) Finset.univ (View.stores_vmem_bits_univ h_S32x1x256 rfl) (.inl rfl))

def initA (ac : Memref sig .tc .vmem S32x80x256 .f32) : KProg F := do
  let a0 : Vec F S32x80x256 .f32 ← Prog.lift (.load ac (Rect.unit (s := S32x80x256) ![0, 0, 0] S32x80x256.size inb_S32x80x256_S32x80x256_0_0_0).toLoadRect (View.loadsAt_vmem h_S32x80x256))
  Prog.lift (.store ac (Rect.unit (s := S32x80x256) ![0, 0, 0] S32x80x256.size inb_S32x80x256_S32x80x256_0_0_0)
    (shapeCast S32x80x256 (broadcast S32x80x256 (Scalar.ofBits (F := F) .f32 0x00000000#32)) shapeCasts_S32x80x256_S32x80x256) Finset.univ (View.stores_vmem_bits_univ h_S32x80x256 rfl) (.inl rfl))

/-- A slot's output: the sums over their weight, normalised over the head's 64 columns. -/
def epiV (a : Vec F S1x80x256 .f32) : FVec F S64x256 .f32 :=
  let acc : FVec F S80x256 .f32 := shapeCast S80x256 a shapeCasts_S1x80x256_S80x256
  let o : FVec F S64x256 .f32 := divf (extractStridedSlice S64x256 ![0, 0] acc slices_S80x256_o0_0_S64x256)
    (broadcastTo S64x256 (extractStridedSlice S1x256 ![64, 0] acc slices_S80x256_o64_0_S1x256) broadcasts_S1x256_S64x256)
  mulf o (broadcastTo S64x256 (rsqrt (addf (divf (shapeCast S1x256 (multiReduction .add [0] S256 (mulf o o) 0x00000000#32 reduces_S64x256_S256 (.inl rfl) rfl) shapeCasts_S256_S1x256)
      (broadcast S1x256 (Scalar.ofBits .f32 0x42800000#32))) (broadcast S1x256 (Scalar.ofBits .f32 0x358637BD#32)))) broadcasts_S1x256_S64x256)

def epiAct (ac : Memref sig .tc .vmem S32x80x256 .f32) (oo : Memref sig .tc .vmem S512x1024 .f32) (h : Fin 8) (sub : Fin 4) : KProg F := do
  let a : Vec F S1x80x256 .f32 ← Prog.lift (.load ac (Rect.unit (s := S32x80x256) ![h.val * 4 + sub.val, 0, 0] S1x80x256.size (ac_inb h sub)).toLoadRect (View.loadsAt_vmem h_S1x80x256))
  let o : Vec F S64x256 .f32 ← Prog.lift (.load oo (Rect.unit (s := S512x1024) ![h.val * 64, sub.val * 256] S64x256.size (o_inb h sub)).toLoadRect (View.loadsAt_vmem h_S64x256))
  Prog.lift (.store oo (Rect.unit (s := S512x1024) ![h.val * 64, sub.val * 256] S64x256.size (o_inb h sub))
    (shapeCast S64x256 (epiV a) shapeCasts_S64x256_S64x256) Finset.univ (View.stores_vmem_bits_univ h_S64x256 rfl) (.inl rfl))

/-- The block's output from the heads' outputs and the weights. -/
def outV (o : Vec F S512x1024 .f32) (g : Vec F S1x512 .f32) : FVec F S1024x512 .bf16 :=
  truncf .bf16 (mulf (transpose S1024x512 [1, 0] o transposes_S512x1024_p1_0_S1024x512)
    (broadcastTo S1024x512 (shapeCast S1x512 g shapeCasts_S1x512_S1x512) broadcasts_S1x512_S1024x512)) bitsLt_bf16_f32

def outAct (og : Memref sig .tc .vmem S1x512 .f32) (yb : Memref sig .tc .vmem S1024x512 .bf16) (hyb : yb.IsWhole)
    (oo : Memref sig .tc .vmem S512x1024 .f32) : KProg F := do
  let o : Vec F S512x1024 .f32 ← Prog.lift (.load oo (Rect.unit (s := S512x1024) ![0, 0] S512x1024.size inb_S512x1024_S512x1024_0_0).toLoadRect (View.loadsAt_vmem h_S512x1024))
  let g : Vec F S1x512 .f32 ← Prog.lift (.load og (Rect.unit (s := S1x512) ![0, 0] S1x512.size inb_S1x512_S1x512_0_0).toLoadRect (View.loadsAt_vmem h_S1x512))
  let y : Vec F S1024x512 .bf16 ← Prog.lift (.load yb (Rect.unit (s := S1024x512) ![0, 0] S1024x512.size inb_S1024x512_S1024x512_0_0).toLoadRect (View.loadsAt_vmem h_S1024x512))
  Prog.lift (.store yb (Rect.unit (s := S1024x512) ![0, 0] S1024x512.size inb_S1024x512_S1024x512_0_0) (outV o g) Finset.univ
    (View.stores_vmem h_S1024x512 (hyb.storeExact_slice rfl _ packedbf16_S1024x512_S1024x512_0_0) (fun _ => rfl)) (.inl rfl))

/-- The rows of ones the weights are summed with. -/
def onesRows : FVec F S16x256 .bf16 := broadcast S16x256 (Scalar.ofBits .bf16 0x3F80#16)

/-- Where a key is at or before a query, within a block on the diagonal. -/
def diag : IVec S256x256 1 :=
  cmpi .sle (addi (iota .tc S256x256 32 [0] iota_S256x256_d0_w32) (broadcast S256x256 0#32)) (iota .tc S256x256 32 [1] iota_S256x256_d1_w32)

/-- Item `n` of the four whole blocks of trip `t`. -/
def item1 (t : ℕ) (n : ℕ) : Item where
  j := ⟨(t * 4 + n / 32) % 16, by omega⟩
  h := ⟨n % 8, by omega⟩
  sub := ⟨n / 8 % 4, by omega⟩
  fresh := n / 8 % 4 == 0
  masked := false

/-- The tile's own blocks, each with the sub-blocks of queries at or after it. -/
def tailB (n : ℕ) : Fin 4 × Fin 4 :=
  ([(0, 0), (0, 1), (0, 2), (0, 3), (1, 1), (1, 2), (1, 3), (2, 2), (2, 3)] : List (Fin 4 × Fin 4)).getD n (3, 3)

/-- Item `n` of the four blocks on the diagonal of tile `q`. -/
def item2 (q : ℕ) (n : ℕ) : Item where
  j := ⟨(q * 4 + (tailB (n / 8)).1.val) % 16, by omega⟩
  h := ⟨n % 8, by omega⟩
  sub := (tailB (n / 8)).2
  fresh := (tailB (n / 8)).1 == (tailB (n / 8)).2
  masked := (tailB (n / 8)).1 == (tailB (n / 8)).2

/-- The heads and tiles in the order the queries are written. -/
def fills : List (Fin 8 × Fin 2) := (List.range 16).map fun n => (⟨n / 2 % 8, by omega⟩, ⟨n % 2, by omega⟩)

/-- The slots in the order the outputs are written. -/
def slots : List (Fin 8 × Fin 4) := (List.range 32).map fun n => (⟨n / 4 % 8, by omega⟩, ⟨n % 4, by omega⟩)

/-- The first point of all. -/
def isFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-- The items' steps at tile `q`: its whole blocks, four a trip, then those on the diagonal. -/
def acts (q : ℕ) : List Act := ((List.range q).flatMap fun t => sched 128 (item1 t)) ++ sched 80 (item2 q)

/-- What the first point of all writes. -/
def firstProg (i : grid0.Coords) (arg8 : Memref sig .tc .vmem S8x256x1024 .bf16) (harg8 : arg8.IsWhole) : KProg F :=
  if h : isFirst i = 1#1 then seq (fills.map fun p => onesAct arg8 harg8 p.1 p.2) else pure ⟨⟩

/-- The rest of the kernel at tile `q`, as its steps. -/
def tileProg (q : ℕ) (arg2 : Memref sig .tc .vmem S2x512x512 .bf16) (arg3 : Memref sig .tc .vmem S4096x512 .bf16) (arg4 : Memref sig .tc .vmem S4096x128 .bf16) (arg5 : Memref sig .tc .vmem S16x512x256 .bf16) (arg6 : Memref sig .tc .vmem S1x512 .f32) (arg7 : Memref sig .tc .vmem S1024x512 .bf16) (harg7 : arg7.IsWhole) (arg8 : Memref sig .tc .vmem S8x256x1024 .bf16) (harg8 : arg8.IsWhole) (arg9 : Memref sig .tc .vmem S32x1x256 .f32) (arg10 : Memref sig .tc .vmem S32x80x256 .f32) (arg11 : Memref sig .tc .vmem S512x1024 .f32) (arg12 : Memref sig .tc .vmem S6x256x256 .f32) : KProg F := do
  seq (fills.map fun p => fillAct arg2 arg8 harg8 p.1 p.2)
  initM arg9
  initA arg10
  run ⟨arg3, arg4, arg5, arg8, arg9, arg10, arg12⟩ onesRows diag (acts q) (fun _ => do
    seq (slots.map fun p => epiAct arg10 arg11 p.1 p.2)
    outAct arg6 arg7 harg7 arg11) zeroRegs

/-- A grid point by its batch and its tile. -/
def pt (b : Fin 8) (q : Fin 4) : grid0.Coords := fun a => match a with
  | ⟨0, _⟩ => b
  | ⟨1, _⟩ => q

end Fox
-- ==== Proof.Wp.lean ====
module

public import proofs.«01_k».proof.Proof.Steps
public import Idealize.ShloMosaic.Lib.Memref
public import Idealize.ShloMosaic.Rules.Step
public import Idealize.SL.ProofMode

@[expose] public section

noncomputable section

namespace Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- A buffer's contents on a rectangle. -/
def cut {s : Shape} {α : Type} (r : Rect s) (X : s.Idx → α) : r.shape.Idx → α := fun i => X (r.emb i)

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a memref owned at `X` brings `X` on the rectangle. -/
theorem owns_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k (cut r X)) Q)
        -∗ wp frame (wpE defs 𝒱 c bd) E (.op (.load m r.toLoadRect hl) k) Q) := by
  unfold owns
  iintro ⟨%f, %hf, H⟩
  iintro Hk
  iapply (wp_load 𝒱 c bd E (S := m.view.set) (f := f) (q := q) (View.setOn_subset_set _ _)) $$ H
  iintro H
  subst hf
  iapply Hk
  iexists f
  isplitr
  · ipureintro; rfl
  · iexact H

/-- A store through a memref owned at `X` leaves it owned at `X` with the rectangle replaced. -/
theorem owns_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩
  iintro Hk
  iapply (wp_store_writes₀ 𝒱 c bd E (S := m.view.set) (f := f) (m.setOn_access_subset r _)) $$ H
  iintro H
  subst hf
  iapply Hk
  iexists m.view.writes Val f [⟨r, w⟩]
  isplitr
  · ipureintro
    funext y
    by_cases hy : y ∈ r.set
    · rw [← Rect.map_emb_univ, Finset.mem_map] at hy
      obtain ⟨j, -, rfl⟩ := hy
      rw [View.read_writes_cons_emb, Rect.overlay_emb]
    · rw [View.read_writes_cons_miss _ _ _ _ _ hy, Rect.overlay_of_not_mem _ _ _ hy]
      rfl
  · iexact H

end Rules

end Fox
-- ==== Proof.Sem.lean ====
module

public import proofs.«01_k».proof.Proof.Wp
public import Idealize.ShloMosaic.Lib.Pipeline.Kit

@[expose] public section

noncomputable section

namespace Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts
open Idealize.ShloMosaic.Rounds Idealize.ShloMosaic.Pipeline

variable {F : FTy → Type} [FloatOps F] [Named F] [Facts]

local notation "𝕄" => MT nD τ sig Unit (Elt F) ℕ (UR sig nD τ) ℕ

def rkk (j : Fin 16) (g : Fin 4) : Rect S4096x512 := Rect.unit (s := S4096x512) ![j.val * 256, g.val * 128] S256x128.size (kk_inb j g)
def rfa (j : Fin 16) : Rect S4096x128 := Rect.unit (s := S4096x128) ![j.val * 256, 0] S256x128.size (fa_inb j)
def rvv (j : Fin 16) (h : Fin 8) : Rect S16x512x256 := Rect.unit (s := S16x512x256) ![j.val, h.val * 64, 0] S1x64x256.size (vv_inb j h)
def rqa (h : Fin 8) (sub : Fin 4) : Rect S8x256x1024 := Rect.unit (s := S8x256x1024) ![h.val, 0, sub.val * 256] S1x256x256.size (qa_inb h sub)
def rmm (h : Fin 8) (sub : Fin 4) : Rect S32x1x256 := Rect.unit (s := S32x1x256) ![h.val * 4 + sub.val, 0, 0] S1x1x256.size (mm_inb h sub)
def rac (h : Fin 8) (sub : Fin 4) : Rect S32x80x256 := Rect.unit (s := S32x80x256) ![h.val * 4 + sub.val, 0, 0] S1x80x256.size (ac_inb h sub)
def rst (ring : Fin 6) : Rect S6x256x256 := Rect.unit (s := S6x256x256) ![ring.val, 0, 0] S1x256x256.size (st_inb ring)
def rqt (t : Fin 2) (g : Fin 4) : Rect S2x512x512 := Rect.unit (s := S2x512x512) ![t.val, g.val * 128, 0] S1x128x512.size (qt_inb t g)
def rhalf (h : Fin 8) (lo t : Fin 2) : Rect S8x256x1024 := Rect.unit (s := S8x256x1024) ![h.val, lo.val * 128, t.val * 512] S1x128x512.size (half_inb h lo t)
def roo (h : Fin 8) (sub : Fin 4) : Rect S512x1024 := Rect.unit (s := S512x1024) ![h.val * 64, sub.val * 256] S64x256.size (o_inb h sub)

/-- What the attention items only read. -/
structure Inp (F : FTy → Type) where
  kk : Vec F S4096x512 .bf16
  fa : Vec F S4096x128 .bf16
  vv : Vec F S16x512x256 .bf16
  qa : Vec F S8x256x1024 .bf16

/-- What they change. -/
structure St (F : FTy → Type) where
  r : Regs F
  mm : Vec F S32x1x256 .f32
  ac : Vec F S32x80x256 .f32
  st : Vec F S6x256x256 .f32

/-- What a step does to the state. -/
def stepS (I : Inp F) (ones : FVec F S16x256 .bf16) (mask : IVec S256x256 1) (s : St F) : Act → St F
  | .kload j g => { s with r := s.r.set g.val (kcat (cut (rkk j g) I.kk) (cut (rfa j) I.fa)) }
  | .logit h sub g => { s with r := s.r.push (logitV (s.r.get g.val) (cut (rqa h sub) I.qa)) }
  | .maxp h sub ring masked =>
    match s with
    | ⟨⟨k0, k1, k2, k3, x :: p, l⟩, mm, ac, st⟩ =>
      ⟨⟨k0, k1, k2, k3, p, l ++ [(maxV (cut (rmm h sub) mm) (maskV mask masked x),
          alphaV (cut (rmm h sub) mm) (maxV (cut (rmm h sub) mm) (maskV mask masked x)))]⟩,
        (rmm h sub).overlay mm (shapeCast S1x1x256 (maxV (cut (rmm h sub) mm) (maskV mask masked x)) shapeCasts_S1x256_S1x1x256), ac,
        (rst ring).overlay st (shapeCast S1x256x256 (maskV mask masked x) shapeCasts_S256x256_S1x256x256)⟩
    | s => s
  | .expp j h sub ring =>
    match s with
    | ⟨⟨k0, k1, k2, k3, p, x :: l⟩, mm, ac, st⟩ =>
      ⟨⟨k0, k1, k2, k3, p, l⟩, mm,
        (rac h sub).overlay ac (shapeCast S1x80x256 (accV ones x.2 (probV (cut (rst ring) st) x.1) (cut (rvv j h) I.vv)
          (cut (rac h sub) ac)) shapeCasts_S80x256_S1x80x256), st⟩
    | s => s

abbrev WP (c : Dev nD) (p : KProg F) (Q : Unit → sProp 𝕄) : sProp 𝕄 :=
  wp frame (wpE (defs₀ (F := F)) Variants.none (c : Thread nD τ) none) Set.univ p Q

/-- Holding the buffers the items read at `I` and those they change at `s`. -/
def own (c : Dev nD) (R : Refs) (I : Inp F) (mm : Vec F S32x1x256 .f32) (ac : Vec F S32x80x256 .f32) (st : Vec F S6x256x256 .f32) : sProp 𝕄 :=
  iprop(owns (c : Thread nD τ) R.kk fullShare I.kk ∗ owns (c : Thread nD τ) R.fa fullShare I.fa ∗ owns (c : Thread nD τ) R.vv fullShare I.vv
    ∗ owns (c : Thread nD τ) R.qa fullShare I.qa ∗ owns (c : Thread nD τ) R.mm fullShare mm ∗ owns (c : Thread nD τ) R.ac fullShare ac
    ∗ owns (c : Thread nD τ) R.st fullShare st)

theorem wp_step (c : Dev nD) (R : Refs) (I : Inp F) (ones : FVec F S16x256 .bf16) (mask : IVec S256x256 1) (a : Act)
    (k : Regs F → KProg F) (s : St F) (Q : Unit → sProp 𝕄) :
    own c R I s.mm s.ac s.st
      ⊢ iprop((own c R I (stepS I ones mask s a).mm (stepS I ones mask s a).ac (stepS I ones mask s a).st
          -∗ WP c (k (stepS I ones mask s a).r) Q) -∗ WP c (step R ones mask a k s.r) Q) := by
  obtain ⟨⟨k0, k1, k2, k3, p, l⟩, mm, ac, st⟩ := s
  unfold own
  cases a with
  | kload j g =>
    iintro ⟨H0, H1, H2, H3, H4, H5, H6⟩
    iintro Hk
    iapply (owns_load Variants.none (c : Thread nD τ) none Set.univ (r := rkk j g)) $$ H0
    iintro H0
    iapply (owns_load Variants.none (c : Thread nD τ) none Set.univ (r := rfa j)) $$ H1
    iintro H1
    iapply Hk
    isplitl [H0]; · iexact H0
    isplitl [H1]; · iexact H1
    isplitl [H2]; · iexact H2
    isplitl [H3]; · iexact H3
    isplitl [H4]; · iexact H4
    isplitl [H5]; · iexact H5
    iexact H6
  | logit h sub g =>
    iintro ⟨H0, H1, H2, H3, H4, H5, H6⟩
    iintro Hk
    iapply (owns_load Variants.none (c : Thread nD τ) none Set.univ (r := rqa h sub)) $$ H3
    iintro H3
    iapply Hk
    isplitl [H0]; · iexact H0
    isplitl [H1]; · iexact H1
    isplitl [H2]; · iexact H2
    isplitl [H3]; · iexact H3
    isplitl [H4]; · iexact H4
    isplitl [H5]; · iexact H5
    iexact H6
  | maxp h sub ring masked =>
    cases p with
    | nil =>
      iintro H
      iintro Hk
      iapply Hk
      iexact H
    | cons x p =>
      dsimp only [stepS]
      iintro ⟨H0, H1, H2, H3, H4, H5, H6⟩
      iintro Hk
      iapply (owns_load Variants.none (c : Thread nD τ) none Set.univ (r := rmm h sub)) $$ H4
      iintro H4
      iapply (owns_load Variants.none (c : Thread nD τ) none Set.univ (r := rmm h sub)) $$ H4
      iintro H4
      iapply (owns_store Variants.none (c : Thread nD τ) none Set.univ (r := rmm h sub)) $$ H4
      iintro H4
      iapply (owns_load Variants.none (c : Thread nD τ) none Set.univ (r := rst ring)) $$ H6
      iintro H6
      iapply (owns_store Variants.none (c : Thread nD τ) none Set.univ (r := rst ring)) $$ H6
      iintro H6
      iapply Hk
      isplitl [H0]; · iexact H0
      isplitl [H1]; · iexact H1
      isplitl [H2]; · iexact H2
      isplitl [H3]; · iexact H3
      isplitl [H4]; · iexact H4
      isplitl [H5]; · iexact H5
      iexact H6
  | expp j h sub ring =>
    cases l with
    | nil =>
      iintro H
      iintro Hk
      iapply Hk
      iexact H
    | cons x l =>
      dsimp only [stepS]
      iintro ⟨H0, H1, H2, H3, H4, H5, H6⟩
      iintro Hk
      iapply (owns_load Variants.none (c : Thread nD τ) none Set.univ (r := rst ring)) $$ H6
      iintro H6
      iapply (owns_load Variants.none (c : Thread nD τ) none Set.univ (r := rvv j h)) $$ H2
      iintro H2
      iapply (owns_load Variants.none (c : Thread nD τ) none Set.univ (r := rac h sub)) $$ H5
      iintro H5
      iapply (owns_load Variants.none (c : Thread nD τ) none Set.univ (r := rac h sub)) $$ H5
      iintro H5
      iapply (owns_store Variants.none (c : Thread nD τ) none Set.univ (r := rac h sub)) $$ H5
      iintro H5
      iapply Hk
      isplitl [H0]; · iexact H0
      isplitl [H1]; · iexact H1
      isplitl [H2]; · iexact H2
      isplitl [H3]; · iexact H3
      isplitl [H4]; · iexact H4
      isplitl [H5]; · iexact H5
      iexact H6

/-- A list of steps takes the state where the steps' fold takes it. -/
theorem wp_run (c : Dev nD) (R : Refs) (I : Inp F) (ones : FVec F S16x256 .bf16) (mask : IVec S256x256 1) (fin : Regs F → KProg F)
    (Q : Unit → sProp 𝕄) (l : List Act) : ∀ s : St F,
    own c R I s.mm s.ac s.st
      ⊢ iprop((own c R I (l.foldl (stepS I ones mask) s).mm (l.foldl (stepS I ones mask) s).ac (l.foldl (stepS I ones mask) s).st
          -∗ WP c (fin (l.foldl (stepS I ones mask) s).r) Q) -∗ WP c (run R ones mask l fin s.r) Q) := by
  induction l with
  | nil =>
    intro s
    iintro H
    iintro Hk
    iapply Hk
    iexact H
  | cons a l ih =>
    intro s
    iintro H
    iintro Hk
    iapply (wp_step c R I ones mask a (run R ones mask l fin) s Q) $$ H
    iintro H
    iapply (ih (stepS I ones mask s a)) $$ H
    iintro H
    iapply Hk
    iexact H

end Fox
-- ==== Proof.Tile.lean ====
module

public import proofs.«01_k».proof.Proof.Sem

@[expose] public section

noncomputable section

namespace Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts
open Idealize.ShloMosaic.Rounds Idealize.ShloMosaic.Pipeline

section Whole

variable {s : Shape} {α : Type}

theorem emb_whole (off : Fin s.rank → ℕ) (inb : ∀ a, off a + s.size a ≤ s.size a) (j : s.Idx) :
    (Rect.unit (s := s) off s.size inb).emb j = j := by
  funext a
  apply Fin.ext
  rw [Rect.emb_apply]
  show off a + 1 * (j a).val = (j a).val
  have := inb a
  omega

theorem cut_whole (off : Fin s.rank → ℕ) (inb : ∀ a, off a + s.size a ≤ s.size a) (X : s.Idx → α) :
    cut (Rect.unit (s := s) off s.size inb) X = X := by
  funext j
  unfold cut
  exact congrArg X (emb_whole off inb j)

theorem overlay_whole (off : Fin s.rank → ℕ) (inb : ∀ a, off a + s.size a ≤ s.size a) (X w : s.Idx → α) :
    (Rect.unit (s := s) off s.size inb).overlay X w = w := by
  funext j
  conv_lhs => rw [← emb_whole off inb j]
  exact Rect.overlay_emb (Rect.unit (s := s) off s.size inb) X w j

end Whole

variable {F : FTy → Type} [FloatOps F] [Named F] [Facts]

local notation "𝕄" => MT nD τ sig Unit (Elt F) ℕ (UR sig nD τ) ℕ

theorem WP_bind (c : Dev nD) (p : KProg F) (k : Unit → KProg F) (Q : Unit → sProp 𝕄) :
    WP c (Prog.bind p k) Q = WP c p (fun a => WP c (k a) Q) := wp_bind _ _ _ p k Q

theorem seq_cons {γ : Type} (f : γ → KProg F) (p : γ) (l : List γ) :
    seq ((p :: l).map f) = Prog.bind (f p) (fun _ => seq (l.map f)) := rfl

theorem tileProg_eq (q : ℕ) (arg2 : Memref sig .tc .vmem S2x512x512 .bf16) (arg3 : Memref sig .tc .vmem S4096x512 .bf16) (arg4 : Memref sig .tc .vmem S4096x128 .bf16)
    (arg5 : Memref sig .tc .vmem S16x512x256 .bf16) (arg6 : Memref sig .tc .vmem S1x512 .f32) (arg7 : Memref sig .tc .vmem S1024x512 .bf16) (harg7 : arg7.IsWhole)
    (arg8 : Memref sig .tc .vmem S8x256x1024 .bf16) (harg8 : arg8.IsWhole) (arg9 : Memref sig .tc .vmem S32x1x256 .f32) (arg10 : Memref sig .tc .vmem S32x80x256 .f32)
    (arg11 : Memref sig .tc .vmem S512x1024 .f32) (arg12 : Memref sig .tc .vmem S6x256x256 .f32) :
    tileProg (F := F) q arg2 arg3 arg4 arg5 arg6 arg7 harg7 arg8 harg8 arg9 arg10 arg11 arg12
      = Prog.bind (seq (fills.map fun p => fillAct arg2 arg8 harg8 p.1 p.2)) fun _ =>
        Prog.bind (initM arg9) fun _ => Prog.bind (initA arg10) fun _ =>
          run ⟨arg3, arg4, arg5, arg8, arg9, arg10, arg12⟩ onesRows diag (acts q) (fun _ =>
            Prog.bind (seq (slots.map fun p => epiAct arg10 arg11 p.1 p.2)) fun _ => outAct arg6 arg7 harg7 arg11) zeroRegs := by
  sl_kernel_rfl

theorem WP_pure (c : Dev nD) (Q : Unit → sProp 𝕄) : Q ⟨⟩ ⊢ WP c (pure ⟨⟩) Q := by
  unfold WP
  rw [wp_pure]
  iintro H
  imodintro
  iexact H

def onesP (h : Fin 8) : Vec F S1x128x512 .bf16 := shapeCast S1x128x512 (onesV (F := F) (BitVec.ofNat 32 h.val)) shapeCasts_S128x512_S1x128x512

def fillP (qt : Vec F S2x512x512 .bf16) (h : Fin 8) (t : Fin 2) : Vec F S1x128x512 .bf16 :=
  shapeCast S1x128x512 (fillV (BitVec.ofNat 32 (h.val % 2)) (cut (rqt t ⟨h.val / 2, by omega⟩) qt)) shapeCasts_S128x512_S1x128x512

def epiP (ac : Vec F S32x80x256 .f32) (h : Fin 8) (sub : Fin 4) : Vec F S64x256 .f32 :=
  shapeCast S64x256 (epiV (cut (rac h sub) ac)) shapeCasts_S64x256_S64x256

/-- The queries' buffer after the rows that pick the forget columns are written. -/
def onesS (X : Vec F S8x256x1024 .bf16) : Vec F S8x256x1024 .bf16 :=
  fills.foldl (fun X p => (rhalf p.1 1 p.2).overlay X (onesP p.1)) X

/-- The queries' buffer after the heads' queries are written. -/
def fillS (qt : Vec F S2x512x512 .bf16) (X : Vec F S8x256x1024 .bf16) : Vec F S8x256x1024 .bf16 :=
  fills.foldl (fun X p => (rhalf p.1 0 p.2).overlay X (fillP qt p.1 p.2)) X

/-- The outputs' buffer after the heads' outputs are written. -/
def epiS (ac : Vec F S32x80x256 .f32) (X : Vec F S512x1024 .f32) : Vec F S512x1024 .f32 :=
  slots.foldl (fun X p => (roo p.1 p.2).overlay X (epiP ac p.1 p.2)) X

def mm0 : Vec F S32x1x256 .f32 := shapeCast S32x1x256 (broadcast S32x1x256 (Named.named (F := F) κ "mask" 0xF149F2CA#32)) shapeCasts_S32x1x256_S32x1x256
def ac0 : Vec F S32x80x256 .f32 := shapeCast S32x80x256 (broadcast S32x80x256 (Scalar.ofBits (F := F) .f32 0x00000000#32)) shapeCasts_S32x80x256_S32x80x256

theorem wp_onesAct (c : Dev nD) (qa : Memref sig .tc .vmem S8x256x1024 .bf16) (hqa : qa.IsWhole) (h : Fin 8) (t : Fin 2)
    (X : Vec F S8x256x1024 .bf16) (Q : Unit → sProp 𝕄) :
    owns (c : Thread nD τ) qa fullShare X
      ⊢ iprop((owns (c : Thread nD τ) qa fullShare ((rhalf h 1 t).overlay X (onesP h)) -∗ Q ⟨⟩) -∗ WP c (onesAct qa hqa h t) Q) := by
  iintro H
  iintro Hk
  unfold onesAct
  iapply (owns_load Variants.none (c : Thread nD τ) none Set.univ (r := rhalf h 1 t)) $$ H
  iintro H
  iapply (owns_store Variants.none (c : Thread nD τ) none Set.univ (r := rhalf h 1 t)) $$ H
  iintro H
  iapply (WP_pure c Q)
  iapply Hk
  iexact H

theorem wp_fillAct (c : Dev nD) (qt : Memref sig .tc .vmem S2x512x512 .bf16) (qa : Memref sig .tc .vmem S8x256x1024 .bf16) (hqa : qa.IsWhole) (h : Fin 8) (t : Fin 2)
    (q : Vec F S2x512x512 .bf16) (X : Vec F S8x256x1024 .bf16) (Q : Unit → sProp 𝕄) :
    iprop(owns (c : Thread nD τ) qt fullShare q ∗ owns (c : Thread nD τ) qa fullShare X)
      ⊢ iprop((owns (c : Thread nD τ) qt fullShare q ∗ owns (c : Thread nD τ) qa fullShare ((rhalf h 0 t).overlay X (fillP q h t)) -∗ Q ⟨⟩) -∗ WP c (fillAct qt qa hqa h t) Q) := by
  iintro ⟨H0, H⟩
  iintro Hk
  unfold fillAct
  iapply (owns_load Variants.none (c : Thread nD τ) none Set.univ (r := rqt t ⟨h.val / 2, by omega⟩)) $$ H0
  iintro H0
  iapply (owns_load Variants.none (c : Thread nD τ) none Set.univ (r := rhalf h 0 t)) $$ H
  iintro H
  iapply (owns_store Variants.none (c : Thread nD τ) none Set.univ (r := rhalf h 0 t)) $$ H
  iintro H
  iapply (WP_pure c Q)
  iapply Hk
  isplitl [H0]; · iexact H0
  iexact H

theorem wp_epiAct (c : Dev nD) (ac : Memref sig .tc .vmem S32x80x256 .f32) (oo : Memref sig .tc .vmem S512x1024 .f32) (h : Fin 8) (sub : Fin 4)
    (a : Vec F S32x80x256 .f32) (X : Vec F S512x1024 .f32) (Q : Unit → sProp 𝕄) :
    iprop(owns (c : Thread nD τ) ac fullShare a ∗ owns (c : Thread nD τ) oo fullShare X)
      ⊢ iprop((owns (c : Thread nD τ) ac fullShare a ∗ owns (c : Thread nD τ) oo fullShare ((roo h sub).overlay X (epiP a h sub)) -∗ Q ⟨⟩) -∗ WP c (epiAct ac oo h sub) Q) := by
  iintro ⟨H0, H⟩
  iintro Hk
  unfold epiAct
  iapply (owns_load Variants.none (c : Thread nD τ) none Set.univ (r := rac h sub)) $$ H0
  iintro H0
  iapply (owns_load Variants.none (c : Thread nD τ) none Set.univ (r := roo h sub)) $$ H
  iintro H
  iapply (owns_store Variants.none (c : Thread nD τ) none Set.univ (r := roo h sub)) $$ H
  iintro H
  iapply (WP_pure c Q)
  iapply Hk
  isplitl [H0]; · iexact H0
  iexact H

theorem wp_initM (c : Dev nD) (mm : Memref sig .tc .vmem S32x1x256 .f32) (X : Vec F S32x1x256 .f32) (Q : Unit → sProp 𝕄) :
    owns (c : Thread nD τ) mm fullShare X
      ⊢ iprop((owns (c : Thread nD τ) mm fullShare (mm0 (F := F)) -∗ Q ⟨⟩) -∗ WP c (initM mm) Q) := by
  iintro H
  iintro Hk
  unfold initM
  iapply (owns_load Variants.none (c : Thread nD τ) none Set.univ (r := Rect.unit (s := S32x1x256) ![0, 0, 0] S32x1x256.size inb_S32x1x256_S32x1x256_0_0_0)) $$ H
  iintro H
  iapply (owns_store Variants.none (c : Thread nD τ) none Set.univ (r := Rect.unit (s := S32x1x256) ![0, 0, 0] S32x1x256.size inb_S32x1x256_S32x1x256_0_0_0)) $$ H
  iintro H
  rw [overlay_whole]
  iapply (WP_pure c Q)
  iapply Hk
  iexact H

theorem wp_initA (c : Dev nD) (ac : Memref sig .tc .vmem S32x80x256 .f32) (X : Vec F S32x80x256 .f32) (Q : Unit → sProp 𝕄) :
    owns (c : Thread nD τ) ac fullShare X
      ⊢ iprop((owns (c : Thread nD τ) ac fullShare (ac0 (F := F)) -∗ Q ⟨⟩) -∗ WP c (initA ac) Q) := by
  iintro H
  iintro Hk
  unfold initA
  iapply (owns_load Variants.none (c : Thread nD τ) none Set.univ (r := Rect.unit (s := S32x80x256) ![0, 0, 0] S32x80x256.size inb_S32x80x256_S32x80x256_0_0_0)) $$ H
  iintro H
  iapply (owns_store Variants.none (c : Thread nD τ) none Set.univ (r := Rect.unit (s := S32x80x256) ![0, 0, 0] S32x80x256.size inb_S32x80x256_S32x80x256_0_0_0)) $$ H
  iintro H
  rw [overlay_whole]
  iapply (WP_pure c Q)
  iapply Hk
  iexact H

theorem wp_outAct (c : Dev nD) (og : Memref sig .tc .vmem S1x512 .f32) (yb : Memref sig .tc .vmem S1024x512 .bf16) (hyb : yb.IsWhole)
    (oo : Memref sig .tc .vmem S512x1024 .f32) (g : Vec F S1x512 .f32) (Y : Vec F S1024x512 .bf16) (X : Vec F S512x1024 .f32) (Q : Unit → sProp 𝕄) :
    iprop(owns (c : Thread nD τ) og fullShare g ∗ owns (c : Thread nD τ) yb fullShare Y ∗ owns (c : Thread nD τ) oo fullShare X)
      ⊢ iprop((owns (c : Thread nD τ) og fullShare g ∗ owns (c : Thread nD τ) yb fullShare (outV X g) ∗ owns (c : Thread nD τ) oo fullShare X -∗ Q ⟨⟩)
        -∗ WP c (outAct og yb hyb oo) Q) := by
  iintro ⟨H0, H1, H2⟩
  iintro Hk
  unfold outAct
  iapply (owns_load Variants.none (c : Thread nD τ) none Set.univ (r := Rect.unit (s := S512x1024) ![0, 0] S512x1024.size inb_S512x1024_S512x1024_0_0)) $$ H2
  iintro H2
  iapply (owns_load Variants.none (c : Thread nD τ) none Set.univ (r := Rect.unit (s := S1x512) ![0, 0] S1x512.size inb_S1x512_S1x512_0_0)) $$ H0
  iintro H0
  iapply (owns_load Variants.none (c : Thread nD τ) none Set.univ (r := Rect.unit (s := S1024x512) ![0, 0] S1024x512.size inb_S1024x512_S1024x512_0_0)) $$ H1
  iintro H1
  iapply (owns_store Variants.none (c : Thread nD τ) none Set.univ (r := Rect.unit (s := S1024x512) ![0, 0] S1024x512.size inb_S1024x512_S1024x512_0_0)) $$ H1
  iintro H1
  rw [overlay_whole, cut_whole, cut_whole]
  iapply (WP_pure c Q)
  iapply Hk
  isplitl [H0]; · iexact H0
  isplitl [H1]; · iexact H1
  iexact H2

theorem wp_onesL (c : Dev nD) (qa : Memref sig .tc .vmem S8x256x1024 .bf16) (hqa : qa.IsWhole) (Q : Unit → sProp 𝕄) (l : List (Fin 8 × Fin 2)) :
    ∀ X : Vec F S8x256x1024 .bf16,
    owns (c : Thread nD τ) qa fullShare X
      ⊢ iprop((owns (c : Thread nD τ) qa fullShare (l.foldl (fun X p => (rhalf p.1 1 p.2).overlay X (onesP p.1)) X) -∗ Q ⟨⟩)
        -∗ WP c (seq (l.map fun p => onesAct qa hqa p.1 p.2)) Q) := by
  induction l with
  | nil =>
    intro X
    iintro H
    iintro Hk
    iapply (WP_pure c Q)
    iapply Hk
    iexact H
  | cons p l ih =>
    intro X
    iintro H
    iintro Hk
    rw [seq_cons, WP_bind]
    iapply (wp_onesAct c qa hqa p.1 p.2 X _) $$ H
    iintro H
    iapply (ih _) $$ H
    iintro H
    iapply Hk
    iexact H

theorem wp_fillL (c : Dev nD) (qt : Memref sig .tc .vmem S2x512x512 .bf16) (qa : Memref sig .tc .vmem S8x256x1024 .bf16) (hqa : qa.IsWhole)
    (q : Vec F S2x512x512 .bf16) (Q : Unit → sProp 𝕄) (l : List (Fin 8 × Fin 2)) :
    ∀ X : Vec F S8x256x1024 .bf16,
    iprop(owns (c : Thread nD τ) qt fullShare q ∗ owns (c : Thread nD τ) qa fullShare X)
      ⊢ iprop((owns (c : Thread nD τ) qt fullShare q ∗ owns (c : Thread nD τ) qa fullShare (l.foldl (fun X p => (rhalf p.1 0 p.2).overlay X (fillP q p.1 p.2)) X) -∗ Q ⟨⟩)
        -∗ WP c (seq (l.map fun p => fillAct qt qa hqa p.1 p.2)) Q) := by
  induction l with
  | nil =>
    intro X
    iintro H
    iintro Hk
    iapply (WP_pure c Q)
    iapply Hk
    iexact H
  | cons p l ih =>
    intro X
    iintro H
    iintro Hk
    rw [seq_cons, WP_bind]
    iapply (wp_fillAct c qt qa hqa p.1 p.2 q X _) $$ H
    iintro H
    iapply (ih _) $$ H
    iintro H
    iapply Hk
    iexact H

theorem wp_epiL (c : Dev nD) (ac : Memref sig .tc .vmem S32x80x256 .f32) (oo : Memref sig .tc .vmem S512x1024 .f32)
    (a : Vec F S32x80x256 .f32) (Q : Unit → sProp 𝕄) (l : List (Fin 8 × Fin 4)) :
    ∀ X : Vec F S512x1024 .f32,
    iprop(owns (c : Thread nD τ) ac fullShare a ∗ owns (c : Thread nD τ) oo fullShare X)
      ⊢ iprop((owns (c : Thread nD τ) ac fullShare a ∗ owns (c : Thread nD τ) oo fullShare (l.foldl (fun X p => (roo p.1 p.2).overlay X (epiP a p.1 p.2)) X) -∗ Q ⟨⟩)
        -∗ WP c (seq (l.map fun p => epiAct ac oo p.1 p.2)) Q) := by
  induction l with
  | nil =>
    intro X
    iintro H
    iintro Hk
    iapply (WP_pure c Q)
    iapply Hk
    iexact H
  | cons p l ih =>
    intro X
    iintro H
    iintro Hk
    rw [seq_cons, WP_bind]
    iapply (wp_epiAct c ac oo p.1 p.2 a X _) $$ H
    iintro H
    iapply (ih _) $$ H
    iintro H
    iapply Hk
    iexact H

/-- The state the attention items leave at tile `q`. -/
def tileS (q : ℕ) (I : Inp F) (st : Vec F S6x256x256 .f32) : St F :=
  (acts q).foldl (stepS I onesRows diag) ⟨zeroRegs, mm0, ac0, st⟩

theorem wp_items (c : Dev nD) (R : Refs) (q : ℕ) (I : Inp F) (st : Vec F S6x256x256 .f32) (fin : Regs F → KProg F) (Q : Unit → sProp 𝕄)
    (s : St F) (hs : tileS q I st = s) :
    own c R I mm0 ac0 st
      ⊢ iprop((own c R I s.mm s.ac s.st -∗ WP c (fin s.r) Q) -∗ WP c (run R onesRows diag (acts q) fin zeroRegs) Q) := by
  subst hs
  exact wp_run c R I onesRows diag fin Q (acts q) ⟨zeroRegs, mm0, ac0, st⟩

theorem wp_fills (c : Dev nD) (qt : Memref sig .tc .vmem S2x512x512 .bf16) (qa : Memref sig .tc .vmem S8x256x1024 .bf16) (hqa : qa.IsWhole)
    (q : Vec F S2x512x512 .bf16) (Q : Unit → sProp 𝕄) (X Y : Vec F S8x256x1024 .bf16) (hY : fillS q X = Y) :
    iprop(owns (c : Thread nD τ) qt fullShare q ∗ owns (c : Thread nD τ) qa fullShare X)
      ⊢ iprop((owns (c : Thread nD τ) qt fullShare q ∗ owns (c : Thread nD τ) qa fullShare Y -∗ Q ⟨⟩)
        -∗ WP c (seq (fills.map fun p => fillAct qt qa hqa p.1 p.2)) Q) := by
  rw [← hY, fillS]
  exact wp_fillL c qt qa hqa q Q fills X

theorem wp_epis (c : Dev nD) (ac : Memref sig .tc .vmem S32x80x256 .f32) (oo : Memref sig .tc .vmem S512x1024 .f32)
    (a : Vec F S32x80x256 .f32) (Q : Unit → sProp 𝕄) (X Y : Vec F S512x1024 .f32) (hY : epiS a X = Y) :
    iprop(owns (c : Thread nD τ) ac fullShare a ∗ owns (c : Thread nD τ) oo fullShare X)
      ⊢ iprop((owns (c : Thread nD τ) ac fullShare a ∗ owns (c : Thread nD τ) oo fullShare Y -∗ Q ⟨⟩)
        -∗ WP c (seq (slots.map fun p => epiAct ac oo p.1 p.2)) Q) := by
  rw [← hY, epiS]
  exact wp_epiL c ac oo a Q slots X

/-- What a tile's point does to the buffers. -/
theorem wp_tile (c : Dev nD) (q : ℕ) (arg2 : Memref sig .tc .vmem S2x512x512 .bf16) (arg3 : Memref sig .tc .vmem S4096x512 .bf16) (arg4 : Memref sig .tc .vmem S4096x128 .bf16)
    (arg5 : Memref sig .tc .vmem S16x512x256 .bf16) (arg6 : Memref sig .tc .vmem S1x512 .f32) (arg7 : Memref sig .tc .vmem S1024x512 .bf16) (harg7 : arg7.IsWhole)
    (arg8 : Memref sig .tc .vmem S8x256x1024 .bf16) (harg8 : arg8.IsWhole) (arg9 : Memref sig .tc .vmem S32x1x256 .f32) (arg10 : Memref sig .tc .vmem S32x80x256 .f32)
    (arg11 : Memref sig .tc .vmem S512x1024 .f32) (arg12 : Memref sig .tc .vmem S6x256x256 .f32)
    (x0 : Vec F S2x512x512 .bf16) (x1 : Vec F S4096x512 .bf16) (x2 : Vec F S4096x128 .bf16) (x3 : Vec F S16x512x256 .bf16) (x4 : Vec F S1x512 .f32)
    (y : Vec F S1024x512 .bf16) (qa : Vec F S8x256x1024 .bf16) (mm : Vec F S32x1x256 .f32) (ac : Vec F S32x80x256 .f32) (oo : Vec F S512x1024 .f32)
    (st : Vec F S6x256x256 .f32) (Q : Unit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare y
      ∗ owns (c : Thread nD τ) arg8 fullShare qa ∗ owns (c : Thread nD τ) arg9 fullShare mm ∗ owns (c : Thread nD τ) arg10 fullShare ac
      ∗ owns (c : Thread nD τ) arg11 fullShare oo ∗ owns (c : Thread nD τ) arg12 fullShare st)
    ⊢ iprop((owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
      ∗ owns (c : Thread nD τ) arg7 fullShare (outV (epiS (tileS q ⟨x1, x2, x3, fillS x0 qa⟩ st).ac oo) x4)
      ∗ owns (c : Thread nD τ) arg8 fullShare (fillS x0 qa) ∗ (∃ d, owns (c : Thread nD τ) arg9 fullShare d) ∗ (∃ d, owns (c : Thread nD τ) arg10 fullShare d)
      ∗ (∃ d, owns (c : Thread nD τ) arg11 fullShare d) ∗ (∃ d, owns (c : Thread nD τ) arg12 fullShare d) -∗ Q ⟨⟩)
      -∗ WP c (tileProg q arg2 arg3 arg4 arg5 arg6 arg7 harg7 arg8 harg8 arg9 arg10 arg11 arg12) Q) := by
  generalize hY : fillS x0 qa = Y
  generalize hs : tileS q ⟨x1, x2, x3, Y⟩ st = s
  generalize hO : epiS s.ac oo = O
  iintro ⟨H2, H3, H4, H5, H6, H7, H8, H9, H10, H11, H12⟩
  iintro Hk
  rw [tileProg_eq]
  rw [WP_bind]
  icombine H2 H8 as H2
  iapply (wp_fills c arg2 arg8 harg8 x0 _ qa Y hY) $$ H2
  iintro ⟨H2, H8⟩
  rw [WP_bind]
  iapply (wp_initM c arg9 mm _) $$ H9
  iintro H9
  rw [WP_bind]
  iapply (wp_initA c arg10 ac _) $$ H10
  iintro H10
  iapply (wp_items c ⟨arg3, arg4, arg5, arg8, arg9, arg10, arg12⟩ q ⟨x1, x2, x3, Y⟩ st _ Q s hs) $$ [H3 H4 H5 H8 H9 H10 H12]
  · unfold own
    isplitl [H3]; · iexact H3
    isplitl [H4]; · iexact H4
    isplitl [H5]; · iexact H5
    isplitl [H8]; · iexact H8
    isplitl [H9]; · iexact H9
    isplitl [H10]; · iexact H10
    iexact H12
  unfold own
  iintro ⟨H3, H4, H5, H8, H9, H10, H12⟩
  rw [WP_bind]
  icombine H10 H11 as H10
  iapply (wp_epis c arg10 arg11 s.ac _ oo O hO) $$ H10
  iintro ⟨H10, H11⟩
  iapply (wp_outAct c arg6 arg7 harg7 arg11 x4 y _ Q) $$ [H6 H7 H11]
  · isplitl [H6]; · iexact H6
    isplitl [H7]; · iexact H7
    iexact H11
  iintro ⟨H6, H7, H11⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

theorem wp_first (c : Dev nD) (i : grid0.Coords) (arg8 : Memref sig .tc .vmem S8x256x1024 .bf16) (harg8 : arg8.IsWhole)
    (X : Vec F S8x256x1024 .bf16) (Q : Unit → sProp 𝕄) :
    owns (c : Thread nD τ) arg8 fullShare X
      ⊢ iprop((owns (c : Thread nD τ) arg8 fullShare (if isFirst i = 1#1 then onesS X else X) -∗ Q ⟨⟩) -∗ WP c (firstProg i arg8 harg8) Q) := by
  unfold firstProg
  by_cases h : isFirst i = 1#1
  · rw [dif_pos h, if_pos h]
    exact wp_onesL c arg8 harg8 Q fills X
  · rw [dif_neg h, if_neg h]
    iintro H
    iintro Hk
    iapply (WP_pure c Q)
    iapply Hk
    iexact H

end Fox
-- ==== Proof.Pipe.lean ====
module

public import proofs.«01_k».proof.Proof.Tile

@[expose] public section

noncomputable section

namespace Fox

open Idealize.ShloMosaic Idealize.SL.Sem
open Cert.KernelIdeal Cert.KernelIdeal.Facts₀ Cert.KernelIdeal.Facts

section Cuts

variable {s : Shape} {α : Type}

theorem cut_overlay (r : Rect s) (X : s.Idx → α) (w : r.shape.Idx → α) : cut r (r.overlay X w) = w := by
  funext j
  exact Rect.overlay_emb r X w j

/-- A rectangle apart from another on an axis is not touched by writing the other. -/
theorem cut_overlay_apart (off size off' size' : Fin s.rank → ℕ) (inb : ∀ a, off a + size a ≤ s.size a) (inb' : ∀ a, off' a + size' a ≤ s.size a)
    (a : Fin s.rank) (h : off a + size a ≤ off' a ∨ off' a + size' a ≤ off a) (X : s.Idx → α)
    (w : (Rect.unit (s := s) off' size' inb').shape.Idx → α) :
    cut (Rect.unit (s := s) off size inb) ((Rect.unit (s := s) off' size' inb').overlay X w) = cut (Rect.unit (s := s) off size inb) X := by
  funext j
  refine Rect.overlay_of_not_mem (Rect.unit (s := s) off' size' inb') X w ?_
  intro hm
  rw [← Rect.map_emb_univ, Finset.mem_map] at hm
  obtain ⟨k, -, hk⟩ := hm
  have e := congrArg Fin.val (congrFun hk a)
  rw [Rect.emb_apply, Rect.emb_apply] at e
  have e' : off' a + 1 * (k a).val = off a + 1 * (j a).val := e
  have h1 : (k a).val < size' a := (k a).isLt
  have h2 : (j a).val < size a := (j a).isLt
  omega

end Cuts

variable {F : FTy → Type} [FloatOps F] [Named F] [Facts]

theorem cut_rst {r r' : Fin 6} (h : r ≠ r') (X : Vec F S6x256x256 .f32) (w : Vec F S1x256x256 .f32) :
    cut (rst r) ((rst r').overlay X w) = cut (rst r) X := by
  have : r.val ≠ r'.val := fun e => h (Fin.ext e)
  refine cut_overlay_apart _ _ _ _ _ _ 0 ?_ X w
  show r.val + 1 ≤ r'.val ∨ r'.val + 1 ≤ r.val
  omega

theorem cut_rmm {h h' : Fin 8} {u u' : Fin 4} (hne : ¬(h = h' ∧ u = u')) (X : Vec F S32x1x256 .f32) (w : Vec F S1x1x256 .f32) :
    cut (rmm h u) ((rmm h' u').overlay X w) = cut (rmm h u) X := by
  have : h.val * 4 + u.val ≠ h'.val * 4 + u'.val := fun e => hne ⟨Fin.ext (by omega), Fin.ext (by omega)⟩
  refine cut_overlay_apart _ _ _ _ _ _ 0 ?_ X w
  show h.val * 4 + u.val + 1 ≤ h'.val * 4 + u'.val ∨ h'.val * 4 + u'.val + 1 ≤ h.val * 4 + u.val
  omega

theorem cut_rac {h h' : Fin 8} {u u' : Fin 4} (hne : ¬(h = h' ∧ u = u')) (X : Vec F S32x80x256 .f32) (w : Vec F S1x80x256 .f32) :
    cut (rac h u) ((rac h' u').overlay X w) = cut (rac h u) X := by
  have : h.val * 4 + u.val ≠ h'.val * 4 + u'.val := fun e => hne ⟨Fin.ext (by omega), Fin.ext (by omega)⟩
  refine cut_overlay_apart _ _ _ _ _ _ 0 ?_ X w
  show h.val * 4 + u.val + 1 ≤ h'.val * 4 + u'.val ∨ h'.val * 4 + u'.val + 1 ≤ h.val * 4 + u.val
  omega

/-- The keys and forget columns an item's head reads. -/
def keyOf (I : Inp F) (j : Fin 16) (g : Fin 4) : FVec F S256x256 .bf16 := kcat (cut (rkk j g) I.kk) (cut (rfa j) I.fa)

/-- The pair of heads an item's head is in. -/
def pairOf (h : Fin 8) : Fin 4 := ⟨h.val / 2, by omega⟩

/-- An item's logits, those above the diagonal at the mask's value. -/
def logitOf (I : Inp F) (j : Fin 16) (h : Fin 8) (u : Fin 4) : FVec F S256x256 .f32 :=
  logitV (keyOf I j (pairOf h)) (cut (rqa h u) I.qa)

def scoreOf (I : Inp F) (mask : IVec S256x256 1) (it : Item) : FVec F S256x256 .f32 := maskV mask it.masked (logitOf I it.j it.h it.sub)

/-- A slot's maximum and sums after an item. -/
def slotStep (I : Inp F) (ones : FVec F S16x256 .bf16) (mask : IVec S256x256 1) (x : Vec F S1x1x256 .f32 × Vec F S1x80x256 .f32) (it : Item) :
    Vec F S1x1x256 .f32 × Vec F S1x80x256 .f32 :=
  (shapeCast S1x1x256 (maxV x.1 (scoreOf I mask it)) shapeCasts_S1x256_S1x1x256,
   shapeCast S1x80x256 (accV ones (alphaV x.1 (maxV x.1 (scoreOf I mask it)))
      (probV (shapeCast S1x256x256 (scoreOf I mask it) shapeCasts_S256x256_S1x256x256) (maxV x.1 (scoreOf I mask it)))
      (cut (rvv it.j it.h) I.vv) x.2) shapeCasts_S80x256_S1x80x256)

/-- All slots' maxima and sums after an item. -/
def itemStep (I : Inp F) (ones : FVec F S16x256 .bf16) (mask : IVec S256x256 1) (x : Vec F S32x1x256 .f32 × Vec F S32x80x256 .f32) (it : Item) :
    Vec F S32x1x256 .f32 × Vec F S32x80x256 .f32 :=
  ((rmm it.h it.sub).overlay x.1 (slotStep I ones mask (cut (rmm it.h it.sub) x.1, cut (rac it.h it.sub) x.2) it).1,
   (rac it.h it.sub).overlay x.2 (slotStep I ones mask (cut (rmm it.h it.sub) x.1, cut (rac it.h it.sub) x.2) it).2)

/-- Which block of keys each pair of heads holds before item `i`. -/
def held (it : ℕ → Item) (i : ℕ) : Fin 4 → Option (Fin 16) :=
  Nat.rec (fun _ => none) (fun i k g => bif (it i).fresh && (it i).h.val % 2 == 0 && (pairOf (it i).h).val == g.val then some (it i).j else k g) i

variable (I : Inp F) (ones : FVec F S16x256 .bf16) (mask : IVec S256x256 1)

/-- The maxima and sums before item `k`. -/
def upTo (it : ℕ → Item) (x : Vec F S32x1x256 .f32 × Vec F S32x80x256 .f32) (k : ℕ) : Vec F S32x1x256 .f32 × Vec F S32x80x256 .f32 :=
  ((List.range k).map it).foldl (itemStep I ones mask) x

theorem upTo_succ (it : ℕ → Item) (x : Vec F S32x1x256 .f32 × Vec F S32x80x256 .f32) (k : ℕ) :
    upTo I ones mask it x (k + 1) = itemStep I ones mask (upTo I ones mask it x k) (it k) := by
  unfold upTo
  rw [List.range_succ, List.map_append, List.foldl_append]
  rfl

def statOf (it : ℕ → Item) (x : Vec F S32x1x256 .f32 × Vec F S32x80x256 .f32) (k : ℕ) : FVec F S1x256 .f32 × FVec F S1x256 .f32 :=
  (maxV (cut (rmm (it k).h (it k).sub) (upTo I ones mask it x k).1) (scoreOf I mask (it k)),
   alphaV (cut (rmm (it k).h (it k).sub) (upTo I ones mask it x k).1)
    (maxV (cut (rmm (it k).h (it k).sub) (upTo I ones mask it x k).1) (scoreOf I mask (it k))))

theorem stepS_maxp (k0 k1 k2 k3 : FVec F S256x256 .bf16) (y : FVec F S256x256 .f32) (p : List (FVec F S256x256 .f32)) (l : List (FVec F S1x256 .f32 × FVec F S1x256 .f32))
    (mm : Vec F S32x1x256 .f32) (ac : Vec F S32x80x256 .f32) (st : Vec F S6x256x256 .f32) (h : Fin 8) (sub : Fin 4) (ring : Fin 6) (masked : Bool) :
    stepS I ones mask ⟨⟨k0, k1, k2, k3, y :: p, l⟩, mm, ac, st⟩ (.maxp h sub ring masked)
      = ⟨⟨k0, k1, k2, k3, p, l ++ [(maxV (cut (rmm h sub) mm) (maskV mask masked y),
          alphaV (cut (rmm h sub) mm) (maxV (cut (rmm h sub) mm) (maskV mask masked y)))]⟩,
        (rmm h sub).overlay mm (shapeCast S1x1x256 (maxV (cut (rmm h sub) mm) (maskV mask masked y)) shapeCasts_S1x256_S1x1x256), ac,
        (rst ring).overlay st (shapeCast S1x256x256 (maskV mask masked y) shapeCasts_S256x256_S1x256x256)⟩ := rfl

theorem stepS_expp (k0 k1 k2 k3 : FVec F S256x256 .bf16) (y : FVec F S1x256 .f32 × FVec F S1x256 .f32) (p : List (FVec F S256x256 .f32)) (l : List (FVec F S1x256 .f32 × FVec F S1x256 .f32))
    (mm : Vec F S32x1x256 .f32) (ac : Vec F S32x80x256 .f32) (st : Vec F S6x256x256 .f32) (j : Fin 16) (h : Fin 8) (sub : Fin 4) (ring : Fin 6) :
    stepS I ones mask ⟨⟨k0, k1, k2, k3, p, y :: l⟩, mm, ac, st⟩ (.expp j h sub ring)
      = ⟨⟨k0, k1, k2, k3, p, l⟩, mm,
        (rac h sub).overlay ac (shapeCast S1x80x256 (accV ones y.2 (probV (cut (rst ring) st) y.1) (cut (rvv j h) I.vv)
          (cut (rac h sub) ac)) shapeCasts_S80x256_S1x80x256), st⟩ := rfl

theorem ring_self (r : Fin 6) (st : Vec F S6x256x256 .f32) (w : Vec F S1x256x256 .f32) :
    cut (rst r) ((rst r).overlay st w) = w := cut_overlay (rst r) st w

theorem ring_other (r r' : Fin 6) (h : r ≠ r') (st : Vec F S6x256x256 .f32) (w v : Vec F S1x256x256 .f32) (hv : cut (rst r) st = v) :
    cut (rst r) ((rst r').overlay st w) = v := (cut_rst h st w).trans hv

/-- The state before round `i`, `p` logits ahead. -/
structure Inv (n : ℕ) (it : ℕ → Item) (x : Vec F S32x1x256 .f32 × Vec F S32x80x256 .f32) (a i e : ℕ) (s : St F) : Prop where
  keys : ∀ (g : Fin 4) (j : Fin 16), held it a g = some j → s.r.get g.val = keyOf I j g
  pend : s.r.pend = (List.range' i (a - i)).map fun k => logitOf I (it k).j (it k).h (it k).sub
  stats : s.r.stats = (List.range' e (min i n - e)).map (statOf I ones mask it x)
  ring : ∀ k, e ≤ k → k < min i n → cut (rst ⟨k % 6, by omega⟩) s.st = shapeCast S1x256x256 (scoreOf I mask (it k)) shapeCasts_S256x256_S1x256x256
  mm : s.mm = (upTo I ones mask it x (min i n)).1
  ac : s.ac = (upTo I ones mask it x e).2

theorem get_set (r : Regs F) (g g' : Fin 4) (v : FVec F S256x256 .bf16) :
    (r.set g'.val v).get g.val = if g = g' then v else r.get g.val := by
  obtain ⟨a, b, c, d, p, l⟩ := r
  fin_cases g <;> fin_cases g' <;> rfl

theorem set_pend (r : Regs F) (g' : Fin 4) (v : FVec F S256x256 .bf16) : (r.set g'.val v).pend = r.pend := by
  obtain ⟨a, b, c, d, p, l⟩ := r
  fin_cases g' <;> rfl

theorem set_stats (r : Regs F) (g' : Fin 4) (v : FVec F S256x256 .bf16) : (r.set g'.val v).stats = r.stats := by
  obtain ⟨a, b, c, d, p, l⟩ := r
  fin_cases g' <;> rfl

theorem push_pend (r : Regs F) (v : FVec F S256x256 .f32) : (r.push v).pend = r.pend ++ [v] := rfl
theorem push_stats (r : Regs F) (v : FVec F S256x256 .f32) : (r.push v).stats = r.stats := rfl
theorem push_get (r : Regs F) (v : FVec F S256x256 .f32) (g : Fin 4) : (r.push v).get g.val = r.get g.val := by
  obtain ⟨a, b, c, d, p, l⟩ := r
  fin_cases g <;> rfl

variable {I ones mask}

/-- An item's logits come in. -/
theorem inv_qk {n : ℕ} {it : ℕ → Item} {x : Vec F S32x1x256 .f32 × Vec F S32x80x256 .f32} {a i e : ℕ} {s : St F}
    (hold : ∀ k, k < n → held it (k + 1) (pairOf (it k).h) = some (it k).j)
    (h : Inv I ones mask n it x (min a n) i e s) (hi : a < n → i ≤ a) :
    Inv I ones mask n it x (min (a + 1) n) i e ((qk n it a).foldl (stepS I ones mask) s) := by
  by_cases ha : a < n
  · have e1 : min a n = a := by omega
    have e2 : min (a + 1) n = a + 1 := by omega
    rw [e1] at h
    have hi := hi ha
    rw [e2]
    have hb : Nat.blt a n = true := by rw [Nat.blt_eq]; exact ha
    have key : ∀ s' : St F, (∀ (g : Fin 4) (j : Fin 16), held it (a + 1) g = some j → s'.r.get g.val = keyOf I j g) →
        s'.r.pend = s.r.pend → s'.r.stats = s.r.stats → s'.mm = s.mm → s'.ac = s.ac → s'.st = s.st →
        Inv I ones mask n it x (a + 1) i e (stepS I ones mask s' (.logit (it a).h (it a).sub (pairOf (it a).h))) := by
      intro s' hk hp hs hm hc ht
      refine ⟨fun g j hj => ?_, ?_, ?_, ?_, ?_, ?_⟩
      · show (s'.r.push _).get g.val = _
        rw [push_get]
        exact hk g j hj
      · show (s'.r.push _).pend = _
        rw [push_pend, hp, h.pend, show a + 1 - i = (a - i) + 1 by omega, List.range'_concat, List.map_append]
        congr 1
        rw [show i + 1 * (a - i) = a by omega]
        show [logitV (s'.r.get (pairOf (it a).h).val) (cut (rqa (it a).h (it a).sub) I.qa)] = _
        rw [hk _ _ (hold a ha)]
        rfl
      · show (s'.r.push _).stats = _
        rw [push_stats, hs, h.stats]
      · intro k h1 h2
        show cut _ s'.st = _
        rw [ht]
        exact h.ring k h1 h2
      · show s'.mm = _
        rw [hm, h.mm]
      · show s'.ac = _
        rw [hc, h.ac]
    unfold qk
    rw [hb]
    by_cases hf : ((it a).fresh && (it a).h.val % 2 == 0) = true
    · rw [hf]
      show Inv I ones mask n it x (a + 1) i e (stepS I ones mask (stepS I ones mask s (.kload (it a).j (pairOf (it a).h))) (.logit (it a).h (it a).sub (pairOf (it a).h)))
      refine key _ (fun g j hj => ?_) ?_ ?_ rfl rfl rfl
      · show (s.r.set (pairOf (it a).h).val _).get g.val = _
        rw [get_set]
        have hj' : (bif (it a).fresh && (it a).h.val % 2 == 0 && (pairOf (it a).h).val == g.val then some (it a).j else held it a g) = some j := hj
        rw [hf, Bool.true_and] at hj'
        by_cases hg : g = pairOf (it a).h
        · rw [if_pos hg]
          subst hg
          rw [beq_self_eq_true] at hj'
          have : (it a).j = j := Option.some.inj hj'
          rw [this]
          rfl
        · rw [if_neg hg]
          have : ((pairOf (it a).h).val == g.val) = false := by
            rw [beq_eq_false_iff_ne]
            exact fun e => hg (Fin.ext e.symm)
          rw [this] at hj'
          exact h.keys g j hj'
      · exact set_pend _ _ _
      · exact set_stats _ _ _
    · rw [Bool.not_eq_true] at hf
      rw [hf]
      show Inv I ones mask n it x (a + 1) i e (stepS I ones mask s (.logit (it a).h (it a).sub (pairOf (it a).h)))
      refine key s (fun g j hj => ?_) rfl rfl rfl rfl rfl
      have hj' : (bif (it a).fresh && (it a).h.val % 2 == 0 && (pairOf (it a).h).val == g.val then some (it a).j else held it a g) = some j := hj
      rw [hf, Bool.false_and] at hj'
      exact h.keys g j hj'
  · have e1 : min a n = n := by omega
    have e2 : min (a + 1) n = n := by omega
    rw [e1] at h
    rw [e2]
    have hb : Nat.blt a n = false := by
      rw [Bool.eq_false_iff, ne_eq, Nat.blt_eq]
      exact ha
    unfold qk
    rw [hb]
    exact h

/-- An item's maximum is taken. -/
theorem inv_mx {n : ℕ} {it : ℕ → Item} {x : Vec F S32x1x256 .f32 × Vec F S32x80x256 .f32} {a i e : ℕ} {s : St F}
    (h : Inv I ones mask n it x a i e s) (ha : i < n → i < a) (he : e ≤ i) (he' : i < e + 6) (hn : i ≥ n → a = n) :
    Inv I ones mask n it x a (i + 1) e ((mx n it i).foldl (stepS I ones mask) s) := by
  by_cases hi : i < n
  · have hb : Nat.blt i n = true := by rw [Nat.blt_eq]; exact hi
    have e1 : min i n = i := by omega
    have e2 : min (i + 1) n = i + 1 := by omega
    obtain ⟨hk, hp, hs, hr, hm, hc⟩ := h
    obtain ⟨⟨k0, k1, k2, k3, p, l⟩, mm, ac, st⟩ := s
    have hp' : p = (List.range' i (a - i)).map fun k => logitOf I (it k).j (it k).h (it k).sub := hp
    have hs' : l = (List.range' e (min i n - e)).map (statOf I ones mask it x) := hs
    have hm' : mm = (upTo I ones mask it x (min i n)).1 := hm
    rw [show a - i = (a - (i + 1)) + 1 by have := ha hi; omega, List.range'_succ, List.map_cons] at hp'
    rw [e1] at hs' hm'
    subst hp' hs' hm'
    unfold mx
    rw [hb]
    simp only [cond_true, List.foldl_cons, List.foldl_nil]
    rw [stepS_maxp]
    refine ⟨?_, ?_, ?_, ?_, ?_, ?_⟩
    · intro g j hj
      have := hk g j hj
      rw [← this]
      fin_cases g <;> rfl
    · rfl
    · rw [e2, show i + 1 - e = (i - e) + 1 by omega, List.range'_concat, List.map_append, show e + 1 * (i - e) = i by omega]
      sl_kernel_rfl
    · intro k h1 h2
      dsimp only
      by_cases hki : k = i
      · subst hki
        exact ring_self _ st _
      · refine ring_other _ _ (fun e => ?_) st _ _ (hr k h1 (by omega))
        have := congrArg Fin.val e
        have : k % 6 = i % 6 := this
        omega
    · rw [e2, upTo_succ]
      sl_kernel_rfl
    · exact hc
  · have hb : Nat.blt i n = false := by
      rw [Bool.eq_false_iff, ne_eq, Nat.blt_eq]
      exact hi
    have e1 : min i n = n := by omega
    have e2 : min (i + 1) n = n := by omega
    have := hn (by omega)
    obtain ⟨hk, hp, hs, hr, hm, hc⟩ := h
    rw [e1] at hs hr hm
    unfold mx
    rw [hb]
    refine ⟨hk, ?_, ?_, ?_, ?_, hc⟩
    · show s.r.pend = _
      rw [hp, show a - i = 0 by omega, show a - (i + 1) = 0 by omega]
      rfl
    · rw [e2]; exact hs
    · rw [e2]; exact hr
    · rw [e2]; exact hm

/-- An item's weights are added. -/
theorem inv_ex {n : ℕ} {it : ℕ → Item} {x : Vec F S32x1x256 .f32 × Vec F S32x80x256 .f32} {a i e : ℕ} {s : St F}
    (h : Inv I ones mask n it x a (i + 1) e s) (he : e = i - 3) (hn : e < n) :
    Inv I ones mask n it x a (i + 1) (i + 1 - 3) ((ex n it i).foldl (stepS I ones mask) s) := by
  by_cases hi : 3 ≤ i
  · have hb : Nat.ble 3 i = true := by rw [Nat.ble_eq]; exact hi
    have e3 : i + 1 - 3 = e + 1 := by omega
    obtain ⟨hk, hp, hs, hr, hm, hc⟩ := h
    obtain ⟨⟨k0, k1, k2, k3, p, l⟩, mm, ac, st⟩ := s
    have hs' : l = (List.range' e (min (i + 1) n - e)).map (statOf I ones mask it x) := hs
    have hc' : ac = (upTo I ones mask it x e).2 := hc
    rw [show min (i + 1) n - e = (min (i + 1) n - (e + 1)) + 1 by omega, List.range'_succ, List.map_cons] at hs'
    subst hs' hc'
    have hre := hr e (le_refl _) (by omega)
    have hre' : cut (rst ⟨e % 6, by omega⟩) st = _ := hre
    unfold ex
    rw [hb, e3]
    subst he
    simp only [cond_true, List.foldl_cons, List.foldl_nil]
    rw [stepS_expp]
    refine ⟨?_, hp, rfl, ?_, hm, ?_⟩
    · intro g j hj
      have := hk g j hj
      rw [← this]
      fin_cases g <;> rfl
    · intro k h1 h2
      exact hr k (by omega) h2
    · rw [upTo_succ]
      simp only
      rw [hre']
      sl_kernel_rfl
  · have hb : Nat.ble 3 i = false := by
      rw [Bool.eq_false_iff, ne_eq, Nat.ble_eq]
      exact hi
    unfold ex
    rw [hb]
    rw [show i + 1 - 3 = e by omega]
    exact h

/-- The steps of `n` items do what the items do one after the other. -/
theorem sched_spec {n : ℕ} {it : ℕ → Item} (hn : 8 ≤ n) (hold : ∀ k, k < n → held it (k + 1) (pairOf (it k).h) = some (it k).j)
    (s : St F) (hp : s.r.pend = []) (hs : s.r.stats = []) :
    ((sched n it).foldl (stepS I ones mask) s).r.pend = [] ∧ ((sched n it).foldl (stepS I ones mask) s).r.stats = []
      ∧ (((sched n it).foldl (stepS I ones mask) s).mm, ((sched n it).foldl (stepS I ones mask) s).ac) = upTo I ones mask it (s.mm, s.ac) n := by
  have h0 : Inv I ones mask n it (s.mm, s.ac) (min 0 n) 0 0 s := by
    have e0 : min 0 n = 0 := by omega
    rw [e0]
    refine ⟨fun g j hj => ?_, ?_, ?_, ?_, ?_, ?_⟩
    · exact absurd hj (by simp [held])
    · exact hp
    · rw [e0]; exact hs
    · intro k h1 h2; omega
    · rw [e0]; rfl
    · rfl
  have hpre : ∀ k, Inv I ones mask n it (s.mm, s.ac) (min k n) 0 0 (((List.range k).flatMap (qk n it)).foldl (stepS I ones mask) s) := by
    intro k
    induction k with
    | zero => exact h0
    | succ k ih =>
      rw [List.range_succ, List.flatMap_append, List.foldl_append, List.flatMap_singleton]
      exact inv_qk hold ih (fun _ => Nat.zero_le _)
  generalize hs5 : ((List.range 5).flatMap (qk n it)).foldl (stepS I ones mask) s = s5
  have h5 := hpre 5
  rw [hs5] at h5
  have hrounds : ∀ i, i ≤ n + 3 → Inv I ones mask n it (s.mm, s.ac) (min (i + 5) n) i (i - 3)
      (((List.range i).flatMap (round n it)).foldl (stepS I ones mask) s5) := by
    intro i
    induction i with
    | zero => intro _; exact h5
    | succ i ih =>
      intro hi
      have h1 := ih (by omega)
      rw [List.range_succ, List.flatMap_append, List.foldl_append, List.flatMap_singleton]
      generalize ((List.range i).flatMap (round n it)).foldl (stepS I ones mask) s5 = s6 at h1 ⊢
      unfold round
      rw [List.foldl_append, List.foldl_append, show i + 1 + 5 = i + 5 + 1 by omega]
      have h2 := inv_qk hold h1 (fun _ => by omega)
      have h3 := inv_mx h2 (fun _ => by omega) (by omega) (by omega) (fun _ => by omega)
      exact inv_ex h3 rfl (by omega)
  have hl := hrounds (n + 3) (le_refl _)
  have hsch : (sched n it).foldl (stepS I ones mask) s = ((List.range (n + 3)).flatMap (round n it)).foldl (stepS I ones mask) s5 := by
    unfold sched
    rw [List.foldl_append, hs5]
  rw [hsch]
  obtain ⟨hk, hp, hst, hr, hm, hc⟩ := hl
  refine ⟨?_, ?_, ?_⟩
  · rw [hp, show min (n + 3 + 5) n - (n + 3) = 0 by omega]
    rfl
  · rw [hst, show min (n + 3) n - (n + 3 - 3) = 0 by omega]
    rfl
  · rw [hm, hc, show min (n + 3) n = n by omega, show n + 3 - 3 = n by omega]

end Fox
-- ==== Proof.Items.lean ====
module

public import proofs.«01_k».proof.Proof.Pipe

@[expose] public section

noncomputable section

namespace Fox

open Idealize.ShloMosaic Idealize.SL.Sem
open Cert.KernelIdeal Cert.KernelIdeal.Facts₀ Cert.KernelIdeal.Facts

variable {F : FTy → Type} [FloatOps F] [Named F] [Facts]

/-- A tile's items in order. -/
def items (q : ℕ) : List Item := ((List.range q).flatMap fun t => (List.range 128).map (item1 t)) ++ (List.range 80).map (item2 q)

def holdOk (n : ℕ) (it : ℕ → Item) : Bool :=
  ((List.range n).foldl (fun (x : Bool × (Fin 4 → Option (Fin 16))) k =>
    let y : Fin 4 → Option (Fin 16) := fun g => bif (it k).fresh && (it k).h.val % 2 == 0 && (pairOf (it k).h).val == g.val then some (it k).j else x.2 g
    let z : List (Option (Fin 16)) := [y 0, y 1, y 2, y 3]
    (x.1 && decide (y (pairOf (it k).h) = some (it k).j), fun g => z.getD g.val none)) (true, fun _ => none)).1

theorem holdOk_spec (n : ℕ) (it : ℕ → Item) (h : holdOk n it = true) : ∀ k, k < n → held it (k + 1) (pairOf (it k).h) = some (it k).j := by
  have key : ∀ n, ((List.range n).foldl (fun (x : Bool × (Fin 4 → Option (Fin 16))) k =>
    let y : Fin 4 → Option (Fin 16) := fun g => bif (it k).fresh && (it k).h.val % 2 == 0 && (pairOf (it k).h).val == g.val then some (it k).j else x.2 g
    let z : List (Option (Fin 16)) := [y 0, y 1, y 2, y 3]
    (x.1 && decide (y (pairOf (it k).h) = some (it k).j), fun g => z.getD g.val none)) (true, fun _ => none)).2 = held it n
    ∧ (((List.range n).foldl (fun (x : Bool × (Fin 4 → Option (Fin 16))) k =>
    let y : Fin 4 → Option (Fin 16) := fun g => bif (it k).fresh && (it k).h.val % 2 == 0 && (pairOf (it k).h).val == g.val then some (it k).j else x.2 g
    let z : List (Option (Fin 16)) := [y 0, y 1, y 2, y 3]
    (x.1 && decide (y (pairOf (it k).h) = some (it k).j), fun g => z.getD g.val none)) (true, fun _ => none)).1 = true →
      ∀ k, k < n → held it (k + 1) (pairOf (it k).h) = some (it k).j) := by
    intro n
    induction n with
    | zero => exact ⟨rfl, fun _ k hk => absurd hk (Nat.not_lt_zero k)⟩
    | succ n ih =>
      rw [List.range_succ, List.foldl_append, List.foldl_cons, List.foldl_nil]
      generalize (List.range n).foldl _ _ = x at ih ⊢
      obtain ⟨b, g⟩ := x
      obtain ⟨h1, h2⟩ := ih
      have h1' : g = held it n := h1
      subst h1'
      refine ⟨?_, ?_⟩
      · funext a
        fin_cases a <;> rfl
      · intro hb k hk
        rw [Bool.and_eq_true, decide_eq_true_eq] at hb
        rcases Nat.lt_succ_iff_lt_or_eq.mp hk with hk | hk
        · exact h2 hb.1 k hk
        · subst hk
          exact hb.2
  exact (key n).2 h

theorem hold1 (t : ℕ) (ht : t < 3) : holdOk 128 (item1 t) = true := by
  interval_cases t <;> decide +kernel

theorem hold2 (q : ℕ) (hq : q < 4) : holdOk 80 (item2 q) = true := by
  interval_cases q <;> decide +kernel

variable (I : Inp F) (ones : FVec F S16x256 .bf16) (mask : IVec S256x256 1)

/-- The pipelined steps of a tile do what its items do one after the other. -/
theorem acts_spec (q : ℕ) (hq : q < 4) (s : St F) (hp : s.r.pend = []) (hs : s.r.stats = []) :
    (((acts q).foldl (stepS I ones mask) s).mm, ((acts q).foldl (stepS I ones mask) s).ac) = (items q).foldl (itemStep I ones mask) (s.mm, s.ac) := by
  have key : ∀ n, n ≤ 3 → ((((List.range n).flatMap fun t => sched 128 (item1 t)).foldl (stepS I ones mask) s).r.pend = []
      ∧ (((List.range n).flatMap fun t => sched 128 (item1 t)).foldl (stepS I ones mask) s).r.stats = []
      ∧ ((((List.range n).flatMap fun t => sched 128 (item1 t)).foldl (stepS I ones mask) s).mm, (((List.range n).flatMap fun t => sched 128 (item1 t)).foldl (stepS I ones mask) s).ac)
        = ((List.range n).flatMap fun t => (List.range 128).map (item1 t)).foldl (itemStep I ones mask) (s.mm, s.ac)) := by
    intro n
    induction n with
    | zero => exact fun _ => ⟨hp, hs, rfl⟩
    | succ n ih =>
      intro hn
      obtain ⟨h1, h2, h3⟩ := ih (by omega)
      rw [List.range_succ, List.flatMap_append, List.flatMap_append, List.foldl_append, List.foldl_append, List.flatMap_singleton, List.flatMap_singleton, ← h3]
      generalize ((List.range n).flatMap fun t => sched 128 (item1 t)).foldl (stepS I ones mask) s = s' at h1 h2 ⊢
      exact sched_spec (by omega) (holdOk_spec _ _ (hold1 n (by omega))) s' h1 h2
  obtain ⟨h1, h2, h3⟩ := key q (by omega)
  unfold acts items
  rw [List.foldl_append, List.foldl_append, ← h3]
  generalize ((List.range q).flatMap fun t => sched 128 (item1 t)).foldl (stepS I ones mask) s = s' at h1 h2 ⊢
  exact (sched_spec (by omega) (holdOk_spec _ _ (hold2 q hq)) s' h1 h2).2.2

/-! ## Slot by slot -/

def cutM (h : Fin 8) (u : Fin 4) (X : Vec F S32x1x256 .f32) : Vec F S1x1x256 .f32 := cut (rmm h u) X
def cutA (h : Fin 8) (u : Fin 4) (X : Vec F S32x80x256 .f32) : Vec F S1x80x256 .f32 := cut (rac h u) X

theorem cutM_self (h : Fin 8) (u : Fin 4) (X : Vec F S32x1x256 .f32) (w : Vec F S1x1x256 .f32) : cutM h u ((rmm h u).overlay X w) = w :=
  cut_overlay (rmm h u) X w

theorem cutA_self (h : Fin 8) (u : Fin 4) (X : Vec F S32x80x256 .f32) (w : Vec F S1x80x256 .f32) : cutA h u ((rac h u).overlay X w) = w :=
  cut_overlay (rac h u) X w

theorem cutM_other {h h' : Fin 8} {u u' : Fin 4} (hne : ¬(h = h' ∧ u = u')) (X : Vec F S32x1x256 .f32) (w : Vec F S1x1x256 .f32) :
    cutM h u ((rmm h' u').overlay X w) = cutM h u X := cut_rmm hne X w

theorem cutA_other {h h' : Fin 8} {u u' : Fin 4} (hne : ¬(h = h' ∧ u = u')) (X : Vec F S32x80x256 .f32) (w : Vec F S1x80x256 .f32) :
    cutA h u ((rac h' u').overlay X w) = cutA h u X := cut_rac hne X w

theorem itemStep_eq (it : Item) (x : Vec F S32x1x256 .f32 × Vec F S32x80x256 .f32) :
    itemStep I ones mask x it = ((rmm it.h it.sub).overlay x.1 (slotStep I ones mask (cutM it.h it.sub x.1, cutA it.h it.sub x.2) it).1,
      (rac it.h it.sub).overlay x.2 (slotStep I ones mask (cutM it.h it.sub x.1, cutA it.h it.sub x.2) it).2) := by
  sl_kernel_rfl

theorem itemStep_self (it : Item) (x : Vec F S32x1x256 .f32 × Vec F S32x80x256 .f32) :
    (cutM it.h it.sub (itemStep I ones mask x it).1, cutA it.h it.sub (itemStep I ones mask x it).2)
      = slotStep I ones mask (cutM it.h it.sub x.1, cutA it.h it.sub x.2) it := by
  rw [itemStep_eq]
  generalize slotStep I ones mask (cutM it.h it.sub x.1, cutA it.h it.sub x.2) it = y
  dsimp only
  rw [cutM_self, cutA_self]

theorem itemStep_other (it : Item) {h : Fin 8} {u : Fin 4} (hne : ¬(h = it.h ∧ u = it.sub)) (x : Vec F S32x1x256 .f32 × Vec F S32x80x256 .f32) :
    (cutM h u (itemStep I ones mask x it).1, cutA h u (itemStep I ones mask x it).2) = (cutM h u x.1, cutA h u x.2) := by
  rw [itemStep_eq]
  generalize slotStep I ones mask (cutM it.h it.sub x.1, cutA it.h it.sub x.2) it = y
  dsimp only
  rw [cutM_other hne, cutA_other hne]

/-- What one slot's buffers hold after a list of items is what the slot's own items make of them. -/
theorem slot_fold (h : Fin 8) (u : Fin 4) (l : List Item) : ∀ x : Vec F S32x1x256 .f32 × Vec F S32x80x256 .f32,
    (cutM h u (l.foldl (itemStep I ones mask) x).1, cutA h u (l.foldl (itemStep I ones mask) x).2)
      = (l.filter fun it => it.h == h && it.sub == u).foldl (slotStep I ones mask) (cutM h u x.1, cutA h u x.2) := by
  induction l with
  | nil => exact fun x => rfl
  | cons it l ih =>
    intro x
    rw [List.foldl_cons, ih]
    by_cases e : it.h = h ∧ it.sub = u
    · obtain ⟨e1, e2⟩ := e
      have hf : (it.h == h && it.sub == u) = true := by rw [e1, e2, beq_self_eq_true, beq_self_eq_true]; rfl
      rw [List.filter_cons_of_pos (p := fun it : Item => it.h == h && it.sub == u) hf, List.foldl_cons]
      subst e1 e2
      rw [itemStep_self]
    · have hf : ¬(it.h == h && it.sub == u) = true := by
        rw [Bool.and_eq_true, beq_iff_eq, beq_iff_eq]
        exact e
      have e' : ¬(h = it.h ∧ u = it.sub) := fun w => e ⟨w.1.symm, w.2.symm⟩
      rw [List.filter_cons_of_neg (p := fun it : Item => it.h == h && it.sub == u) hf, itemStep_other I ones mask it e']

/-- A slot's items but whether they bring keys. -/
theorem slot_items (q : ℕ) (hq : q < 4) (h : Fin 8) (u : Fin 4) :
    ((items q).filter fun it => it.h == h && it.sub == u).map (fun it => (it.j.val, it.masked))
      = (List.range (4 * q + u.val)).map (fun j => (j, false)) ++ [(4 * q + u.val, true)] := by
  have key : ∀ q : Fin 4, ∀ h : Fin 8, ∀ u : Fin 4, ((items q.val).filter fun it => it.h == h && it.sub == u).map (fun it => (it.j.val, it.masked))
      = (List.range (4 * q.val + u.val)).map (fun j => (j, false)) ++ [(4 * q.val + u.val, true)] := by
    decide +kernel
  exact key ⟨q, hq⟩ h u

/-- Item of block `j` of a slot. -/
def slotItem (h : Fin 8) (u : Fin 4) (j : ℕ) (masked : Bool) : Item := ⟨⟨j % 16, by omega⟩, h, u, false, masked⟩

/-- A slot's maximum and sums after its first `k` whole blocks. -/
def flash (h : Fin 8) (u : Fin 4) (k : ℕ) (x : Vec F S1x1x256 .f32 × Vec F S1x80x256 .f32) : Vec F S1x1x256 .f32 × Vec F S1x80x256 .f32 :=
  Nat.rec x (fun j y => slotStep I ones mask y (slotItem h u j false)) k

theorem slot_spec (q : ℕ) (hq : q < 4) (h : Fin 8) (u : Fin 4) (x : Vec F S32x1x256 .f32 × Vec F S32x80x256 .f32) :
    cutA h u ((items q).foldl (itemStep I ones mask) x).2
      = (slotStep I ones mask (flash I ones mask h u (4 * q + u.val) (cutM h u x.1, cutA h u x.2)) (slotItem h u (4 * q + u.val) true)).2 := by
  have e := congrArg Prod.snd (slot_fold I ones mask h u (items q) x)
  refine e.trans ?_
  have norm : ∀ (l : List Item) (y : Vec F S1x1x256 .f32 × Vec F S1x80x256 .f32), (∀ it ∈ l, it.h = h ∧ it.sub = u) →
      l.foldl (slotStep I ones mask) y = (l.map fun it => (it.j.val, it.masked)).foldl (fun y p => slotStep I ones mask y (slotItem h u p.1 p.2)) y := by
    intro l
    induction l with
    | nil => exact fun y _ => rfl
    | cons it l ih =>
      intro y hl
      rw [List.foldl_cons, List.map_cons, List.foldl_cons, ih _ (fun a ha => hl a (List.mem_cons_of_mem _ ha))]
      obtain ⟨e1, e2⟩ := hl it List.mem_cons_self
      obtain ⟨j, h', u', f, mk⟩ := it
      have e1' : h' = h := e1
      have e2' : u' = u := e2
      subst e1' e2'
      have : slotStep I ones mask y (slotItem h' u' j.val mk) = slotStep I ones mask y ⟨j, h', u', f, mk⟩ := by
        have hj : (⟨j.val % 16, by omega⟩ : Fin 16) = j := Fin.ext (Nat.mod_eq_of_lt j.isLt)
        unfold slotItem
        rw [hj]
        rfl
      rw [this]
  rw [norm _ _ (fun it hit => by
    have := (List.mem_filter.mp hit).2
    rw [Bool.and_eq_true, beq_iff_eq, beq_iff_eq] at this
    exact this), slot_items q hq, List.foldl_append, List.foldl_cons, List.foldl_nil]
  congr 2
  generalize 4 * q + u.val = k
  induction k with
  | zero => rfl
  | succ k ih =>
    rw [List.range_succ, List.map_append, List.foldl_append, ih]
    rfl

end Fox
-- ==== Proof.Out.lean ====
module

public import proofs.«01_k».proof.Proof.Items

@[expose] public section

noncomputable section

namespace Fox

open Idealize.ShloMosaic Idealize.SL.Sem
open Cert.KernelIdeal Cert.KernelIdeal.Facts₀ Cert.KernelIdeal.Facts

variable {F : FTy → Type} [FloatOps F] [Named F] [Facts]

def cutH (h : Fin 8) (lo t : Fin 2) (X : Vec F S8x256x1024 .bf16) : Vec F S1x128x512 .bf16 := cut (rhalf h lo t) X
def cutO (h : Fin 8) (u : Fin 4) (X : Vec F S512x1024 .f32) : Vec F S64x256 .f32 := cut (roo h u) X

theorem cutH_self (h : Fin 8) (lo t : Fin 2) (X : Vec F S8x256x1024 .bf16) (w : Vec F S1x128x512 .bf16) :
    cutH h lo t ((rhalf h lo t).overlay X w) = w := cut_overlay (rhalf h lo t) X w

theorem cutO_self (h : Fin 8) (u : Fin 4) (X : Vec F S512x1024 .f32) (w : Vec F S64x256 .f32) :
    cutO h u ((roo h u).overlay X w) = w := cut_overlay (roo h u) X w

theorem cutH_other {h h' : Fin 8} {lo lo' t t' : Fin 2} (hne : ¬(h = h' ∧ lo = lo' ∧ t = t')) (X : Vec F S8x256x1024 .bf16) (w : Vec F S1x128x512 .bf16) :
    cutH h lo t ((rhalf h' lo' t').overlay X w) = cutH h lo t X := by
  by_cases h1 : h = h'
  · by_cases h2 : lo = lo'
    · have h3 : t.val ≠ t'.val := fun e => hne ⟨h1, h2, Fin.ext e⟩
      refine cut_overlay_apart (s := S8x256x1024) _ _ _ _ (half_inb h lo t) (half_inb h' lo' t') (2 : Fin 3) ?_ X w
      show t.val * 512 + 512 ≤ t'.val * 512 ∨ t'.val * 512 + 512 ≤ t.val * 512
      omega
    · have h3 : lo.val ≠ lo'.val := fun e => h2 (Fin.ext e)
      refine cut_overlay_apart (s := S8x256x1024) _ _ _ _ (half_inb h lo t) (half_inb h' lo' t') (1 : Fin 3) ?_ X w
      show lo.val * 128 + 128 ≤ lo'.val * 128 ∨ lo'.val * 128 + 128 ≤ lo.val * 128
      omega
  · have h3 : h.val ≠ h'.val := fun e => h1 (Fin.ext e)
    refine cut_overlay_apart (s := S8x256x1024) _ _ _ _ (half_inb h lo t) (half_inb h' lo' t') (0 : Fin 3) ?_ X w
    show h.val + 1 ≤ h'.val ∨ h'.val + 1 ≤ h.val
    omega

theorem cutO_other {h h' : Fin 8} {u u' : Fin 4} (hne : ¬(h = h' ∧ u = u')) (X : Vec F S512x1024 .f32) (w : Vec F S64x256 .f32) :
    cutO h u ((roo h' u').overlay X w) = cutO h u X := by
  by_cases h1 : h = h'
  · have h3 : u.val ≠ u'.val := fun e => hne ⟨h1, Fin.ext e⟩
    refine cut_overlay_apart (s := S512x1024) _ _ _ _ (o_inb h u) (o_inb h' u') (1 : Fin 2) ?_ X w
    show u.val * 256 + 256 ≤ u'.val * 256 ∨ u'.val * 256 + 256 ≤ u.val * 256
    omega
  · have h3 : h.val ≠ h'.val := fun e => h1 (Fin.ext e)
    refine cut_overlay_apart (s := S512x1024) _ _ _ _ (o_inb h u) (o_inb h' u') (0 : Fin 2) ?_ X w
    show h.val * 64 + 64 ≤ h'.val * 64 ∨ h'.val * 64 + 64 ≤ h.val * 64
    omega

theorem mem_fills (p : Fin 8 × Fin 2) : p ∈ fills := by
  have : ∀ a : Fin 8, ∀ b : Fin 2, (a, b) ∈ fills := by decide +kernel
  exact this p.1 p.2

theorem mem_slots (p : Fin 8 × Fin 4) : p ∈ slots := by
  have : ∀ a : Fin 8, ∀ b : Fin 4, (a, b) ∈ slots := by decide +kernel
  exact this p.1 p.2

/-- Writing halves one after the other leaves each written half at what was written there. -/
theorem cutH_fold (lo : Fin 2) (w : Fin 8 → Fin 2 → Vec F S1x128x512 .bf16) (X : Vec F S8x256x1024 .bf16) (h : Fin 8) (t : Fin 2) (l : List (Fin 8 × Fin 2)) :
    (h, t) ∈ l → cutH h lo t (l.foldl (fun X p => (rhalf p.1 lo p.2).overlay X (w p.1 p.2)) X) = w h t := by
  induction l using List.reverseRecOn with
  | nil => exact fun hm => absurd hm List.not_mem_nil
  | append_singleton l p ih =>
    intro hm
    rw [List.foldl_append, List.foldl_cons, List.foldl_nil]
    by_cases e : h = p.1 ∧ lo = lo ∧ t = p.2
    · obtain ⟨e1, -, e2⟩ := e
      subst e1 e2
      exact cutH_self p.1 lo p.2 _ (w p.1 p.2)
    · rw [cutH_other e]
      refine ih ?_
      rcases List.mem_append.mp hm with hm | hm
      · exact hm
      · have := List.mem_singleton.mp hm
        exact absurd ⟨congrArg Prod.fst this, rfl, congrArg Prod.snd this⟩ e

theorem cutH_fold_other (lo lo' : Fin 2) (hlo : lo' ≠ lo) (w : Fin 8 → Fin 2 → Vec F S1x128x512 .bf16) (h : Fin 8) (t : Fin 2) (l : List (Fin 8 × Fin 2)) :
    ∀ X : Vec F S8x256x1024 .bf16, cutH h lo' t (l.foldl (fun X p => (rhalf p.1 lo p.2).overlay X (w p.1 p.2)) X) = cutH h lo' t X := by
  induction l with
  | nil => exact fun X => rfl
  | cons p l ih =>
    intro X
    rw [List.foldl_cons, ih, cutH_other (fun e => hlo e.2.1)]

theorem cutO_fold (w : Fin 8 → Fin 4 → Vec F S64x256 .f32) (X : Vec F S512x1024 .f32) (h : Fin 8) (u : Fin 4) (l : List (Fin 8 × Fin 4)) :
    (h, u) ∈ l → cutO h u (l.foldl (fun X p => (roo p.1 p.2).overlay X (w p.1 p.2)) X) = w h u := by
  induction l using List.reverseRecOn with
  | nil => exact fun hm => absurd hm List.not_mem_nil
  | append_singleton l p ih =>
    intro hm
    rw [List.foldl_append, List.foldl_cons, List.foldl_nil]
    by_cases e : h = p.1 ∧ u = p.2
    · obtain ⟨e1, e2⟩ := e
      subst e1 e2
      exact cutO_self p.1 p.2 _ (w p.1 p.2)
    · rw [cutO_other e]
      refine ih ?_
      rcases List.mem_append.mp hm with hm | hm
      · exact hm
      · have := List.mem_singleton.mp hm
        exact absurd ⟨congrArg Prod.fst this, congrArg Prod.snd this⟩ e

/-- Where every half of the second kind holds the rows that pick the forget columns. -/
def HasOnes (X : Vec F S8x256x1024 .bf16) : Prop := ∀ (h : Fin 8) (t : Fin 2), cutH h 1 t X = onesP h

theorem hasOnes_onesS (X : Vec F S8x256x1024 .bf16) : HasOnes (onesS X) := fun h t =>
  cutH_fold 1 (fun h _ => onesP h) X h t fills (mem_fills _)

theorem hasOnes_fillS (q : Vec F S2x512x512 .bf16) (X : Vec F S8x256x1024 .bf16) (hX : HasOnes X) : HasOnes (fillS q X) := fun h t =>
  (cutH_fold_other 0 1 (by decide) (fun h t => fillP q h t) h t fills X).trans (hX h t)

theorem cutH_fillS (q : Vec F S2x512x512 .bf16) (X : Vec F S8x256x1024 .bf16) (h : Fin 8) (t : Fin 2) : cutH h 0 t (fillS q X) = fillP q h t :=
  cutH_fold 0 (fun h t => fillP q h t) X h t fills (mem_fills _)

theorem cutO_epiS (ac : Vec F S32x80x256 .f32) (X : Vec F S512x1024 .f32) (h : Fin 8) (u : Fin 4) : cutO h u (epiS ac X) = epiP ac h u :=
  cutO_fold (fun h u => epiP ac h u) X h u slots (mem_slots _)

/-- The place of a row and a column in a half of a head's queries. -/
def halfIdx (b : Fin 128) (c : Fin 512) : S1x128x512.Idx := fun a => match a with
  | ⟨0, _⟩ => (⟨0, by decide⟩ : Fin 1)
  | ⟨1, _⟩ => b
  | ⟨2, _⟩ => c

/-- The place of a row and a column in a slot of the output. -/
def slotIdx (b : Fin 64) (c : Fin 256) : S64x256.Idx := fun a => match a with
  | ⟨0, _⟩ => b
  | ⟨1, _⟩ => c

/-- Two contents of the queries' buffer are equal when all their halves are. -/
theorem ext_half (X Y : Vec F S8x256x1024 .bf16) (hXY : ∀ h lo t, cutH h lo t X = cutH h lo t Y) : X = Y := by
  funext y
  have b0 : (y (0 : Fin 3)).val < 8 := (y (0 : Fin 3)).isLt
  have b1 : (y (1 : Fin 3)).val < 256 := (y (1 : Fin 3)).isLt
  have b2 : (y (2 : Fin 3)).val < 1024 := (y (2 : Fin 3)).isLt
  obtain ⟨j, e⟩ : ∃ j : S1x128x512.Idx, (rhalf ⟨(y (0 : Fin 3)).val, b0⟩ ⟨(y (1 : Fin 3)).val / 128, by omega⟩ ⟨(y (2 : Fin 3)).val / 512, by omega⟩).emb j = y := by
    refine ⟨halfIdx ⟨(y (1 : Fin 3)).val % 128, Nat.mod_lt _ (by decide)⟩ ⟨(y (2 : Fin 3)).val % 512, Nat.mod_lt _ (by decide)⟩, ?_⟩
    funext a
    apply Fin.ext
    refine (Rect.emb_apply _ _ _).trans ?_
    fin_cases a
    · show (y (0 : Fin 3)).val + 1 * 0 = (y (0 : Fin 3)).val
      omega
    · show (y (1 : Fin 3)).val / 128 * 128 + 1 * ((y (1 : Fin 3)).val % 128) = (y (1 : Fin 3)).val
      omega
    · show (y (2 : Fin 3)).val / 512 * 512 + 1 * ((y (2 : Fin 3)).val % 512) = (y (2 : Fin 3)).val
      omega
  have := congrFun (hXY ⟨(y (0 : Fin 3)).val, b0⟩ ⟨(y (1 : Fin 3)).val / 128, by omega⟩ ⟨(y (2 : Fin 3)).val / 512, by omega⟩) j
  exact (congrArg X e).symm.trans (Eq.trans this (congrArg Y e))

theorem ext_slot (X Y : Vec F S512x1024 .f32) (hXY : ∀ h u, cutO h u X = cutO h u Y) : X = Y := by
  funext y
  have b0 : (y (0 : Fin 2)).val < 512 := (y (0 : Fin 2)).isLt
  have b1 : (y (1 : Fin 2)).val < 1024 := (y (1 : Fin 2)).isLt
  obtain ⟨j, e⟩ : ∃ j : S64x256.Idx, (roo ⟨(y (0 : Fin 2)).val / 64, by omega⟩ ⟨(y (1 : Fin 2)).val / 256, by omega⟩).emb j = y := by
    refine ⟨slotIdx ⟨(y (0 : Fin 2)).val % 64, Nat.mod_lt _ (by decide)⟩ ⟨(y (1 : Fin 2)).val % 256, Nat.mod_lt _ (by decide)⟩, ?_⟩
    funext a
    apply Fin.ext
    refine (Rect.emb_apply _ _ _).trans ?_
    fin_cases a
    · show (y (0 : Fin 2)).val / 64 * 64 + 1 * ((y (0 : Fin 2)).val % 64) = (y (0 : Fin 2)).val
      omega
    · show (y (1 : Fin 2)).val / 256 * 256 + 1 * ((y (1 : Fin 2)).val % 256) = (y (1 : Fin 2)).val
      omega
  have := congrFun (hXY ⟨(y (0 : Fin 2)).val / 64, by omega⟩ ⟨(y (1 : Fin 2)).val / 256, by omega⟩) j
  exact (congrArg X e).symm.trans (Eq.trans this (congrArg Y e))

theorem fin2_cases (lo : Fin 2) : lo = 0 ∨ lo = 1 := by
  fin_cases lo
  · exact .inl rfl
  · exact .inr rfl

theorem fillS_eq (q : Vec F S2x512x512 .bf16) (X Y : Vec F S8x256x1024 .bf16) (hX : HasOnes X) (hY : HasOnes Y) : fillS q X = fillS q Y := by
  refine ext_half _ _ fun h lo t => ?_
  rcases fin2_cases lo with e | e
  · subst e; rw [cutH_fillS, cutH_fillS]
  · subst e; exact (hasOnes_fillS q X hX h t).trans (hasOnes_fillS q Y hY h t).symm

theorem epiS_eq (ac : Vec F S32x80x256 .f32) (X Y : Vec F S512x1024 .f32) : epiS ac X = epiS ac Y :=
  ext_slot _ _ fun h u => by rw [cutO_epiS, cutO_epiS]

/-- The queries' buffer at a tile. -/
def qaC (x0 : Vec F S2x512x512 .bf16) : Vec F S8x256x1024 .bf16 := fillS x0 (onesS fun _ => Scalar.ofBits .bf16 0#16)

/-- What the attention items of a tile make of the running sums. -/
def accC (q : ℕ) (x0 : Vec F S2x512x512 .bf16) (x1 : Vec F S4096x512 .bf16) (x2 : Vec F S4096x128 .bf16) (x3 : Vec F S16x512x256 .bf16) : Vec F S32x80x256 .f32 :=
  ((items q).foldl (itemStep ⟨x1, x2, x3, qaC x0⟩ onesRows diag) (mm0, ac0)).2

/-- The block a tile's point leaves. -/
def tileOut (q : ℕ) (x0 : Vec F S2x512x512 .bf16) (x1 : Vec F S4096x512 .bf16) (x2 : Vec F S4096x128 .bf16) (x3 : Vec F S16x512x256 .bf16)
    (x4 : Vec F S1x512 .f32) : Vec F S1024x512 .bf16 :=
  outV (epiS (accC q x0 x1 x2 x3) fun _ => Scalar.ofBits .f32 0#32) x4

/-- The block does not depend on what the scratch buffers held. -/
theorem tile_indep (q : ℕ) (hq : q < 4) (x0 : Vec F S2x512x512 .bf16) (x1 : Vec F S4096x512 .bf16) (x2 : Vec F S4096x128 .bf16) (x3 : Vec F S16x512x256 .bf16)
    (x4 : Vec F S1x512 .f32) (qa : Vec F S8x256x1024 .bf16) (hqa : HasOnes qa) (oo : Vec F S512x1024 .f32) (st : Vec F S6x256x256 .f32) :
    outV (epiS (tileS q ⟨x1, x2, x3, fillS x0 qa⟩ st).ac oo) x4 = tileOut q x0 x1 x2 x3 x4 := by
  have h1 : fillS x0 qa = qaC x0 := fillS_eq x0 qa _ hqa (hasOnes_onesS _)
  have h2 : (tileS q ⟨x1, x2, x3, qaC x0⟩ st).ac = accC q x0 x1 x2 x3 := by
    unfold tileS accC
    exact congrArg Prod.snd (acts_spec ⟨x1, x2, x3, qaC x0⟩ onesRows diag q hq ⟨zeroRegs, mm0, ac0, st⟩ rfl rfl)
  unfold tileOut
  rw [h1, h2, epiS_eq]

/-- A slot's sums at the end of a tile. -/
theorem accC_slot (q : ℕ) (hq : q < 4) (x0 : Vec F S2x512x512 .bf16) (x1 : Vec F S4096x512 .bf16) (x2 : Vec F S4096x128 .bf16) (x3 : Vec F S16x512x256 .bf16)
    (h : Fin 8) (u : Fin 4) :
    cutA h u (accC q x0 x1 x2 x3) = (slotStep ⟨x1, x2, x3, qaC x0⟩ onesRows diag
      (flash ⟨x1, x2, x3, qaC x0⟩ onesRows diag h u (4 * q + u.val) (cutM h u mm0, cutA h u ac0)) (slotItem h u (4 * q + u.val) true)).2 :=
  slot_spec ⟨x1, x2, x3, qaC x0⟩ onesRows diag q hq h u (mm0, ac0)

end Fox
-- ==== Proof.Same.lean ====
module

public import proofs.«01_k».proof.Proof.Steps

@[expose] public section

noncomputable section

namespace Fox

open Idealize.ShloMosaic Idealize.SL.Sem
open Cert.KernelIdeal Cert.KernelIdeal.Facts₀ Cert.KernelIdeal.Facts

variable {F : FTy → Type} [FloatOps F] [Named F] [Facts]

/-- The statements up to the first store of a head's queries, after the first point's. -/
def partRest (i : grid0.Coords) (arg2 : Memref sig .tc .vmem S2x512x512 .bf16) (arg8 : Memref sig .tc .vmem S8x256x1024 .bf16) :
    Prog (TpuEff nD τ sig (Elt F) Λ₀ .tc) (Σ' (arg1 : BitVec 32) (v0 : IVec S128x512 32), FVec F S1x128x512 .bf16) := do
  let q : Vec F S1x128x512 .bf16 ← Prog.lift (.load arg2 (Rect.unit (s := S2x512x512) ![0, 0, 0] S1x128x512.size inb_S2x512x512_S1x128x512_0_0_0).toLoadRect (View.loadsAt_vmem h_S1x128x512))
  let v : Vec F S1x128x512 .bf16 ← Prog.lift (.load arg8 (Rect.unit (s := S8x256x1024) ![0, 0, 0] S1x128x512.size inb_S8x256x1024_S1x128x512_0_0_0).toLoadRect (View.loadsAt_vmem h_S1x128x512))
  pure ⟨BitVec.ofNat 32 (i 1).val, rowsV, shapeCast S1x128x512 (fillV 0#32 q) shapeCasts_S128x512_S1x128x512⟩

theorem part_ite (i : grid0.Coords) (arg2 : Memref sig .tc .vmem S2x512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S16x512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x256x1024 .bf16) (harg8 : arg8.IsWhole) (arg9 : Memref sig .tc .vmem S32x1x256 .f32) (harg9 : arg9.IsWhole) (arg10 : Memref sig .tc .vmem S32x80x256 .f32) (harg10 : arg10.IsWhole) (arg11 : Memref sig .tc .vmem S512x1024 .f32) (harg11 : arg11.IsWhole) (arg12 : Memref sig .tc .vmem S6x256x256 .f32) (harg12 : arg12.IsWhole) :
    k0_part289 (F := F) i arg2 harg2 arg3 harg3 arg4 harg4 arg5 harg5 arg6 harg6 arg7 harg7 arg8 harg8 arg9 harg9 arg10 harg10 arg11 harg11 arg12 harg12 = if h : isFirst i = 1#1 then seq (fills.map fun p => onesAct arg8 harg8 p.1 p.2) >>= fun _ => partRest i arg2 arg8
      else partRest i arg2 arg8 := by
  sl_kernel_rfl

theorem part_first (i : grid0.Coords) (arg2 : Memref sig .tc .vmem S2x512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S16x512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x256x1024 .bf16) (harg8 : arg8.IsWhole) (arg9 : Memref sig .tc .vmem S32x1x256 .f32) (harg9 : arg9.IsWhole) (arg10 : Memref sig .tc .vmem S32x80x256 .f32) (harg10 : arg10.IsWhole) (arg11 : Memref sig .tc .vmem S512x1024 .f32) (harg11 : arg11.IsWhole) (arg12 : Memref sig .tc .vmem S6x256x256 .f32) (harg12 : arg12.IsWhole) :
    k0_part289 (F := F) i arg2 harg2 arg3 harg3 arg4 harg4 arg5 harg5 arg6 harg6 arg7 harg7 arg8 harg8 arg9 harg9 arg10 harg10 arg11 harg11 arg12 harg12 = firstProg i arg8 harg8 >>= fun _ => partRest i arg2 arg8 := by
  rw [part_ite]
  unfold firstProg
  split <;> rfl

/-- A counted loop is its trips, one after the other. -/
theorem for_fun {w : ℕ} {E : Type → Type} {σ : Type} :
    (@Scf.for w E σ) = fun lb ub st hok init body => Scf.forFrom body (List.finRange (Scf.trips lb ub st)) init := by
  funext lb ub st hok init body
  exact Scf.for_eq lb ub st hok init body

theorem bind2 {E : Type → Type} {α β γ δ : Type} (p : Prog E α) (x : Prog E δ) (r : δ → Prog E α) (f : α → Prog E β) (g : β → Prog E γ)
    (y : δ → Prog E γ) (hp : p = x >>= r) (hy : ∀ d, (r d >>= f >>= g) = y d) : p >>= f >>= g = x >>= y := by
  subst hp
  rw [Prog.bind_assoc, Prog.bind_assoc]
  exact congrArg (x >>= ·) (funext fun d => by rw [← hy d, Prog.bind_assoc])

theorem tile_eq0 (b : Fin 8) (arg2 : Memref sig .tc .vmem S2x512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S16x512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x256x1024 .bf16) (harg8 : arg8.IsWhole) (arg9 : Memref sig .tc .vmem S32x1x256 .f32) (harg9 : arg9.IsWhole) (arg10 : Memref sig .tc .vmem S32x80x256 .f32) (harg10 : arg10.IsWhole) (arg11 : Memref sig .tc .vmem S512x1024 .f32) (harg11 : arg11.IsWhole) (arg12 : Memref sig .tc .vmem S6x256x256 .f32) (harg12 : arg12.IsWhole) :
    cc0_fox (F := F) (pt b 0) arg2 harg2 arg3 harg3 arg4 harg4 arg5 harg5 arg6 harg6 arg7 harg7 arg8 harg8 arg9 harg9 arg10 harg10 arg11 harg11 arg12 harg12
      = firstProg (pt b 0) arg8 harg8 >>= fun _ => tileProg 0 arg2 arg3 arg4 arg5 arg6 arg7 harg7 arg8 harg8 arg9 arg10 arg11 arg12 := by
  delta cc0_fox k0_part408
  refine bind2 (E := TpuEff nD τ sig (Elt F) Λ₀ .tc) _ _ _ _ _ _ (part_first (pt b 0) arg2 harg2 arg3 harg3 arg4 harg4 arg5 harg5 arg6 harg6 arg7 harg7 arg8 harg8 arg9 harg9 arg10 harg10 arg11 harg11 arg12 harg12) ?_
  intro _
  delta k0_part303 Scf.Loop.for
  rw [for_fun]
  sl_kernel_rfl

theorem tile_eq1 (b : Fin 8) (arg2 : Memref sig .tc .vmem S2x512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S16x512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x256x1024 .bf16) (harg8 : arg8.IsWhole) (arg9 : Memref sig .tc .vmem S32x1x256 .f32) (harg9 : arg9.IsWhole) (arg10 : Memref sig .tc .vmem S32x80x256 .f32) (harg10 : arg10.IsWhole) (arg11 : Memref sig .tc .vmem S512x1024 .f32) (harg11 : arg11.IsWhole) (arg12 : Memref sig .tc .vmem S6x256x256 .f32) (harg12 : arg12.IsWhole) :
    cc0_fox (F := F) (pt b 1) arg2 harg2 arg3 harg3 arg4 harg4 arg5 harg5 arg6 harg6 arg7 harg7 arg8 harg8 arg9 harg9 arg10 harg10 arg11 harg11 arg12 harg12
      = firstProg (pt b 1) arg8 harg8 >>= fun _ => tileProg 1 arg2 arg3 arg4 arg5 arg6 arg7 harg7 arg8 harg8 arg9 arg10 arg11 arg12 := by
  delta cc0_fox k0_part408
  refine bind2 (E := TpuEff nD τ sig (Elt F) Λ₀ .tc) _ _ _ _ _ _ (part_first (pt b 1) arg2 harg2 arg3 harg3 arg4 harg4 arg5 harg5 arg6 harg6 arg7 harg7 arg8 harg8 arg9 harg9 arg10 harg10 arg11 harg11 arg12 harg12) ?_
  intro _
  delta k0_part303 Scf.Loop.for
  rw [for_fun]
  sl_kernel_rfl

theorem tile_eq2 (b : Fin 8) (arg2 : Memref sig .tc .vmem S2x512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S16x512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x256x1024 .bf16) (harg8 : arg8.IsWhole) (arg9 : Memref sig .tc .vmem S32x1x256 .f32) (harg9 : arg9.IsWhole) (arg10 : Memref sig .tc .vmem S32x80x256 .f32) (harg10 : arg10.IsWhole) (arg11 : Memref sig .tc .vmem S512x1024 .f32) (harg11 : arg11.IsWhole) (arg12 : Memref sig .tc .vmem S6x256x256 .f32) (harg12 : arg12.IsWhole) :
    cc0_fox (F := F) (pt b 2) arg2 harg2 arg3 harg3 arg4 harg4 arg5 harg5 arg6 harg6 arg7 harg7 arg8 harg8 arg9 harg9 arg10 harg10 arg11 harg11 arg12 harg12
      = firstProg (pt b 2) arg8 harg8 >>= fun _ => tileProg 2 arg2 arg3 arg4 arg5 arg6 arg7 harg7 arg8 harg8 arg9 arg10 arg11 arg12 := by
  delta cc0_fox k0_part408
  refine bind2 (E := TpuEff nD τ sig (Elt F) Λ₀ .tc) _ _ _ _ _ _ (part_first (pt b 2) arg2 harg2 arg3 harg3 arg4 harg4 arg5 harg5 arg6 harg6 arg7 harg7 arg8 harg8 arg9 harg9 arg10 harg10 arg11 harg11 arg12 harg12) ?_
  intro _
  delta k0_part303 Scf.Loop.for
  rw [for_fun]
  sl_kernel_rfl

theorem tile_eq3 (b : Fin 8) (arg2 : Memref sig .tc .vmem S2x512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S16x512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x256x1024 .bf16) (harg8 : arg8.IsWhole) (arg9 : Memref sig .tc .vmem S32x1x256 .f32) (harg9 : arg9.IsWhole) (arg10 : Memref sig .tc .vmem S32x80x256 .f32) (harg10 : arg10.IsWhole) (arg11 : Memref sig .tc .vmem S512x1024 .f32) (harg11 : arg11.IsWhole) (arg12 : Memref sig .tc .vmem S6x256x256 .f32) (harg12 : arg12.IsWhole) :
    cc0_fox (F := F) (pt b 3) arg2 harg2 arg3 harg3 arg4 harg4 arg5 harg5 arg6 harg6 arg7 harg7 arg8 harg8 arg9 harg9 arg10 harg10 arg11 harg11 arg12 harg12
      = firstProg (pt b 3) arg8 harg8 >>= fun _ => tileProg 3 arg2 arg3 arg4 arg5 arg6 arg7 harg7 arg8 harg8 arg9 arg10 arg11 arg12 := by
  delta cc0_fox k0_part408
  refine bind2 (E := TpuEff nD τ sig (Elt F) Λ₀ .tc) _ _ _ _ _ _ (part_first (pt b 3) arg2 harg2 arg3 harg3 arg4 harg4 arg5 harg5 arg6 harg6 arg7 harg7 arg8 harg8 arg9 harg9 arg10 harg10 arg11 harg11 arg12 harg12) ?_
  intro _
  delta k0_part303 Scf.Loop.for
  rw [for_fun]
  sl_kernel_rfl

end Fox
-- ==== Proof.Launch.lean ====
module

public import proofs.«01_k».proof.Proof.Out
public import proofs.«01_k».proof.Proof.Same
public import proofs.«01_k».proof.Proof.Gen.KernelIdeal.Frame.Runs
public import Idealize.ShloMosaic.Lib.Claim

@[expose] public section

noncomputable section

namespace Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tile's number at point `t`. -/
def tileOf (t : ℕ) : ℕ := t % 4

/-- The output's block after point `t`. -/
def outAt (c : Dev nD) (t : Fin cfg0.N) : Vec F S1024x512 .bf16 :=
  tileOut (tileOf t.val) (Gen.iblk m c 0 t) (Gen.iblk m c 1 t) (Gen.iblk m c 2 t) (Gen.iblk m c 3 t) (Gen.iblk m c 4 t)

/-- Between points: the queries' buffer with its rows of ones in place, the other scratch at anything. -/
def mid (c : Dev nD) : sProp 𝕄 :=
  iprop(iprop((∃ d, ⌜HasOnes d⌝ ∗ owns (c : Thread nD τ) Gen.scM0_0 fullShare d) ∗ (∃ d, owns (c : Thread nD τ) Gen.scM0_1 fullShare d) ∗ (∃ d, owns (c : Thread nD τ) Gen.scM0_2 fullShare d)
    ∗ (∃ d, owns (c : Thread nD τ) Gen.scM0_3 fullShare d) ∗ (∃ d, owns (c : Thread nD τ) Gen.scM0_4 fullShare d)) ∗ (∃ r, prngReg c r))

def phi (c : Dev nD) : (n : ℕ) → n ≤ cfg0.N → sProp 𝕄
  | 0, _ => Pipeline.ΦA spec0 c
  | _ + 1, _ => mid c

theorem phi_zero (c : Dev nD) (n : ℕ) (h : n ≤ cfg0.N) (hz : n = 0) : (phi c n h : sProp 𝕄) = Pipeline.ΦA spec0 c := by
  subst hz; rfl

theorem phi_pos (c : Dev nD) (n : ℕ) (h : n ≤ cfg0.N) (hz : n ≠ 0) : (phi c n h : sProp 𝕄) = mid c := by
  cases n with
  | zero => exact absurd rfl hz
  | succ n => rfl

/-- The pipeline's proof data. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => outAt m c t
  Φ t := phi c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem phi_castSucc (c : Dev nD) (t : Fin cfg0.N) :
    (dats m 0 c).Φ t.castSucc = phi c t.val (Nat.le_of_lt t.isLt) := by
  dsimp only [dats]; exact Pipeline.Dat.Φ_castSucc (phi c) t

theorem after0 (c : Dev nD) (t : Fin cfg0.N) : (dats m 0 c).after 0 t = Gen.iblk m c 0 t := by dsimp only [dats]
theorem after1 (c : Dev nD) (t : Fin cfg0.N) : (dats m 0 c).after 1 t = Gen.iblk m c 1 t := by dsimp only [dats]
theorem after2 (c : Dev nD) (t : Fin cfg0.N) : (dats m 0 c).after 2 t = Gen.iblk m c 2 t := by dsimp only [dats]
theorem after3 (c : Dev nD) (t : Fin cfg0.N) : (dats m 0 c).after 3 t = Gen.iblk m c 3 t := by dsimp only [dats]
theorem after4 (c : Dev nD) (t : Fin cfg0.N) : (dats m 0 c).after 4 t = Gen.iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = Gen.iblk m c 0 t :=
  Gen.before0_0_of m (dats m 0 c) (A_eq m c 0) (after0 m c) t d
theorem before1 (c : Dev nD) (t : Fin cfg0.N) (d) : (dats m 0 c).before 1 t d = Gen.iblk m c 1 t :=
  Gen.before0_1_of m (dats m 0 c) (A_eq m c 1) (after1 m c) t d
theorem before2 (c : Dev nD) (t : Fin cfg0.N) (d) : (dats m 0 c).before 2 t d = Gen.iblk m c 2 t :=
  Gen.before0_2_of m (dats m 0 c) (A_eq m c 2) (after2 m c) t d
theorem before3 (c : Dev nD) (t : Fin cfg0.N) (d) : (dats m 0 c).before 3 t d = Gen.iblk m c 3 t :=
  Gen.before0_3_of m (dats m 0 c) (A_eq m c 3) (after3 m c) t d
theorem before4 (c : Dev nD) (t : Fin cfg0.N) (d) : (dats m 0 c).before 4 t d = Gen.iblk m c 4 t :=
  Gen.before0_4_of m (dats m 0 c) (A_eq m c 4) (after4 m c) t d

/-- A point by its sequence and its tile. -/
theorem coords_eq (t : Fin cfg0.N) (q : Fin 4) (hq : t.val % 4 = q.val) (hb : t.val / 4 < 8) : grid0.coords t = pt ⟨t.val / 4, hb⟩ q := by
  have e0 : (grid0.coords t 0).val = t.val / 4 % 8 := Pipeline.Grid.coords_val t 0 (by decide) rfl
  have e1 : (grid0.coords t 1).val = t.val / 1 % 4 := Pipeline.Grid.coords_val t 1 (by decide) rfl
  funext a
  apply Fin.ext
  fin_cases a
  · refine Eq.trans e0 ?_
    show t.val / 4 % 8 = t.val / 4
    omega
  · refine Eq.trans e1 ?_
    show t.val / 1 % 4 = q.val
    omega

/-- The body at a point: the first point's rows of ones, then the tile. -/
theorem body_eq (t : Fin cfg0.N) :
    Gen.bodyAt0 (F := F) t = Prog.bind (firstProg (grid0.coords t) Gen.scM0_0 (Memref.isWhole_whole _)) fun _ =>
      tileProg (tileOf t.val) (Gen.ms0_0 t) (Gen.ms0_1 t) (Gen.ms0_2 t) (Gen.ms0_3 t) (Gen.ms0_4 t) (Gen.ms0_5 t) (Gen.hs0_5 t) Gen.scM0_0 (Memref.isWhole_whole _) Gen.scM0_1 Gen.scM0_2 Gen.scM0_3 Gen.scM0_4 := by
  have hN : t.val < 32 := lt_of_lt_of_eq t.isLt (show cfg0.N = 32 from Gen.N_0)
  have hb : t.val / 4 < 8 := by omega
  have hq : t.val % 4 = 0 ∨ t.val % 4 = 1 ∨ t.val % 4 = 2 ∨ t.val % 4 = 3 := by omega
  unfold Gen.bodyAt0 tileOf
  rcases hq with e | e | e | e
  · rw [coords_eq t 0 e hb, e]
    exact tile_eq0 ⟨t.val / 4, hb⟩ (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) Gen.scM0_0 (Memref.isWhole_whole _) Gen.scM0_1 (Memref.isWhole_whole _) Gen.scM0_2 (Memref.isWhole_whole _) Gen.scM0_3 (Memref.isWhole_whole _) Gen.scM0_4 (Memref.isWhole_whole _)
  · rw [coords_eq t 1 e hb, e]
    exact tile_eq1 ⟨t.val / 4, hb⟩ (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) Gen.scM0_0 (Memref.isWhole_whole _) Gen.scM0_1 (Memref.isWhole_whole _) Gen.scM0_2 (Memref.isWhole_whole _) Gen.scM0_3 (Memref.isWhole_whole _) Gen.scM0_4 (Memref.isWhole_whole _)
  · rw [coords_eq t 2 e hb, e]
    exact tile_eq2 ⟨t.val / 4, hb⟩ (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) Gen.scM0_0 (Memref.isWhole_whole _) Gen.scM0_1 (Memref.isWhole_whole _) Gen.scM0_2 (Memref.isWhole_whole _) Gen.scM0_3 (Memref.isWhole_whole _) Gen.scM0_4 (Memref.isWhole_whole _)
  · rw [coords_eq t 3 e hb, e]
    exact tile_eq3 ⟨t.val / 4, hb⟩ (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) Gen.scM0_0 (Memref.isWhole_whole _) Gen.scM0_1 (Memref.isWhole_whole _) Gen.scM0_2 (Memref.isWhole_whole _) Gen.scM0_3 (Memref.isWhole_whole _) Gen.scM0_4 (Memref.isWhole_whole _)

def bodyPre (c : Dev nD) (t : Fin cfg0.N) : sProp 𝕄 :=
  iprop((dats m 0 c).Φ t.castSucc ∗ (dats m 0 c).owesAt () t.castSucc
    ∗ (∃ d, owns (c : Thread nD τ) (Gen.ms0_0 t) fullShare ((dats m 0 c).before 0 t d))
    ∗ (∃ d, owns (c : Thread nD τ) (Gen.ms0_1 t) fullShare ((dats m 0 c).before 1 t d))
    ∗ (∃ d, owns (c : Thread nD τ) (Gen.ms0_2 t) fullShare ((dats m 0 c).before 2 t d))
    ∗ (∃ d, owns (c : Thread nD τ) (Gen.ms0_3 t) fullShare ((dats m 0 c).before 3 t d))
    ∗ (∃ d, owns (c : Thread nD τ) (Gen.ms0_4 t) fullShare ((dats m 0 c).before 4 t d))
    ∗ (∃ d, owns (c : Thread nD τ) (Gen.ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (Gen.ms0_0 t) fullShare ((dats m 0 c).after 0 t)
    ∗ owns (c : Thread nD τ) (Gen.ms0_1 t) fullShare ((dats m 0 c).after 1 t)
    ∗ owns (c : Thread nD τ) (Gen.ms0_2 t) fullShare ((dats m 0 c).after 2 t)
    ∗ owns (c : Thread nD τ) (Gen.ms0_3 t) fullShare ((dats m 0 c).after 3 t)
    ∗ owns (c : Thread nD τ) (Gen.ms0_4 t) fullShare ((dats m 0 c).after 4 t)
    ∗ owns (c : Thread nD τ) (Gen.ms0_5 t) fullShare ((dats m 0 c).after 5 t))

theorem isFirst_iff (t : Fin cfg0.N) : isFirst (grid0.coords t) = 1#1 ↔ t.val % 32 = 0 := Gen.hcond0_0 t

/-- The tile's run at a point, from a buffer of queries whose rows of ones will be in place. -/
theorem body_wp (c : Dev nD) (t : Fin cfg0.N) (X : Vec F S8x256x1024 .bf16) (hX : HasOnes (if isFirst (grid0.coords t) = 1#1 then onesS X else X))
    (y : Vec F S1024x512 .bf16) (mm : Vec F S32x1x256 .f32) (ac : Vec F S32x80x256 .f32) (oo : Vec F S512x1024 .f32) (st : Vec F S6x256x256 .f32) (Q : Unit → sProp 𝕄) :
    iprop(owns (c : Thread nD τ) (Gen.ms0_0 t) fullShare (Gen.iblk m c 0 t) ∗ owns (c : Thread nD τ) (Gen.ms0_1 t) fullShare (Gen.iblk m c 1 t) ∗ owns (c : Thread nD τ) (Gen.ms0_2 t) fullShare (Gen.iblk m c 2 t)
      ∗ owns (c : Thread nD τ) (Gen.ms0_3 t) fullShare (Gen.iblk m c 3 t) ∗ owns (c : Thread nD τ) (Gen.ms0_4 t) fullShare (Gen.iblk m c 4 t) ∗ owns (c : Thread nD τ) (Gen.ms0_5 t) fullShare y
      ∗ owns (c : Thread nD τ) Gen.scM0_0 fullShare X ∗ owns (c : Thread nD τ) Gen.scM0_1 fullShare mm ∗ owns (c : Thread nD τ) Gen.scM0_2 fullShare ac
      ∗ owns (c : Thread nD τ) Gen.scM0_3 fullShare oo ∗ owns (c : Thread nD τ) Gen.scM0_4 fullShare st)
    ⊢ iprop((owns (c : Thread nD τ) (Gen.ms0_0 t) fullShare (Gen.iblk m c 0 t) ∗ owns (c : Thread nD τ) (Gen.ms0_1 t) fullShare (Gen.iblk m c 1 t) ∗ owns (c : Thread nD τ) (Gen.ms0_2 t) fullShare (Gen.iblk m c 2 t)
      ∗ owns (c : Thread nD τ) (Gen.ms0_3 t) fullShare (Gen.iblk m c 3 t) ∗ owns (c : Thread nD τ) (Gen.ms0_4 t) fullShare (Gen.iblk m c 4 t)
      ∗ owns (c : Thread nD τ) (Gen.ms0_5 t) fullShare (outAt m c t)
      ∗ (∃ d, ⌜HasOnes d⌝ ∗ owns (c : Thread nD τ) Gen.scM0_0 fullShare d) ∗ (∃ d, owns (c : Thread nD τ) Gen.scM0_1 fullShare d) ∗ (∃ d, owns (c : Thread nD τ) Gen.scM0_2 fullShare d)
      ∗ (∃ d, owns (c : Thread nD τ) Gen.scM0_3 fullShare d) ∗ (∃ d, owns (c : Thread nD τ) Gen.scM0_4 fullShare d) -∗ Q ⟨⟩)
      -∗ WP c (Gen.bodyAt0 t) Q) := by
  rw [body_eq, WP_bind]
  generalize hX' : (if isFirst (grid0.coords t) = 1#1 then onesS X else X) = X' at hX
  generalize hx0 : Gen.iblk m c 0 t = x0
  have hout : ∀ oo st, outV (epiS (tileS (tileOf t.val) ⟨Gen.iblk m c 1 t, Gen.iblk m c 2 t, Gen.iblk m c 3 t, fillS x0 X'⟩ st).ac oo) (Gen.iblk m c 4 t) = outAt m c t := by
    intro oo st
    rw [tile_indep (tileOf t.val) (Nat.mod_lt _ (by decide)) _ _ _ _ _ X' hX oo st, ← hx0]
    rfl
  have hfill : HasOnes (fillS x0 X') := hasOnes_fillS _ _ hX
  iintro ⟨H2, H3, H4, H5, H6, H7, H8, H9, H10, H11, H12⟩
  iintro Hk
  ihave HF := (wp_first c (grid0.coords t) Gen.scM0_0 (Memref.isWhole_whole _) X _) $$ H8
  iapply HF
  rw [hX']
  iintro H8
  ihave HT := (wp_tile c (tileOf t.val) (Gen.ms0_0 t) (Gen.ms0_1 t) (Gen.ms0_2 t) (Gen.ms0_3 t) (Gen.ms0_4 t) (Gen.ms0_5 t) (Gen.hs0_5 t) Gen.scM0_0 (Memref.isWhole_whole _) Gen.scM0_1 Gen.scM0_2 Gen.scM0_3 Gen.scM0_4
    x0 (Gen.iblk m c 1 t) (Gen.iblk m c 2 t) (Gen.iblk m c 3 t) (Gen.iblk m c 4 t) y X' mm ac oo st Q) $$ [H2 H3 H4 H5 H6 H7 H8 H9 H10 H11 H12]
  · iframe H2 H3 H4 H5 H6 H7 H8 H9 H10 H11 H12
  rw [hout]
  iapply HT
  iintro ⟨H2, H3, H4, H5, H6, H7, H8, H9, H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro; exact hfill
  isplitl [H9]; · iexact H9
  isplitl [H10]; · iexact H10
  isplitl [H11]; · iexact H11
  iexact H12

theorem sound_body (c : Dev nD) (t : Fin cfg0.N) :
    bodyPre m c t ⊢ WP c (Gen.bodyAt0 t) (fun _ => bodyPost m c t) := by
  unfold bodyPre bodyPost
  simp only [before0, before1, before2, before3, before4]
  rw [show (dats m 0 c).owesAt () t.succ = (dats m 0 c).owesAt () t.castSucc from rfl,
    after0, after1, after2, after3, after4, after5]
  rw [show (dats m 0 c).Φ t.succ = phi c (t.val + 1) t.isLt from rfl, phi_pos c (t.val + 1) _ (Nat.succ_ne_zero _)]
  have hN : t.val < 32 := lt_of_lt_of_eq t.isLt (show cfg0.N = 32 from Gen.N_0)
  rw [phi_castSucc m c t]
  by_cases hz : t.val = 0
  · rw [phi_zero c _ _ hz, Gen.PhiA0_eq]
    unfold mid
    iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩⟩
    ihave HB := (body_wp m c t s0 (by rw [if_pos ((isFirst_iff t).mpr (by omega))]; exact hasOnes_onesS _) _ s1 s2 s3 s4 _) $$ [H0 H1 H2 H3 H4 H5 HS0 HS1 HS2 HS3 HS4]
    · iframe H0 H1 H2 H3 H4 H5 HS0 HS1 HS2 HS3 HS4
    iapply HB
    iintro ⟨H0, H1, H2, H3, H4, H5, HS0, HS1, HS2, HS3, HS4⟩
    iframe HS0 HS1 HS2 HS3 HS4 Hg Ho H0 H1 H2 H3 H4 H5
  · rw [phi_pos c _ _ hz]
    unfold mid
    iintro ⟨⟨⟨⟨%s0, %hs0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩⟩
    ihave HB := (body_wp m c t s0 (by rw [if_neg (fun h => absurd ((isFirst_iff t).mp h) (by omega))]; exact hs0) _ s1 s2 s3 s4 _) $$ [H0 H1 H2 H3 H4 H5 HS0 HS1 HS2 HS3 HS4]
    · iframe H0 H1 H2 H3 H4 H5 HS0 HS1 HS2 HS3 HS4
    iapply HB
    iintro ⟨H0, H1, H2, H3, H4, H5, HS0, HS1, HS2, HS3, HS4⟩
    iframe HS0 HS1 HS2 HS3 HS4 Hg Ho H0 H1 H2 H3 H4 H5

theorem row (t : Fin cfg0.N) : defs₀ (F := F) .tc cfg0.body (cfg0.bodyArgs t (cfg0.slots t)) = Gen.bodyAt0 t := by
  unfold defs₀; rw [Defs.onTc_tc]

theorem obligation (c : Dev nD) : BodyObligation (dats (F := F) m 0 c) (defs₀ (F := F)) Variants.none () Set.univ := fun t => by
  rw [Gen.bigSep_W0, Gen.bigSep_W0, row]
  exact triple_restated (sound_body m c t) rfl .rfl fun _ => .rfl

theorem hin (c : Dev nD) : Pipeline.ΦA spec0 c ⊢ (dats m 0 c).Φ 0 := by
  rw [show (dats m 0 c).Φ 0 = phi c 0 (Nat.zero_le _) from rfl, phi_zero c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := Gen.N_0; omega
  rw [show (dats m 0 c).Φ (Fin.last cfg0.N) = phi c (Fin.last cfg0.N).val (Nat.le_of_lt_succ (Fin.last cfg0.N).isLt) from rfl, phi_pos c _ _ hne, Gen.PhiA0_eq]
  unfold mid
  iintro ⟨⟨⟨%s0, %hs0, HS0⟩, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

set_option backward.isDefEq.respectTransparency.types false in
/-- The run of the whole program: its arrays at what the tiles leave, its counters at zero. -/
theorem launched : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) Gen.launch0 defs₀ Variants.none m ρ main
    (hbody := fun c => (obligation m c).loose) (hshare := fun c => (dats m 0 c).share_full fun _ => rfl)
    (howed := fun _ _ => rfl) (V := Gen.V m) (hmain := Gen.hmain m Variants.none) (hA := A_eq m) (hin := hin m) (hout := hout m)

theorem launched_post : θ_run defs (onTc (τ := τ) (main (F := F))) (s₀ m ρ) (Pipeline.FramePost cfgs (dats m) 0 (Gen.V m)) :=
  (θ_run defs _ _).mono (fun _ h => h.1) (launched m ρ)

/-- The arguments end unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (Gen.frame_of m ρ (dats m) (A_eq m) (launched_post m ρ)) ((θ_run defs _ _).mono (fun _ h => h.2) (launched m ρ))

end Fox
-- ==== Proof.Frames.lean ====
module

public import proofs.«01_k».proof.Defs
public import proofs.«01_k».proof.Proof.Gen.Kernel
public import proofs.«01_k».proof.Proof.Gen.ReferenceIdeal.Run
public import proofs.«01_k».proof.Proof.Launch

@[expose] public section

noncomputable section

namespace Fox

open Idealize.ShloMosaic Idealize.ShloMosaic.TcCoe Idealize.SL.Sem

/-- On machine words a named constant is the constant it names. -/
instance namedBits : Named Bits where
  named _ _ {φ} bits := FloatOps.ofBits φ bits

theorem frame_ideal : Cert.quiescent_KernelIdeal := fun m ρ _ => framed m ρ

theorem frame_ideal_pre [Cert.Pre_finite_scores.Facts] : Cert.quiescent_KernelIdeal_pre_finite_scores := fun m ρ _ => framed m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre [Cert.Pre_finite_scores.Facts] : Cert.quiescent_ReferenceIdeal_pre_finite_scores := fun m ρ _ => frame_reference m ρ trivial

theorem preserves : Cert.preserves_Kernel_KernelIdeal := IdealRules.named_const.statement _ _ _ _ _ rfl

open Cert.KernelIdeal in
/-- The run of the idealized program read at machine words. -/
def wordsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem words : wordsFrame := fun m ρ _ => framed m ρ

theorem frame_kernel_eq : wordsFrame = Cert.quiescent_Kernel := by sl_kernel_rfl

theorem frame_kernel : Cert.quiescent_Kernel := frame_kernel_eq ▸ words

end Fox
-- ==== Proof.Online.lean ====
module

public import Idealize.ShloMosaic.PureOps.Ideal.Laws
public import Idealize.ShloMosaic.Lib.IdealHost

@[expose] public section

noncomputable section

namespace Fox

open Idealize.ShloMosaic

/-- A real factor that is not negative passes through a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two a score is turned into once a real is taken off it. -/
def pw (x : EReal) (M : ℝ) : ℝ := if x = ⊥ then 0 else Real.rpow 2 (x.toReal - M)

theorem pw_bot (M : ℝ) : pw ⊥ M = 0 := if_pos rfl
theorem pw_coe (r M : ℝ) : pw r M = Real.rpow 2 (r - M) := by
  rw [pw, if_neg (EReal.coe_ne_bot r), EReal.toReal_coe]

theorem pw_nonneg (x : EReal) (M : ℝ) : 0 ≤ pw x M := by
  unfold pw
  split
  · exact le_refl _
  · exact Real.rpow_nonneg (by norm_num) _

theorem exp2_sub (x : EReal) (M : ℝ) (hx : x ≠ ⊤) : Ideal.exp2 (x - (M : EReal)) = ((pw x M : ℝ) : EReal) := by
  induction x using EReal.rec with
  | bot => rw [EReal.bot_sub, pw_bot]; rfl
  | top => exact absurd rfl hx
  | coe r => rw [pw_coe, ← EReal.coe_sub]; rfl

theorem pw_mul (x : EReal) (M M' : ℝ) : pw M M' * pw x M = pw x M' := by
  rw [pw_coe]
  unfold pw
  split
  · rw [mul_zero]
  · show (2 : ℝ) ^ (M - M' : ℝ) * (2 : ℝ) ^ (x.toReal - M : ℝ) = (2 : ℝ) ^ (x.toReal - M' : ℝ)
    rw [← Real.rpow_add (by norm_num)]
    congr 1
    ring

/-- The maximum of a block of scores with one below no real is real. -/
theorem max_real {ι : Type} (s : Finset ι) (f : ι → EReal) (b : EReal) (hb : b ≠ ⊤) (hf : ∀ i ∈ s, f i ≠ ⊤)
    (h : b ≠ ⊥ ∨ ∃ i ∈ s, f i ≠ ⊥) : ∃ M : ℝ, s.fold max b f = (M : EReal) := by
  have h1 : s.fold max b f ≠ ⊤ := by
    rw [← lt_top_iff_ne_top, Finset.fold_max_lt]
    exact ⟨lt_top_iff_ne_top.mpr hb, fun i hi => lt_top_iff_ne_top.mpr (hf i hi)⟩
  have h2 : s.fold max b f ≠ ⊥ := by
    rw [← bot_lt_iff_ne_bot, Finset.lt_fold_max]
    rcases h with h | ⟨i, hi, h⟩
    · exact .inl (bot_lt_iff_ne_bot.mpr h)
    · exact .inr ⟨i, hi, bot_lt_iff_ne_bot.mpr h⟩
  exact ⟨_, (EReal.coe_toReal h1 h2).symm⟩

theorem coe_max' (a b : ℝ) : ((max a b : ℝ) : EReal) = max (a : EReal) (b : EReal) :=
  EReal.coe_strictMono.monotone.map_max

/-- The running pair of maximum and sums after `k` blocks: nothing yet, or a real maximum and the sums weighted by it. -/
def Running {δ : Type} (S : ℕ → Fin 256 → EReal) (W : δ → ℕ → Fin 256 → EReal) (k : ℕ) (m : EReal) (acc : δ → EReal) : Prop :=
  (k = 0 ∧ m = ⊥ ∧ ∀ d, acc d = 0) ∨
    ∃ M : ℝ, m = (M : EReal) ∧ ∀ d, acc d = ∑ j ∈ Finset.range k, ∑ a, W d j a * ((pw (S j a) M : ℝ) : EReal)

/-- A block keeps the running pair. -/
theorem Running.step {δ : Type} {S : ℕ → Fin 256 → EReal} {W : δ → ℕ → Fin 256 → EReal} {k : ℕ} {m : EReal} {acc : δ → EReal}
    (h : Running S W k m acc) (hS : ∀ a, S k a ≠ ⊤) (hb : ∃ a, S k a ≠ ⊥) (m' : EReal)
    (hm' : m' = max m (Finset.univ.fold max ⊥ (S k))) :
    Running S W (k + 1) m' (fun d => Ideal.exp2 (m - m') * acc d + ∑ a, W d k a * Ideal.exp2 (S k a - m')) := by
  obtain ⟨a0, ha0⟩ := hb
  obtain ⟨N, hN⟩ := max_real Finset.univ (S k) ⊥ bot_ne_top (fun i _ => hS i) (.inr ⟨a0, Finset.mem_univ _, ha0⟩)
  rw [hN] at hm'
  right
  rcases h with ⟨hk, hm, ha⟩ | ⟨M, hm, ha⟩
  · subst hk hm
    rw [max_eq_right bot_le] at hm'
    refine ⟨N, hm', fun d => ?_⟩
    dsimp only
    rw [ha, hm', EReal.bot_sub, mul_zero, zero_add, Finset.sum_range_one]
    exact Finset.sum_congr rfl fun a _ => by rw [exp2_sub _ _ (hS a)]
  · subst hm
    rw [← coe_max'] at hm'
    refine ⟨max M N, hm', fun d => ?_⟩
    dsimp only
    rw [ha, hm', exp2_sub _ _ (EReal.coe_ne_top M), Finset.sum_range_succ, coe_mul_sum _ _ (pw_nonneg _ _)]
    congr 1
    · refine Finset.sum_congr rfl fun j _ => ?_
      rw [coe_mul_sum _ _ (pw_nonneg _ _)]
      refine Finset.sum_congr rfl fun a _ => ?_
      rw [mul_left_comm, ← EReal.coe_mul, pw_mul]
    · exact Finset.sum_congr rfl fun a _ => by rw [exp2_sub _ _ (hS a)]

/-- Dividing weighted sums by the sum of the weights: each weight is divided. -/
theorem ratio {ι : Type} (s : Finset ι) (W : ι → EReal) (G : ι → ℝ) (c : ℝ) (hc : 0 < c) (hG : 0 < ∑ i ∈ s, G i) (D : EReal)
    (hD : D = ∑ i ∈ s, ((G i * c : ℝ) : EReal)) :
    Ideal.div (∑ i ∈ s, W i * ((G i * c : ℝ) : EReal)) D = ∑ i ∈ s, W i * ((G i / ∑ i ∈ s, G i : ℝ) : EReal) := by
  have hD' : D = ((∑ i ∈ s, G i) * c : ℝ) := by rw [hD, ← coe_sum, Finset.sum_mul]
  have hp : 0 < (∑ i ∈ s, G i) * c := mul_pos hG hc
  have hne : D ≠ 0 := by
    rw [hD']
    exact fun h => hp.ne' (EReal.coe_eq_zero.mp h)
  unfold Ideal.div
  rw [if_neg hne, hD', ← EReal.coe_inv, mul_comm, coe_mul_sum _ _ (inv_nonneg.mpr hp.le)]
  refine Finset.sum_congr rfl fun i _ => ?_
  rw [mul_left_comm, ← EReal.coe_mul]
  congr 2
  field_simp

theorem div_coe (a b : ℝ) (hb : b ≠ 0) : Ideal.div (a : EReal) (b : EReal) = ((a / b : ℝ) : EReal) := by
  unfold Ideal.div
  rw [if_neg fun h => hb (EReal.coe_eq_zero.mp h), ← EReal.coe_inv, ← EReal.coe_mul, div_eq_mul_inv]

/-- The weight of a key before it is divided by the sum of them: zero after the query. -/
def wt (L : ℕ → ℝ) (r i : ℕ) : ℝ := if i ≤ r then Real.exp (L i) else 0

theorem wt_nonneg (L : ℕ → ℝ) (r i : ℕ) : 0 ≤ wt L r i := by
  unfold wt
  split
  · exact (Real.exp_pos _).le
  · exact le_refl _

/-- Causal attention of one query: the values of the keys not after it, weighted by the exponentials of their scores. -/
def attn (L : ℕ → ℝ) (V : ℕ → EReal) (r : ℕ) : EReal :=
  ∑ i ∈ Finset.range 4096, V i * ((wt L r i / ∑ i ∈ Finset.range 4096, wt L r i : ℝ) : EReal)

theorem wt_sum_pos (L : ℕ → ℝ) (r n : ℕ) (hn : r < n) : 0 < ∑ i ∈ Finset.range n, wt L r i := by
  refine Finset.sum_pos' (fun i _ => wt_nonneg L r i) ⟨r, Finset.mem_range.mpr hn, ?_⟩
  rw [wt, if_pos le_rfl]
  exact Real.exp_pos _

/-- A masked score in units of log 2. -/
def sc (L : ℕ → ℝ) (r i : ℕ) : EReal := if i ≤ r then ((L i / Real.log 2 : ℝ) : EReal) else ⊥

theorem pw_sc (L : ℕ → ℝ) (r i : ℕ) (M : ℝ) : pw (sc L r i) M = wt L r i * Real.exp (-(M * Real.log 2)) := by
  unfold sc wt
  split
  · rw [pw_coe]
    show (2 : ℝ) ^ (L i / Real.log 2 - M : ℝ) = _
    rw [Real.rpow_def_of_pos (by norm_num), ← Real.exp_add]
    congr 1
    have : Real.log 2 ≠ 0 := (Real.log_pos (by norm_num)).ne'
    field_simp
    ring
  · rw [pw_bot, zero_mul]

theorem sum_blocks (f : ℕ → EReal) (k : ℕ) :
    ∑ j ∈ Finset.range k, ∑ a : Fin 256, f (j * 256 + a.val) = ∑ i ∈ Finset.range (k * 256), f i := by
  induction k with
  | zero => simp
  | succ k ih => rw [Finset.sum_range_succ, ih, Nat.succ_mul, Finset.sum_range_add, Fin.sum_univ_eq_sum_range (fun a => f (k * 256 + a)) 256]

theorem sum_cut (f : ℕ → EReal) (n N : ℕ) (h : n ≤ N) (hf : ∀ i, n ≤ i → f i = 0) :
    ∑ i ∈ Finset.range n, f i = ∑ i ∈ Finset.range N, f i := by
  refine Finset.sum_subset (Finset.range_mono h) fun i _ hi => hf i ?_
  simpa using hi

theorem sum_cutR (f : ℕ → ℝ) (n N : ℕ) (h : n ≤ N) (hf : ∀ i, n ≤ i → f i = 0) :
    ∑ i ∈ Finset.range n, f i = ∑ i ∈ Finset.range N, f i := by
  refine Finset.sum_subset (Finset.range_mono h) fun i _ hi => hf i ?_
  simpa using hi

/-- After the blocks up to the query's own, the sums over the normalizer are the query's attention. -/
theorem Running.out {S : ℕ → Fin 256 → EReal} {W : Option (Fin 64) → ℕ → Fin 256 → EReal} {k : ℕ} {m : EReal} {acc : Option (Fin 64) → EReal}
    (h : Running S W k m acc) (L : ℕ → ℝ) (V : Fin 64 → ℕ → EReal) (r : ℕ) (hk : k ≤ 16) (hr : r < k * 256)
    (hS : ∀ j a, j < k → S j a = sc L r (j * 256 + a.val)) (hV : ∀ d j a, j < k → W (some d) j a = V d (j * 256 + a.val))
    (h1 : ∀ j a, W none j a = 1) (d : Fin 64) : Ideal.div (acc (some d)) (acc none) = attn L (V d) r := by
  rcases h with ⟨hk0, _⟩ | ⟨M, hm, ha⟩
  · subst hk0
    omega
  · have e1 : acc (some d) = ∑ i ∈ Finset.range (k * 256), V d i * ((wt L r i * Real.exp (-(M * Real.log 2)) : ℝ) : EReal) := by
      rw [ha, ← sum_blocks]
      refine Finset.sum_congr rfl fun j hj => Finset.sum_congr rfl fun a _ => ?_
      rw [hS j a (Finset.mem_range.mp hj), hV d j a (Finset.mem_range.mp hj), pw_sc]
    have e2 : acc none = ∑ i ∈ Finset.range (k * 256), ((wt L r i * Real.exp (-(M * Real.log 2)) : ℝ) : EReal) := by
      rw [ha, ← sum_blocks]
      refine Finset.sum_congr rfl fun j hj => Finset.sum_congr rfl fun a _ => ?_
      rw [hS j a (Finset.mem_range.mp hj), h1, pw_sc, one_mul]
    have hz : ∀ i, k * 256 ≤ i → wt L r i = 0 := fun i hi => if_neg (by omega)
    rw [e1, ratio _ _ _ _ (Real.exp_pos _) (wt_sum_pos L r _ hr) _ e2, attn,
      ← sum_cutR (wt L r) (k * 256) 4096 (by omega) hz]
    refine sum_cut _ _ _ (by omega) fun i hi => ?_
    rw [hz i hi, _root_.zero_div, EReal.coe_zero, mul_zero]

/-- A row of the plain softmax, weighting the values: the query's attention. -/
theorem softmax_row (L : ℕ → ℝ) (V : ℕ → EReal) (r : ℕ) (hr : r < 4096) (B : ℝ) (x : Fin 4096 → EReal)
    (hx : ∀ i, x i = if i.val ≤ r then ((L i.val + B : ℝ) : EReal) else ⊥) :
    ∑ i : Fin 4096, Ideal.div (Ideal.exp (x i - max ⊥ (Finset.univ.fold max ⊥ x)))
        (0 + ∑ i : Fin 4096, Ideal.exp (x i - max ⊥ (Finset.univ.fold max ⊥ x))) * V i.val = attn L V r := by
  have hne : ∀ i, x i ≠ ⊤ := fun i => by
    rw [hx]
    split
    · exact EReal.coe_ne_top _
    · exact bot_ne_top
  obtain ⟨M, hM⟩ := max_real Finset.univ x ⊥ bot_ne_top (fun i _ => hne i) (.inr ⟨⟨r, hr⟩, Finset.mem_univ _, by
    rw [hx, if_pos le_rfl]
    exact EReal.coe_ne_bot _⟩)
  have he : ∀ i : Fin 4096, Ideal.exp (x i - (M : EReal)) = ((wt L r i.val * Real.exp (B - M) : ℝ) : EReal) := fun i => by
    rw [hx, wt]
    split
    · rw [← EReal.coe_sub, Ideal.exp_coe, ← Real.exp_add]
      congr 2
      ring
    · rw [EReal.bot_sub, zero_mul]
      rfl
  rw [hM, max_eq_right bot_le]
  simp only [he]
  rw [zero_add, ← coe_sum, ← Finset.sum_mul, Fin.sum_univ_eq_sum_range (wt L r) 4096]
  have hp := wt_sum_pos L r 4096 hr
  have hq : 0 < Real.exp (B - M) := Real.exp_pos _
  rw [attn, ← Fin.sum_univ_eq_sum_range (fun i => V i * ((wt L r i / ∑ i ∈ Finset.range 4096, wt L r i : ℝ) : EReal)) 4096]
  refine Finset.sum_congr rfl fun i _ => ?_
  rw [div_coe _ _ (mul_pos hp hq).ne', mul_comm]
  congr 2
  field_simp

end Fox
-- ==== Proof.Slot.lean ====
module

public import proofs.«01_k».proof.Proof.Out
public import proofs.«01_k».proof.Proof.Online
public import Idealize.ShloMosaic.Lib.Pointwise

@[expose] public section

noncomputable section

namespace Fox

open Idealize.ShloMosaic Idealize.SL.Sem
open Cert.KernelIdeal Cert.KernelIdeal.Facts₀ Cert.KernelIdeal.Facts

variable [Facts]

theorem mask_bot : (Named.named (F := Ideal) κ "mask" (φ := .f32) 0xF149F2CA#32 : Ideal .f32) = (⊥ : EReal) :=
  IdealRules.named_const.ideal_named_scalar κ "mask" (φ := .f32) 0xF149F2CA#32 ⊥ rfl

theorem head_word (d : Fin 128) : (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 d.val) 64#32) 0#32))
        (IntOp.subi (IntOp.divsi ArithUnit.vector (BitVec.ofNat 32 d.val) 64#32) 1#32)
        (IntOp.divsi ArithUnit.vector (BitVec.ofNat 32 d.val) 64#32)) = BitVec.ofNat 32 (d.val / 64) := by
  revert d
  decide +kernel

theorem eq_word (a b : Fin 2) : IntOp.cmpi CmpIPredicate.eq (BitVec.ofNat 32 a.val) (BitVec.ofNat 32 b.val) = if a.val = b.val then 1#1 else 0#1 := by
  revert a b
  decide

theorem ones_word (h : Fin 8) (d : Fin 128) : IntOp.andi (IntOp.cmpi CmpIPredicate.slt (BitVec.ofNat 32 d.val) 24#32)
    (IntOp.cmpi CmpIPredicate.eq (IntOp.remsi ArithUnit.vector (BitVec.ofNat 32 d.val) 8#32) (BitVec.ofNat 32 h.val))
      = if d.val < 24 ∧ d.val % 8 = h.val then 1#1 else 0#1 := by
  revert h d
  decide +kernel

theorem select_ite {α : Type} (p : Prop) [Decidable p] (x y : α) : Scalar.select (if p then 1#1 else 0#1) x y = if p then x else y := by
  unfold Scalar.select
  split <;> rfl

theorem fillV_apply (h : Fin 2) (q : Vec Ideal S1x128x512 .bf16) (d : Fin 128) (c : Fin 512) :
    fillV (BitVec.ofNat 32 h.val) q (ix2 d c) = if d.val / 64 = h.val then q (ix3 0 d c) else 0 := by
  pointwise [fillV, rowHeadV, rowsV]
  rw [head_word, eq_word ⟨d.val / 64, by omega⟩ h, select_ite]

theorem onesV_apply (h : Fin 8) (d : Fin 128) (c : Fin 512) :
    onesV (F := Ideal) (BitVec.ofNat 32 h.val) (ix2 d c) = if d.val < 24 ∧ d.val % 8 = h.val then 1 else 0 := by
  pointwise [onesV, rowsV]
  rw [ones_word, select_ite]

theorem sle_word (a c : ℕ) (ha : a < 2 ^ 31) (hc : c < 2 ^ 31) : IntOp.cmpi CmpIPredicate.sle (BitVec.ofNat 32 a) (BitVec.ofNat 32 c) = if a ≤ c then 1#1 else 0#1 := by
  unfold IntOp.cmpi
  have e : ∀ n, n < 2 ^ 31 → (BitVec.ofNat 32 n).toInt = n := fun n hn => by
    rw [BitVec.toInt_eq_toNat_of_lt] <;> rw [BitVec.toNat_ofNat, Nat.mod_eq_of_lt (by omega)]
    omega
  dsimp only
  rw [BitVec.sle_eq_decide, e a ha, e c hc]
  by_cases h : a ≤ c
  · rw [if_pos h, decide_eq_true (by exact_mod_cast h)]
    rfl
  · rw [if_neg h, decide_eq_false (by exact_mod_cast h)]
    rfl

theorem diag_apply (a c : Fin 256) : diag (ix2 a c) = if a.val ≤ c.val then 1#1 else 0#1 := by
  pointwise [diag]
  rw [IntOp.addi, BitVec.add_zero, sle_word _ _ (by omega) (by omega)]

theorem logitV_apply (k : FVec Ideal S256x256 .bf16) (q : Vec Ideal S1x256x256 .bf16) (a c : Fin 256) :
  logitV k q (ix2 a c) = ∑ d : Fin 256, k (ix2 a d) * q (ix3 0 d c) := by
  pointwise [logitV]

theorem ofBits_ninf : Ideal.ofBits FTy.f32 0xFF800000#32 = ⊥ := by
  simp [Ideal.ofBits, Ideal.ieee]

theorem maxV_apply (m : Vec Ideal S1x1x256 .f32) (s : FVec Ideal S256x256 .f32) (c : Fin 256) :
  maxV m s (ix2 0 c) = max (m (ix3 0 0 c)) (Finset.univ.fold max ⊥ fun a : Fin 256 => s (ix2 a c)) := by
  pointwise [maxV]
  rw [ofBits_ninf]

theorem alphaV_apply (m : Vec Ideal S1x1x256 .f32) (s : FVec Ideal S1x256 .f32) (c : Fin 256) :
  alphaV m s (ix2 0 c) = Ideal.exp2 (m (ix3 0 0 c) - s (ix2 0 c)) := by
  pointwise [alphaV]
  rfl

theorem probV_apply (s : Vec Ideal S1x256x256 .f32) (mn : FVec Ideal S1x256 .f32) (a c : Fin 256) :
  probV s mn (ix2 a c) = Ideal.exp2 (s (ix3 0 a c) - mn (ix2 0 c)) := by
  pointwise [probV]
  rfl

theorem accV_apply (ones : FVec Ideal S16x256 .bf16) (al : FVec Ideal S1x256 .f32) (p : FVec Ideal S256x256 .bf16)
    (v : Vec Ideal S1x64x256 .bf16) (a : Vec Ideal S1x80x256 .f32) (d : Fin 80) (c : Fin 256) :
  accV ones al p v a (ix2 d c) = al (ix2 0 c) * a (ix3 0 d c) + ∑ k : Fin 256, (if h : d.val < 64 then v (ix3 0 ⟨d.val, h⟩ k) else ones (ix2 ⟨d.val - 64, by omega⟩ k)) * p (ix2 k c) := by
  pointwise [accV]

/-- The last division of a norm over 64 channels, its epsilon and its root. -/
def nrm (s : EReal) : EReal := Ideal.rsqrt (Ideal.div s (Ideal.ofBits .f32 0x42800000#32) + Ideal.ofBits .f32 0x358637BD#32)

theorem epiV_apply (a : Vec Ideal S1x80x256 .f32) (d : Fin 64) (c : Fin 256) :
    epiV a (ix2 d c) = Ideal.div (a (ix3 0 ⟨d.val, by omega⟩ c)) (a (ix3 0 64 c))
      * nrm (∑ x : Fin 64, Ideal.div (a (ix3 0 ⟨x.val, by omega⟩ c)) (a (ix3 0 64 c)) * Ideal.div (a (ix3 0 ⟨x.val, by omega⟩ c)) (a (ix3 0 64 c))) := by
  pointwise [epiV]
  rfl

theorem outV_apply (o : Vec Ideal S512x1024 .f32) (g : Vec Ideal S1x512 .f32) (r : Fin 1024) (w : Fin 512) :
  outV o g (ix2 r w) = o (ix2 w r) * g (ix2 0 w) := by
  pointwise [outV]

theorem kcat_apply (x y : FVec Ideal S256x128 .bf16) (a d : Fin 256) :
  kcat x y (ix2 a d) = if h : d.val < 128 then x (ix2 a ⟨d.val, h⟩) else y (ix2 a ⟨d.val - 128, by omega⟩) := by
  pointwise [kcat]

end Fox
-- ==== Proof.Rows.lean ====
module

public import proofs.«01_k».proof.Proof.Slot

@[expose] public section

noncomputable section

namespace Fox

open Idealize.ShloMosaic Idealize.SL.Sem
open Cert.KernelIdeal Cert.KernelIdeal.Facts₀ Cert.KernelIdeal.Facts

theorem cut_at {s : Shape} {α : Type} (off size : Fin s.rank → ℕ) (inb : ∀ a, off a + size a ≤ s.size a) (X : s.Idx → α)
    (j : (Rect.unit (s := s) off size inb).shape.Idx) (k : s.Idx) (hk : ∀ a, (k a).val = off a + (j a).val) :
    cut (Rect.unit (s := s) off size inb) X j = X k := by
  unfold cut
  refine congrArg X (funext fun a => Fin.ext ?_)
  refine (Rect.emb_apply _ _ _).trans ?_
  rw [hk a]
  show off a + 1 * (j a).val = off a + (j a).val
  omega

variable [Facts]

theorem kk_at (j : Fin 16) (g : Fin 4) (X : Vec Ideal S4096x512 .bf16) (a : Fin 256) (d : Fin 128) :
    cut (rkk j g) X (ix2 a d) = X (ix2 ⟨j.val * 256 + a.val, by omega⟩ ⟨g.val * 128 + d.val, by omega⟩) :=
  cut_at _ _ _ X (ix2 a d) (ix2 _ _) fun b => by fin_cases b <;> rfl

theorem fa_at (j : Fin 16) (X : Vec Ideal S4096x128 .bf16) (a : Fin 256) (d : Fin 128) :
    cut (rfa j) X (ix2 a d) = X (ix2 ⟨j.val * 256 + a.val, by omega⟩ d) :=
  cut_at _ _ _ X (ix2 a d) (ix2 _ _) fun b => by
    fin_cases b
    · rfl
    · exact (Nat.zero_add _).symm

theorem vv_at (j : Fin 16) (h : Fin 8) (X : Vec Ideal S16x512x256 .bf16) (d : Fin 64) (k : Fin 256) :
    cut (rvv j h) X (ix3 0 d k) = X (ix3 j ⟨h.val * 64 + d.val, by omega⟩ k) :=
  cut_at _ _ _ X (ix3 0 d k) (ix3 _ _ _) fun b => by
    fin_cases b
    · rfl
    · rfl
    · exact (Nat.zero_add _).symm

theorem qa_at (h : Fin 8) (u : Fin 4) (X : Vec Ideal S8x256x1024 .bf16) (d : Fin 256) (c : Fin 256) :
    cut (rqa h u) X (ix3 0 d c) = X (ix3 h d ⟨u.val * 256 + c.val, by omega⟩) :=
  cut_at _ _ _ X (ix3 0 d c) (ix3 _ _ _) fun b => by
    fin_cases b
    · rfl
    · exact (Nat.zero_add _).symm
    · rfl

theorem half_at (h : Fin 8) (lo t : Fin 2) (X : Vec Ideal S8x256x1024 .bf16) (d : Fin 128) (c : Fin 512) :
    cutH h lo t X (ix3 0 d c) = X (ix3 h ⟨lo.val * 128 + d.val, by omega⟩ ⟨t.val * 512 + c.val, by omega⟩) :=
  cut_at _ _ _ X (ix3 0 d c) (ix3 _ _ _) fun b => by fin_cases b <;> rfl

theorem qt_at (t : Fin 2) (g : Fin 4) (X : Vec Ideal S2x512x512 .bf16) (d : Fin 128) (c : Fin 512) :
    cut (rqt t g) X (ix3 0 d c) = X (ix3 t ⟨g.val * 128 + d.val, by omega⟩ c) :=
  cut_at _ _ _ X (ix3 0 d c) (ix3 _ _ _) fun b => by
    fin_cases b
    · rfl
    · rfl
    · exact (Nat.zero_add _).symm

theorem mm_at (h : Fin 8) (u : Fin 4) (X : Vec Ideal S32x1x256 .f32) (c : Fin 256) :
    cutM h u X (ix3 0 0 c) = X (ix3 ⟨h.val * 4 + u.val, by omega⟩ 0 c) :=
  cut_at _ _ _ X (ix3 0 0 c) (ix3 _ _ _) fun b => by
    fin_cases b
    · rfl
    · rfl
    · exact (Nat.zero_add _).symm

theorem ac_at (h : Fin 8) (u : Fin 4) (X : Vec Ideal S32x80x256 .f32) (d : Fin 80) (c : Fin 256) :
    cutA h u X (ix3 0 d c) = X (ix3 ⟨h.val * 4 + u.val, by omega⟩ d c) :=
  cut_at _ _ _ X (ix3 0 d c) (ix3 _ _ _) fun b => by
    fin_cases b
    · rfl
    · exact (Nat.zero_add _).symm
    · exact (Nat.zero_add _).symm

theorem oo_at (h : Fin 8) (u : Fin 4) (X : Vec Ideal S512x1024 .f32) (d : Fin 64) (c : Fin 256) :
    cutO h u X (ix2 d c) = X (ix2 ⟨h.val * 64 + d.val, by omega⟩ ⟨u.val * 256 + c.val, by omega⟩) :=
  cut_at _ _ _ X (ix2 d c) (ix2 _ _) fun b => by fin_cases b <;> rfl

theorem mm0_at (h : Fin 8) (u : Fin 4) (c : Fin 256) : cutM h u (mm0 (F := Ideal)) (ix3 0 0 c) = ⊥ := by
  rw [mm_at]
  refine Eq.trans ?_ mask_bot
  pointwise [mm0]

theorem ac0_at (h : Fin 8) (u : Fin 4) (d : Fin 80) (c : Fin 256) : cutA h u (ac0 (F := Ideal)) (ix3 0 d c) = 0 := by
  rw [ac_at]
  pointwise [ac0]

theorem onesP_at (h : Fin 8) (d : Fin 128) (c : Fin 512) :
    onesP (F := Ideal) h (ix3 0 d c) = if d.val < 24 ∧ d.val % 8 = h.val then 1 else 0 := by
  rw [← onesV_apply h d c]
  pointwise [onesP]

theorem fillP_at (x0 : Vec Ideal S2x512x512 .bf16) (h : Fin 8) (t : Fin 2) (d : Fin 128) (c : Fin 512) :
    fillP x0 h t (ix3 0 d c) = if d.val / 64 = h.val % 2 then x0 (ix3 t ⟨(h.val / 2) * 128 + d.val, by omega⟩ c) else 0 := by
  have e := fillV_apply ⟨h.val % 2, by omega⟩ (cut (rqt t ⟨h.val / 2, by omega⟩) x0) d c
  rw [qt_at] at e
  refine Eq.trans ?_ e
  pointwise [fillP]

/-- The queries' buffer: a head's queries, the other head's rows at zero, then the rows that pick the forget columns. -/
theorem qaC_at (x0 : Vec Ideal S2x512x512 .bf16) (h : Fin 8) (d : Fin 256) (u : Fin 4) (c : Fin 256) :
    cut (rqa h u) (qaC x0) (ix3 0 d c) = if d.val < 128 then
        (if d.val / 64 = h.val % 2 then x0 (ix3 ⟨u.val / 2, by omega⟩ ⟨(h.val / 2) * 128 + d.val % 128, by omega⟩ ⟨(u.val % 2) * 256 + c.val, by omega⟩) else 0)
      else if d.val - 128 < 24 ∧ (d.val - 128) % 8 = h.val then 1 else 0 := by
  rw [qa_at]
  by_cases hd : d.val < 128
  · rw [if_pos hd]
    have e := half_at h 0 ⟨u.val / 2, by omega⟩ (qaC x0) ⟨d.val, hd⟩ ⟨(u.val % 2) * 256 + c.val, by omega⟩
    have e2 : cutH h 0 ⟨u.val / 2, by omega⟩ (qaC x0) = fillP x0 h ⟨u.val / 2, by omega⟩ := cutH_fillS x0 _ h _
    rw [e2, fillP_at] at e
    have i1 : (⟨(0 : Fin 2).val * 128 + d.val, by omega⟩ : Fin 256) = d := Fin.ext (by show 0 * 128 + d.val = d.val; omega)
    have i2 : (⟨u.val / 2 * 512 + ((u.val % 2) * 256 + c.val), by omega⟩ : Fin 1024) = ⟨u.val * 256 + c.val, by omega⟩ := Fin.ext (by show u.val / 2 * 512 + ((u.val % 2) * 256 + c.val) = u.val * 256 + c.val; omega)
    have i3 : (⟨(h.val / 2) * 128 + d.val % 128, by omega⟩ : Fin 512) = ⟨(h.val / 2) * 128 + d.val, by omega⟩ := Fin.ext (by show (h.val / 2) * 128 + d.val % 128 = (h.val / 2) * 128 + d.val; omega)
    rw [i3]
    refine Eq.trans ?_ e.symm
    exact congrArg (qaC x0) (by dsimp only; rw [i1, i2])
  · rw [if_neg hd]
    have e := half_at h 1 ⟨u.val / 2, by omega⟩ (qaC x0) ⟨d.val - 128, by omega⟩ ⟨(u.val % 2) * 256 + c.val, by omega⟩
    have e2 : cutH h 1 ⟨u.val / 2, by omega⟩ (qaC x0) = onesP h := hasOnes_fillS x0 _ (hasOnes_onesS _) h _
    rw [e2, onesP_at] at e
    have i1 : (⟨(1 : Fin 2).val * 128 + (d.val - 128), by show 1 * 128 + (d.val - 128) < 256; omega⟩ : Fin 256) = d := Fin.ext (by show 1 * 128 + (d.val - 128) = d.val; omega)
    have i2 : (⟨u.val / 2 * 512 + ((u.val % 2) * 256 + c.val), by omega⟩ : Fin 1024) = ⟨u.val * 256 + c.val, by omega⟩ := Fin.ext (by show u.val / 2 * 512 + ((u.val % 2) * 256 + c.val) = u.val * 256 + c.val; omega)
    refine Eq.trans ?_ e.symm
    exact congrArg (qaC x0) (by dsimp only; rw [i1, i2])

theorem keyOf_at (I : Inp Ideal) (j : Fin 16) (g : Fin 4) (a d : Fin 256) :
    keyOf I j g (ix2 a d) = if h : d.val < 128 then I.kk (ix2 ⟨j.val * 256 + a.val, by omega⟩ ⟨g.val * 128 + d.val, by omega⟩)
      else I.fa (ix2 ⟨j.val * 256 + a.val, by omega⟩ ⟨d.val - 128, by omega⟩) := by
  refine (kcat_apply (cut (rkk j g) I.kk) (cut (rfa j) I.fa) a d).trans ?_
  split
  · exact kk_at j g I.kk a _
  · exact fa_at j I.fa a _

theorem logitOf_at (I : Inp Ideal) (j : Fin 16) (h : Fin 8) (u : Fin 4) (a c : Fin 256) :
    logitOf I j h u (ix2 a c) = ∑ d : Fin 256, keyOf I j (pairOf h) (ix2 a d) * cut (rqa h u) I.qa (ix3 0 d c) := logitV_apply _ _ a c

theorem scoreOf_at (I : Inp Ideal) (it : Item) (a c : Fin 256) :
    scoreOf I diag it (ix2 a c) = if it.masked = true ∧ ¬ a.val ≤ c.val then ⊥ else logitOf I it.j it.h it.sub (ix2 a c) := by
  unfold scoreOf
  cases it.masked with
  | false => rfl
  | true =>
    show Scalar.select (diag (ix2 a c)) (logitOf I it.j it.h it.sub (ix2 a c)) _ = _
    rw [diag_apply, select_ite]
    by_cases h : a.val ≤ c.val
    · rw [if_pos h, if_neg fun x => x.2 h]
    · rw [if_neg h, if_pos ⟨rfl, h⟩]
      exact mask_bot

/-- The row of the running sums a channel is in; the normalizer is in the row after them. -/
def rowOf : Option (Fin 64) → Fin 80
  | some d => ⟨d.val, by omega⟩
  | none => 64

/-- What the weights multiply. -/
def wOf (I : Inp Ideal) (it : Item) : Option (Fin 64) → Fin 256 → EReal
  | some d, k => I.vv (ix3 it.j ⟨it.h.val * 64 + d.val, by omega⟩ k)
  | none, _ => 1

theorem slotStep_max (I : Inp Ideal) (x : Vec Ideal S1x1x256 .f32 × Vec Ideal S1x80x256 .f32) (it : Item) (c : Fin 256) :
    (slotStep I onesRows diag x it).1 (ix3 0 0 c) = max (x.1 (ix3 0 0 c)) (Finset.univ.fold max ⊥ fun a : Fin 256 => scoreOf I diag it (ix2 a c)) := by
  rw [← maxV_apply]
  show shapeCast S1x1x256 (maxV x.1 (scoreOf I diag it)) shapeCasts_S1x256_S1x1x256 (ix3 0 0 c) = _
  generalize maxV x.1 (scoreOf I diag it) = y
  pointwise

theorem slotStep_acc (I : Inp Ideal) (x : Vec Ideal S1x1x256 .f32 × Vec Ideal S1x80x256 .f32) (it : Item) (c : Fin 256) (δ : Option (Fin 64)) :
    (slotStep I onesRows diag x it).2 (ix3 0 (rowOf δ) c)
      = Ideal.exp2 (x.1 (ix3 0 0 c) - (slotStep I onesRows diag x it).1 (ix3 0 0 c)) * x.2 (ix3 0 (rowOf δ) c)
        + ∑ k, wOf I it δ k * Ideal.exp2 (scoreOf I diag it (ix2 k c) - (slotStep I onesRows diag x it).1 (ix3 0 0 c)) := by
  rw [slotStep_max, ← maxV_apply]
  show shapeCast S1x80x256 (accV onesRows (alphaV x.1 (maxV x.1 (scoreOf I diag it)))
      (probV (shapeCast S1x256x256 (scoreOf I diag it) shapeCasts_S256x256_S1x256x256) (maxV x.1 (scoreOf I diag it)))
      (cut (rvv it.j it.h) I.vv) x.2) shapeCasts_S80x256_S1x80x256 (ix3 0 (rowOf δ) c) = _
  generalize hs : scoreOf I diag it = s
  generalize maxV x.1 s = mn
  have e : shapeCast S1x80x256 (accV onesRows (alphaV x.1 mn) (probV (shapeCast S1x256x256 s shapeCasts_S256x256_S1x256x256) mn)
      (cut (rvv it.j it.h) I.vv) x.2) shapeCasts_S80x256_S1x80x256 (ix3 0 (rowOf δ) c)
      = accV onesRows (alphaV x.1 mn) (probV (shapeCast S1x256x256 s shapeCasts_S256x256_S1x256x256) mn)
      (cut (rvv it.j it.h) I.vv) x.2 (ix2 (rowOf δ) c) := by
    generalize accV onesRows (alphaV x.1 mn) (probV (shapeCast S1x256x256 s shapeCasts_S256x256_S1x256x256) mn) (cut (rvv it.j it.h) I.vv) x.2 = y
    pointwise
  refine e.trans ((accV_apply onesRows (alphaV x.1 mn) _ (cut (rvv it.j it.h) I.vv) x.2 (rowOf δ) c).trans ?_)
  rw [alphaV_apply]
  congr 1
  refine Finset.sum_congr rfl fun k _ => ?_
  rw [probV_apply]
  congr 1
  · cases δ with
    | some d =>
      rw [dif_pos (show (rowOf (some d)).val < 64 from d.isLt)]
      exact vv_at it.j it.h I.vv d k
    | none =>
      rw [dif_neg (show ¬ (rowOf none).val < 64 from by decide)]
      exact Ideal.ofBits_one_bf16
  · congr 2
    pointwise

end Fox
-- ==== Proof.Value.lean ====
module

public import proofs.«01_k».proof.Proof.Rows

@[expose] public section

noncomputable section

namespace Fox

open Idealize.ShloMosaic Idealize.SL.Sem
open Cert.KernelIdeal Cert.KernelIdeal.Facts₀ Cert.KernelIdeal.Facts

/-- The score of key `i` for query `p` of head `h`, up to what depends on the query alone. -/
def scoreR (Q K : ℕ → ℕ → ℝ) (Fs : ℕ → ℕ → ℝ) (h p i : ℕ) : ℝ :=
  (∑ d ∈ Finset.range 64, Q p (h * 64 + d) * K i (h * 64 + d)) / 8 - Fs i h

/-- A head's attention output at a query and channel. -/
def headR (Q K : ℕ → ℕ → ℝ) (Fs : ℕ → ℕ → ℝ) (V : ℕ → ℕ → EReal) (h p : ℕ) (d : ℕ) : EReal :=
  attn (scoreR Q K Fs h p) (fun i => V i (h * 64 + d)) p

/-- The output at a query and channel: the head's output over the root of its mean square, times the channel's weight. -/
def outR (Q K : ℕ → ℕ → ℝ) (Fs : ℕ → ℕ → ℝ) (V : ℕ → ℕ → EReal) (G : ℕ → EReal) (p w : ℕ) : EReal :=
  headR Q K Fs V (w / 64) p (w % 64) * nrm (∑ x : Fin 64, headR Q K Fs V (w / 64) p x.val * headR Q K Fs V (w / 64) p x.val) * G w

/-- A tile's inputs: queries over 8 log 2, keys, the negated forget sums over log 2 in the first eight columns, values, weights. -/
structure Inputs (q : ℕ) (Q K : ℕ → ℕ → ℝ) (Fs : ℕ → ℕ → ℝ) (V : ℕ → ℕ → EReal) (G : ℕ → EReal)
    (x0 : Vec Ideal S2x512x512 .bf16) (x1 : Vec Ideal S4096x512 .bf16) (x2 : Vec Ideal S4096x128 .bf16) (x3 : Vec Ideal S16x512x256 .bf16)
    (x4 : Vec Ideal S1x512 .f32) : Prop where
  h0 : ∀ (t : Fin 2) (w l : Fin 512), x0 (ix3 t w l) = ((Q (q * 1024 + (t.val * 512 + l.val)) w.val / (8 * Real.log 2) : ℝ) : EReal)
  h1 : ∀ (i : Fin 4096) (w : Fin 512), x1 (ix2 i w) = ((K i.val w.val : ℝ) : EReal)
  h2 : ∀ (i : Fin 4096) (n : Fin 128), x2 (ix2 i n) = if n.val < 8 then ((-Fs i.val n.val / Real.log 2 : ℝ) : EReal) else 0
  h3 : ∀ (j : Fin 16) (w : Fin 512) (a : Fin 256), x3 (ix3 j w a) = V (j.val * 256 + a.val) w.val
  h4 : ∀ w : Fin 512, x4 (ix2 0 w) = G w.val

section

variable {q : ℕ} {Q K : ℕ → ℕ → ℝ} {Fs : ℕ → ℕ → ℝ} {V : ℕ → ℕ → EReal} {G : ℕ → EReal}

/-- The products the logits sum. -/
def termE (Q K Fs : ℕ → ℕ → ℝ) (h p i d : ℕ) : EReal :=
  (if d < 128 then ((K i (h / 2 * 128 + d) : ℝ) : EReal) else if d - 128 < 8 then ((-Fs i (d - 128) / Real.log 2 : ℝ) : EReal) else 0)
    * (if d < 128 then (if d / 64 = h % 2 then ((Q p (h / 2 * 128 + d) / (8 * Real.log 2) : ℝ) : EReal) else 0)
      else if d - 128 < 24 ∧ (d - 128) % 8 = h then 1 else 0)

theorem range_zero (f : ℕ → EReal) (n : ℕ) (hf : ∀ d, d < n → f d = 0) : ∑ d ∈ Finset.range n, f d = 0 :=
  Finset.sum_eq_zero fun d hd => hf d (Finset.mem_range.mp hd)

theorem term_sum (h p i : ℕ) (hh : h < 8) :
    ∑ d ∈ Finset.range 256, termE Q K Fs h p i d = ((scoreR Q K Fs h p i / Real.log 2 : ℝ) : EReal) := by
  have hl : Real.log 2 ≠ 0 := (Real.log_pos (by norm_num)).ne'
  have hhalf : ∀ e, e < 2 → e = h % 2 → ∑ d ∈ Finset.range 64, termE Q K Fs h p i (e * 64 + d)
      = (((∑ d ∈ Finset.range 64, Q p (h * 64 + d) * K i (h * 64 + d)) / 8 / Real.log 2 : ℝ) : EReal) := by
    intro e he e1
    rw [Finset.sum_div, Finset.sum_div, coe_sum]
    refine Finset.sum_congr rfl fun d hd => ?_
    have hd' := Finset.mem_range.mp hd
    unfold termE
    rw [if_pos (by omega), if_pos (by omega), if_pos (by omega), ← EReal.coe_mul]
    have : h / 2 * 128 + (e * 64 + d) = h * 64 + d := by omega
    rw [this]
    congr 1
    field_simp
  have hnone : ∀ e, e < 2 → e ≠ h % 2 → ∑ d ∈ Finset.range 64, termE Q K Fs h p i (e * 64 + d) = 0 := by
    intro e he e1
    refine range_zero _ _ fun d hd => ?_
    unfold termE
    rw [if_pos (show e * 64 + d < 128 by omega), if_pos (show e * 64 + d < 128 by omega), if_neg (show ¬ (e * 64 + d) / 64 = h % 2 by omega), mul_zero]
  have hlast : ∑ d ∈ Finset.range 128, termE Q K Fs h p i (128 + d) = ((-Fs i h / Real.log 2 : ℝ) : EReal) := by
    rw [Finset.sum_eq_single h]
    · unfold termE
      rw [if_neg (show ¬ 128 + h < 128 by omega), if_neg (show ¬ 128 + h < 128 by omega), Nat.add_sub_cancel_left, if_pos hh,
        if_pos (show h < 24 ∧ h % 8 = h by omega), mul_one]
    · intro d hd hne
      unfold termE
      rw [if_neg (show ¬ 128 + d < 128 by omega), if_neg (show ¬ 128 + d < 128 by omega), Nat.add_sub_cancel_left]
      by_cases h8 : d < 8
      · rw [if_neg (show ¬ (d < 24 ∧ d % 8 = h) by omega), mul_zero]
      · rw [if_neg h8, zero_mul]
    · intro hn
      exact absurd (Finset.mem_range.mpr (by omega)) hn
  have e3 : ∑ d ∈ Finset.range 256, termE Q K Fs h p i d
      = (∑ d ∈ Finset.range 64, termE Q K Fs h p i (0 * 64 + d) + ∑ d ∈ Finset.range 64, termE Q K Fs h p i (1 * 64 + d))
        + ∑ d ∈ Finset.range 128, termE Q K Fs h p i (128 + d) := by
    have a1 := Finset.sum_range_add (termE Q K Fs h p i) 128 128
    have a2 := Finset.sum_range_add (termE Q K Fs h p i) 64 64
    simp only [Nat.reduceAdd] at a1 a2
    rw [a1, a2]
    simp only [Nat.zero_mul, Nat.zero_add, Nat.one_mul]
  have hs : ((scoreR Q K Fs h p i / Real.log 2 : ℝ) : EReal)
      = (((∑ d ∈ Finset.range 64, Q p (h * 64 + d) * K i (h * 64 + d)) / 8 / Real.log 2 : ℝ) : EReal) + ((-Fs i h / Real.log 2 : ℝ) : EReal) := by
    rw [← EReal.coe_add, scoreR]
    congr 1
    ring
  rw [e3, hs, hlast]
  congr 1
  rcases Nat.mod_two_eq_zero_or_one h with e | e
  · rw [hhalf 0 (by omega) e.symm, hnone 1 (by omega) (by omega), add_zero]
  · rw [hhalf 1 (by omega) e.symm, hnone 0 (by omega) (by omega), zero_add]

end

variable [Facts]

section

variable {q : ℕ} {Q K : ℕ → ℕ → ℝ} {Fs : ℕ → ℕ → ℝ} {V : ℕ → ℕ → EReal} {G : ℕ → EReal}
variable {x0 : Vec Ideal S2x512x512 .bf16} {x1 : Vec Ideal S4096x512 .bf16} {x2 : Vec Ideal S4096x128 .bf16} {x3 : Vec Ideal S16x512x256 .bf16}
variable {x4 : Vec Ideal S1x512 .f32}

/-- One block more: the running pair after a slot's step. -/
theorem Running.slot {S : ℕ → Fin 256 → EReal} {W : Option (Fin 64) → ℕ → Fin 256 → EReal} {k : ℕ} (I : Inp Ideal)
    (x : Vec Ideal S1x1x256 .f32 × Vec Ideal S1x80x256 .f32) (it : Item) (c : Fin 256)
    (r : Running S W k (x.1 (ix3 0 0 c)) (fun δ => x.2 (ix3 0 (rowOf δ) c)))
    (hS : ∀ a : Fin 256, scoreOf I diag it (ix2 a c) = S k a) (hW : ∀ δ a, wOf I it δ a = W δ k a)
    (ht : ∀ a, S k a ≠ ⊤) (hb : S k 0 ≠ ⊥) :
    Running S W (k + 1) ((slotStep I onesRows diag x it).1 (ix3 0 0 c)) (fun δ => (slotStep I onesRows diag x it).2 (ix3 0 (rowOf δ) c)) := by
  have hf : S k = fun a : Fin 256 => scoreOf I diag it (ix2 a c) := funext fun a => (hS a).symm
  have st := r.step ht ⟨0, hb⟩ ((slotStep I onesRows diag x it).1 (ix3 0 0 c)) (by rw [slotStep_max, hf])
  have e : (fun δ => (slotStep I onesRows diag x it).2 (ix3 0 (rowOf δ) c)) = _ := funext fun δ => slotStep_acc I x it c δ
  rw [e]
  simp only [hS, hW]
  exact st

theorem sc_ne_top (L : ℕ → ℝ) (r i : ℕ) : sc L r i ≠ ⊤ := by
  unfold sc
  split
  · exact EReal.coe_ne_top _
  · exact bot_ne_top

theorem sc_ne_bot (L : ℕ → ℝ) (r i : ℕ) (h : i ≤ r) : sc L r i ≠ ⊥ := by
  rw [sc, if_pos h]
  exact EReal.coe_ne_bot _

theorem Inputs.logit (H : Inputs q Q K Fs V G x0 x1 x2 x3 x4) (j : Fin 16) (h : Fin 8) (u : Fin 4) (a c : Fin 256) :
    logitOf ⟨x1, x2, x3, qaC x0⟩ j h u (ix2 a c)
      = ((scoreR Q K Fs h.val (q * 1024 + (u.val * 256 + c.val)) (j.val * 256 + a.val) / Real.log 2 : ℝ) : EReal) := by
  rw [← term_sum h.val _ _ h.isLt, ← Fin.sum_univ_eq_sum_range (termE Q K Fs h.val (q * 1024 + (u.val * 256 + c.val)) (j.val * 256 + a.val)) 256]
  refine (logitOf_at ⟨x1, x2, x3, qaC x0⟩ j h u a c).trans ?_
  refine Finset.sum_congr rfl fun d _ => ?_
  unfold termE
  refine congrArg₂ (· * ·) ?_ ?_
  · refine (keyOf_at ⟨x1, x2, x3, qaC x0⟩ j (pairOf h) a d).trans ?_
    by_cases hd : d.val < 128
    · rw [dif_pos hd, if_pos hd]
      exact H.h1 _ _
    · rw [dif_neg hd, if_neg hd]
      exact H.h2 _ _
  · have e := qaC_at x0 h d u c
    generalize qaC x0 = y at e ⊢
    dsimp only
    refine e.trans ?_
    by_cases hd : d.val < 128
    · rw [if_pos hd, if_pos hd]
      by_cases h2 : d.val / 64 = h.val % 2
      · rw [if_pos h2, if_pos h2, H.h0]
        have e1 : u.val / 2 * 512 + (u.val % 2 * 256 + c.val) = u.val * 256 + c.val := by omega
        have e2 : h.val / 2 * 128 + d.val % 128 = h.val / 2 * 128 + d.val := by omega
        dsimp only
        rw [e1, e2]
      · rw [if_neg h2, if_neg h2]
    · rw [if_neg hd, if_neg hd]

/-- The running pair of a slot after `k` blocks, the last of them perhaps the query's own. -/
theorem Inputs.running (H : Inputs q Q K Fs V G x0 x1 x2 x3 x4) (hq : q < 4) (h : Fin 8) (u : Fin 4) (c : Fin 256) :
    ∀ k, k ≤ 4 * q + u.val →
      Running (fun j a => sc (scoreR Q K Fs h.val (q * 1024 + (u.val * 256 + c.val))) (q * 1024 + (u.val * 256 + c.val)) (j * 256 + a.val))
        (fun δ j a => wOf ⟨x1, x2, x3, qaC x0⟩ (slotItem h u j false) δ a) k
        ((flash ⟨x1, x2, x3, qaC x0⟩ onesRows diag h u k (cutM h u mm0, cutA h u ac0)).1 (ix3 0 0 c))
        (fun δ => (flash ⟨x1, x2, x3, qaC x0⟩ onesRows diag h u k (cutM h u mm0, cutA h u ac0)).2 (ix3 0 (rowOf δ) c)) := by
  intro k
  induction k with
  | zero => exact fun _ => .inl ⟨rfl, mm0_at h u c, fun δ => ac0_at h u (rowOf δ) c⟩
  | succ k ih =>
    intro hk
    have r := ih (by omega)
    have hk16 : k % 16 = k := Nat.mod_eq_of_lt (by omega)
    refine Running.slot _ _ (slotItem h u k false) c r (fun a => ?_) (fun δ a => rfl) (fun a => sc_ne_top _ _ _)
      (sc_ne_bot _ _ _ (by show k * 256 + 0 ≤ _; omega))
    rw [scoreOf_at, if_neg (fun x => Bool.false_ne_true x.1), sc, if_pos (by omega)]
    refine (H.logit _ h u a c).trans ?_
    show (((scoreR Q K Fs h.val _ (k % 16 * 256 + a.val)) / Real.log 2 : ℝ) : EReal) = _
    rw [hk16]

theorem Inputs.head (H : Inputs q Q K Fs V G x0 x1 x2 x3 x4) (hq : q < 4) (h : Fin 8) (u : Fin 4) (c : Fin 256) (d : Fin 64) :
    Ideal.div (cutA h u (accC q x0 x1 x2 x3) (ix3 0 ⟨d.val, by omega⟩ c)) (cutA h u (accC q x0 x1 x2 x3) (ix3 0 64 c))
      = headR Q K Fs V h.val (q * 1024 + (u.val * 256 + c.val)) d.val := by
  have r := H.running hq h u c (4 * q + u.val) le_rfl
  rw [accC_slot q hq]
  generalize flash ⟨x1, x2, x3, qaC x0⟩ onesRows diag h u (4 * q + u.val) (cutM h u mm0, cutA h u ac0) = y at r ⊢
  have hk16 : (4 * q + u.val) % 16 = 4 * q + u.val := Nat.mod_eq_of_lt (by omega)
  have st := Running.slot _ _ (slotItem h u (4 * q + u.val) true) c r (fun a => by
      rw [scoreOf_at, sc]
      by_cases ha : a.val ≤ c.val
      · rw [if_neg (fun x => x.2 ha), if_pos (by omega)]
        refine (H.logit _ h u a c).trans ?_
        show (((scoreR Q K Fs h.val _ ((4 * q + u.val) % 16 * 256 + a.val)) / Real.log 2 : ℝ) : EReal) = _
        rw [hk16]
      · rw [if_pos ⟨rfl, ha⟩, if_neg (by omega)]) (fun δ a => by cases δ <;> rfl) (fun a => sc_ne_top _ _ _)
      (sc_ne_bot _ _ _ (by show (4 * q + u.val) * 256 + 0 ≤ _; omega))
  refine (st.out (scoreR Q K Fs h.val (q * 1024 + (u.val * 256 + c.val))) (fun d i => V i (h.val * 64 + d.val)) (q * 1024 + (u.val * 256 + c.val))
    (by omega) (by omega) (fun j a _ => rfl) (fun d j a hj => ?_) (fun j a => rfl) d)
  have : j % 16 = j := Nat.mod_eq_of_lt (by omega)
  refine (H.h3 _ _ _).trans ?_
  show V (j % 16 * 256 + a.val) (h.val * 64 + d.val) = _
  rw [this]

/-- A tile's block, entry by entry. -/
theorem Inputs.tile (H : Inputs q Q K Fs V G x0 x1 x2 x3 x4) (hq : q < 4) (r : Fin 1024) (w : Fin 512) :
    tileOut q x0 x1 x2 x3 x4 (ix2 r w) = outR Q K Fs V G (q * 1024 + r.val) w.val := by
  unfold tileOut
  rw [outV_apply, H.h4, outR]
  congr 1
  have e := oo_at ⟨w.val / 64, by omega⟩ ⟨r.val / 256, by omega⟩ (epiS (accC q x0 x1 x2 x3) fun _ => Scalar.ofBits (F := Ideal) .f32 0#32) ⟨w.val % 64, by omega⟩ ⟨r.val % 256, by omega⟩
  have i1 : (⟨w.val / 64 * 64 + w.val % 64, by omega⟩ : Fin 512) = w := Fin.ext (by show w.val / 64 * 64 + w.val % 64 = w.val; omega)
  have i2 : (⟨r.val / 256 * 256 + r.val % 256, by omega⟩ : Fin 1024) = r := Fin.ext (by show r.val / 256 * 256 + r.val % 256 = r.val; omega)
  dsimp only at e
  rw [i1, i2, cutO_epiS] at e
  rw [← e]
  have ep : epiP (accC q x0 x1 x2 x3) ⟨w.val / 64, by omega⟩ ⟨r.val / 256, by omega⟩ (ix2 (⟨w.val % 64, by omega⟩ : Fin 64) (⟨r.val % 256, by omega⟩ : Fin 256))
      = epiV (cutA ⟨w.val / 64, by omega⟩ ⟨r.val / 256, by omega⟩ (accC q x0 x1 x2 x3)) (ix2 (⟨w.val % 64, by omega⟩ : Fin 64) (⟨r.val % 256, by omega⟩ : Fin 256)) := by
    unfold epiP cutA
    generalize epiV (cut (rac ⟨w.val / 64, by omega⟩ ⟨r.val / 256, by omega⟩) (accC q x0 x1 x2 x3)) = y
    pointwise
  rw [ep, epiV_apply]
  simp only [H.head hq]
  have i3 : q * 1024 + (r.val / 256 * 256 + r.val % 256) = q * 1024 + r.val := by omega
  have hd := fun d : Fin 64 => H.head hq ⟨w.val / 64, by omega⟩ ⟨r.val / 256, by omega⟩ ⟨r.val % 256, by omega⟩ d
  simp only [i3] at hd ⊢
  exact congrArg (· * _) (hd ⟨w.val % 64, by omega⟩)
end

end Fox
-- ==== Proof.Prep.lean ====
module

public import proofs.«01_k».proof.Proof.Value
public import Idealize.ShloMosaic.Lib.IdealHost

@[expose] public section

noncomputable section

namespace Fox

open Idealize.ShloMosaic Idealize.SL.Sem
open Cert.KernelIdeal Cert.KernelIdeal.Facts₀ Cert.KernelIdeal.Facts

variable [Facts]

/-- The queries over 8 log 2, tiles of them transposed. -/
def qtT (x : FVec Ideal S8x4096x512 .f32) : FVec Ideal S64x512x512 .bf16 :=
  truncf .bf16 (Host.divf (mulf (transpose S64x512x512 [0, 2, 1] (shapeCast S64x512x512 x shapeCasts_S8x4096x512_S64x512x512) transposes_S64x512x512_S64x512x512_0_2_1)
    (broadcastInDim S64x512x512 ![] bcast_S_S64x512x512 (constant S_ .f32 0x3E000000#32)))
    (broadcastInDim S64x512x512 ![] bcast_S_S64x512x512 (Host.log (constant S_ .f32 0x40000000#32)))) bitsLt_bf16_f32

/-- The values, blocks of them transposed. -/
def vtT (x : FVec Ideal S8x4096x512 .f32) : FVec Ideal S128x512x256 .bf16 :=
  truncf .bf16 (transpose S128x512x256 [0, 2, 1] (shapeCast S128x256x512 x shapeCasts_S8x4096x512_S128x256x512) transposes_S128x256x512_S128x512x256_0_2_1) bitsLt_bf16_f32

/-- The keys. -/
def kT (x : FVec Ideal S8x4096x512 .f32) : FVec Ideal S32768x512 .bf16 :=
  truncf .bf16 (shapeCast S32768x512 x shapeCasts_S8x4096x512_S32768x512) bitsLt_bf16_f32

/-- The forget logits with their bias. -/
def zT (x : FVec Ideal S8x4096x8 .f32) (b : FVec Ideal S8 .f32) : FVec Ideal S8x4096x8 .f32 :=
  addf x (broadcastInDim S8x4096x8 ![0, 1, 2] bcast_S1x1x8_S8x4096x8_0_1_2 (broadcastInDim S1x1x8 ![2] bcast_S8_S1x1x8_2 b))

/-- The logarithm of the logistic function. -/
def lsT (z : FVec Ideal S8x4096x8 .f32) : FVec Ideal S8x4096x8 .f32 :=
  Host.negf (select
    (cmpf .une (subf (Host.negf z) (broadcastInDim S8x4096x8 ![] bcast_S_S8x4096x8 (constant S_ .f32 0x00000000#32)))
      (subf (Host.negf z) (broadcastInDim S8x4096x8 ![] bcast_S_S8x4096x8 (constant S_ .f32 0x00000000#32))))
    (addf (Host.negf z) (broadcastInDim S8x4096x8 ![] bcast_S_S8x4096x8 (constant S_ .f32 0x00000000#32)))
    (addf (maximumf (Host.negf z) (broadcastInDim S8x4096x8 ![] bcast_S_S8x4096x8 (constant S_ .f32 0x00000000#32)))
      (Host.log1p (Host.exp (Host.negf (Host.absf (subf (Host.negf z) (broadcastInDim S8x4096x8 ![] bcast_S_S8x4096x8 (constant S_ .f32 0x00000000#32)))))))))

/-- The running sum along the sequence. -/
def cumT (y : FVec Ideal S8x4096x8 .f32) : FVec Ideal S8x4096x8 .f32 :=
  Host.reduceWindowAdd ![1, 4096, 1] ![1, 1, 1] ![0, 4095, 0] ![0, 0, 0] y (broadcastInDim S_ ![] bcast_S_S_ (constant S_ .f32 0x00000000#32))
    reduceWindows_S8x4096x8_S8x4096x8_w1s1p0_0_w4096s1p4095_0_w1s1p0_0 h_S_

/-- The negated forget sums over log 2. -/
def ndT (f : FVec Ideal S8x4096x8 .f32) : FVec Ideal S32768x8 .f32 :=
  Host.divf (Host.negf (shapeCast S32768x8 f shapeCasts_S8x4096x8_S32768x8))
    (broadcastInDim S32768x8 ![] bcast_S_S32768x8 (Host.log (constant S_ .f32 0x40000000#32)))

/-- A number less its rounding to the short format, read in the long one. -/
def remT (x : FVec Ideal S32768x8 .f32) : FVec Ideal S32768x8 .f32 := subf x (extf .f32 (truncf .bf16 x bitsLt_bf16_f32) bitsLt_bf16_f32)

/-- Those in three parts, and columns of zeros. -/
def faT (n : FVec Ideal S32768x8 .f32) : FVec Ideal S32768x128 .bf16 :=
  concatenate S32768x128 1 [⟨S32768x8, truncf .bf16 n bitsLt_bf16_f32⟩, ⟨S32768x8, truncf .bf16 (remT n) bitsLt_bf16_f32⟩,
    ⟨S32768x8, truncf .bf16 (remT (remT n)) bitsLt_bf16_f32⟩,
    ⟨S32768x104, broadcastInDim S32768x104 ![] bcast_S_S32768x104 (constant S_ .bf16 0x0000#16)⟩] concatenates_S32768x8_S32768x8_S32768x8_S32768x104_S32768x128_d1

theorem qtT_apply (x : FVec Ideal S8x4096x512 .f32) (t : Fin 64) (w l : Fin 512) :
    qtT x (ix3 t w l) = Ideal.div (x (ix3 ⟨t.val / 8, by omega⟩ ⟨t.val % 8 * 512 + l.val, by omega⟩ w) * Ideal.ofBits .f32 0x3E000000#32)
      (Ideal.log (Ideal.ofBits .f32 0x40000000#32)) := by
  pointwise [qtT]
  done

theorem vtT_apply (x : FVec Ideal S8x4096x512 .f32) (t : Fin 128) (w : Fin 512) (a : Fin 256) :
    vtT x (ix3 t w a) = x (ix3 ⟨t.val / 16, by omega⟩ ⟨t.val % 16 * 256 + a.val, by omega⟩ w) := by
  pointwise [vtT]
  done

theorem kT_apply (x : FVec Ideal S8x4096x512 .f32) (i : Fin 32768) (w : Fin 512) :
    kT x (ix2 i w) = x (ix3 ⟨i.val / 4096, by omega⟩ ⟨i.val % 4096, by omega⟩ w) := by
  pointwise [kT]
  done

theorem zT_apply (x : FVec Ideal S8x4096x8 .f32) (b : FVec Ideal S8 .f32) (i : Fin 8) (p : Fin 4096) (n : Fin 8) :
    zT x b (ix3 i p n) = x (ix3 i p n) + b (ix1 n) := by
  pointwise [zT]
  done

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.neg {x : EReal} (hx : IsR x) : IsR (-x) := by
  obtain ⟨a, rfl⟩ := hx
  exact ⟨-a, (EReal.coe_neg a).symm⟩
theorem IsR.max {x y : EReal} (hx : IsR x) (hy : IsR y) : IsR (max x y) := by
  rcases max_choice x y with e | e <;> rw [e] <;> assumption
theorem IsR.eq {x : EReal} (hx : IsR x) : x = (x.toReal : EReal) := by
  obtain ⟨a, rfl⟩ := hx
  rfl

theorem lsT_real (z : FVec Ideal S8x4096x8 .f32) (i : Fin 8) (p : Fin 4096) (n : Fin 8) (hz : IsR (z (ix3 i p n))) : IsR (lsT z (ix3 i p n)) := by
  have e : lsT z (ix3 i p n) = (-if -z (ix3 i p n) ≠ -z (ix3 i p n) then -z (ix3 i p n)
      else max (-z (ix3 i p n)) 0 + Ideal.log1p (Ideal.exp (-FloatOps.absf (φ := .f32) (-z (ix3 i p n))))) := by
    pointwise [lsT]
  rw [e, if_neg (fun h => h rfl)]
  refine ((hz.neg.max .zero).add ?_).neg
  obtain ⟨r, hr⟩ := hz
  rw [hr, Ideal.absf_def, ← EReal.coe_neg, ← EReal.coe_neg, ← coe_max', ← EReal.coe_neg, Ideal.exp_coe, Ideal.log1p]
  have : (1 : EReal) + ((Real.exp (-max (-r) (- -r)) : ℝ) : EReal) = ((1 + Real.exp (-max (-r) (- -r)) : ℝ) : EReal) := by
    rw [EReal.coe_add]; rfl
  rw [this, Ideal.log_coe, if_neg (not_le.mpr (by positivity))]
  exact .coe _

theorem foldl_real {β : Type} (g : β → EReal) (hg : ∀ n, IsR (g n)) (l : List β) : ∀ r : EReal, IsR r → IsR (l.foldl (fun r n => r + g n) r) := by
  induction l with
  | nil => exact fun r h => h
  | cons n l ih => exact fun r h => ih _ (h.add (hg n))

/-- A window sum of real numbers is one. -/
theorem windowAdd_real {s t u : Shape} (window strides lo hi : Fin s.rank → Nat) (x : FVec Ideal s .f32) (init : u.Idx → Ideal .f32)
    (h : s.ReduceWindows window strides lo hi t) (hu : 0 < u.numel) (hx : ∀ k, IsR (x k)) (h0 : ∀ k, IsR (init k)) (j : t.Idx) :
    IsR (Host.reduceWindowAdd window strides lo hi x init h hu j) := by
  show IsR (Ideal.hostReduceWindowAdd window strides lo hi h x (init (Shape.Idx.first hu)) j)
  unfold Ideal.hostReduceWindowAdd Host.reduceWindow
  refine foldl_real _ (fun n => ?_) _ _ (h0 _)
  split
  · exact hx _
  · exact h0 _

theorem cumT_real (y : FVec Ideal S8x4096x8 .f32) (hy : ∀ i p n, IsR (y (ix3 i p n))) (j : S8x4096x8.Idx) : IsR (cumT y j) := by
  have hy' : ∀ k : S8x4096x8.Idx, IsR (y k) := fun k => by
    have : k = ix3 (k 0) (k 1) (k 2) := by
      funext a
      fin_cases a <;> rfl
    rw [this]
    exact hy _ _ _
  unfold cumT
  refine windowAdd_real _ _ _ _ _ _ _ _ hy' (fun k => ?_) j
  refine (⟨0, ?_⟩ : IsR _)
  show Ideal.ofBits .f32 0x00000000#32 = _
  exact Ideal.ofBits_zero_f32

theorem ndT_apply (f : FVec Ideal S8x4096x8 .f32) (i : Fin 32768) (n : Fin 8) :
    ndT f (ix2 i n) = Ideal.div (-f (ix3 ⟨i.val / 4096, by omega⟩ ⟨i.val % 4096, by omega⟩ n)) (Ideal.log (Ideal.ofBits .f32 0x40000000#32)) := by
  pointwise [ndT]
  done

theorem faT_apply (f : FVec Ideal S32768x8 .f32) (hf : ∀ i n, IsR (f (ix2 i n))) (i : Fin 32768) (n : Fin 128) :
    faT f (ix2 i n) = if h : n.val < 8 then f (ix2 i ⟨n.val, h⟩) else 0 := by
  have e : faT f (ix2 i n) = if h : n.val < 8 then f (ix2 i ⟨n.val, h⟩) else
      if h : n.val - 8 < 8 then f (ix2 i ⟨n.val - 8, h⟩) - f (ix2 i ⟨n.val - 8, h⟩) else
        if h : n.val - 8 - 8 < 8 then f (ix2 i ⟨n.val - 8 - 8, h⟩) - f (ix2 i ⟨n.val - 8 - 8, h⟩) - (f (ix2 i ⟨n.val - 8 - 8, h⟩) - f (ix2 i ⟨n.val - 8 - 8, h⟩))
        else 0 := by
    pointwise [faT, remT]
  have z : ∀ k, f (ix2 i k) - f (ix2 i k) = 0 := fun k => by
    obtain ⟨r, hr⟩ := hf i k
    rw [hr, ← EReal.coe_sub, sub_self]
    rfl
  rw [e]
  split
  · rfl
  · split
    · exact z _
    · split
      · rw [z, sub_zero]
      · rfl

/-- The numbers 8 log 2 and log 2 as the kernel takes them. -/
theorem log2_word : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]
    norm_num
  rw [this, Ideal.log_coe, if_neg (by norm_num)]

theorem eighth_word : Ideal.ofBits .f32 0x3E000000#32 = ((1 / 8 : ℝ) : EReal) := by
  simp [Ideal.ofBits, Ideal.ieee, -EReal.coe_mul]
  norm_num

theorem div_log2 (r : ℝ) : Ideal.div (r : EReal) ((Real.log 2 : ℝ) : EReal) = ((r / Real.log 2 : ℝ) : EReal) :=
  div_coe r _ (Real.log_pos (by norm_num)).ne'

end Fox
-- ==== Proof.Finite.lean ====
module

public import proofs.«01_k».proof.Proof.Prep
public import proofs.«01_k».proof.Pre_finite_scores
public import Idealize.ShloMosaic.Lib.ReduceAll

@[expose] public section

noncomputable section

namespace Fox

open Idealize.ShloMosaic Idealize.SL.Sem
open Cert.Pre_finite_scores Cert.Pre_finite_scores.Facts

theorem pre_facts : Cert.Pre_finite_scores.Facts where
  bcast_S_S8x4096x512 := by decide
  reducesTo_S8x4096x512_S_d0_1_2 := by decide
  h_S_ := by decide
  bcast_S_S8x4096x8 := by decide
  reducesTo_S8x4096x8_S_d0_1_2 := by decide
  bcast_S_S8 := by decide
  reducesTo_S8_S_d0 := by decide

/-- A number whose absolute value is below infinity is real. -/
theorem real_of_below (x : Ideal .f32) (h : FloatOps.cmpf (F := Ideal) .olt (FloatOps.absf x) (FloatOps.ofBits .f32 0x7F800000#32) = 1#1) : IsR x := by
  have hinf : (Ideal.ofBits .f32 0x7F800000#32 : EReal) = ⊤ := by
    simp [Ideal.ofBits, Ideal.ieee]
  have hlt : (max x (-x) : EReal) < ⊤ := by
    rw [← hinf]
    have h2 : BitVec.ofBool (decide ((max x (-x) : EReal) < Ideal.ofBits .f32 0x7F800000#32)) = 1#1 := h
    by_contra hn
    rw [decide_eq_false hn] at h2
    exact absurd h2 (by decide)
  induction x using EReal.rec with
  | bot => simp at hlt
  | top => simp at hlt
  | coe r => exact ⟨r, rfl⟩

variable [Facts]

instance : Subsingleton S_.Idx := ⟨fun a b => funext fun i => i.elim0⟩

theorem finite_of_pre (q k v : FVec Ideal S8x4096x512 .f32) (fl : FVec Ideal S8x4096x8 .f32) (bf : FVec Ideal S8 .f32) (g : FVec Ideal S512 .f32)
    (h : fn (F := Ideal) q k v fl bf g = fun _ => 1#1) :
    (∀ i, IsR (q i)) ∧ (∀ i, IsR (k i)) ∧ (∀ i, IsR (fl i)) ∧ (∀ i, IsR (bf i)) := by
  have e := congrFun h (Shape.Idx.first h_S_)
  dsimp only [fn, fn_part1] at e
  obtain ⟨e1, e4⟩ := IntOp.andi_eq_one.1 e
  obtain ⟨e2, e3⟩ := IntOp.andi_eq_one.1 e1
  obtain ⟨e0, e1⟩ := IntOp.andi_eq_one.1 e2
  exact ⟨fun i => real_of_below _ (Host.reduce_andi_all _ _ _ _ _ e0 i), fun i => real_of_below _ (Host.reduce_andi_all _ _ _ _ _ e1 i),
    fun i => real_of_below _ (Host.reduce_andi_all _ _ _ _ _ e3 i), fun i => real_of_below _ (Host.reduce_andi_all _ _ _ _ _ e4 i)⟩

end Fox
-- ==== Proof.Feed.lean ====
module

public import proofs.«01_k».proof.Proof.Launch
public import proofs.«01_k».proof.Proof.Prep
public import Idealize.ShloMosaic.Lib.Pipeline.ValueKit

@[expose] public section

noncomputable section

namespace Fox

open Idealize.ShloMosaic Idealize.ShloMosaic.TcCoe Idealize.SL.Sem
open Cert.KernelIdeal Cert.KernelIdeal.Facts₀ Cert.KernelIdeal.Facts

/-- An array of batches read at a row and a column given as numbers. -/
def at3 {n : ℕ} (x : (⟨3, ![8, 4096, n]⟩ : Shape).Idx → EReal) (b : Fin 8) (p w : ℕ) : EReal :=
  if h : p < 4096 ∧ w < n then x (ix3 b ⟨p, h.1⟩ ⟨w, h.2⟩) else 0

theorem at3_eq {n : ℕ} (x : (⟨3, ![8, 4096, n]⟩ : Shape).Idx → EReal) (b : Fin 8) (p : Fin 4096) (w : Fin n) : at3 x b p.val w.val = x (ix3 b p w) :=
  dif_pos ⟨p.isLt, w.isLt⟩

/-- An array of weights read at a number. -/
def at1 {n : ℕ} (x : (⟨1, ![n]⟩ : Shape).Idx → EReal) (w : ℕ) : EReal := if h : w < n then x (ix1 ⟨w, h⟩) else 0

/-- The forget gates' log-sums. -/
def fT (fl : FVec Ideal S8x4096x8 .f32) (bf : FVec Ideal S8 .f32) : FVec Ideal S8x4096x8 .f32 := cumT (lsT (zT fl bf))

/-- The layer's output at a batch's query and channel. -/
def outB (q k v : FVec Ideal S8x4096x512 .f32) (f : FVec Ideal S8x4096x8 .f32) (g : FVec Ideal S512 .f32) (b : Fin 8) (p w : ℕ) : EReal :=
  outR (fun p w => (at3 q b p w).toReal) (fun p w => (at3 k b p w).toReal) (fun p n => (at3 f b p n).toReal) (at3 v b) (at1 g) p w

section

variable (m : (ℓ : Loc nD τ sig) → Buf (Elt Ideal) ℓ) (c : Dev nD)

theorem V_q : Gen.V m c main_v7 = qtT (m (c, main_arg0)) := by
  entry_read
  rfl
theorem V_v : Gen.V m c main_v10 = vtT (m (c, main_arg2)) := by
  entry_read
  rfl
theorem V_k : Gen.V m c main_v30 = kT (m (c, main_arg1)) := by
  entry_read
  rfl
theorem V_f : Gen.V m c main_v28 = faT (ndT (fT (m (c, main_arg3)) (m (c, main_arg4)))) := by
  entry_read
  rfl
theorem V_g : Gen.V m c main_v31 = shapeCast S1x512 (m (c, main_arg5)) shapeCasts_S512_S1x512 := by
  entry_read
  rfl

end

end Fox
-- ==== Proof.Blocks.lean ====
module

public import proofs.«01_k».proof.Proof.Feed

@[expose] public section

noncomputable section

namespace Fox

open Idealize.ShloMosaic Idealize.ShloMosaic.TcCoe Idealize.SL.Sem
open Cert.KernelIdeal Cert.KernelIdeal.Facts₀ Cert.KernelIdeal.Facts

section

variable (m : (ℓ : Loc nD τ sig) → Buf (Elt Ideal) ℓ) (c : Dev nD)

theorem idx0 : ∀ t : Fin cfg0.N, win0_0.index t = ![t.val, 0, 0] := by decide +kernel
theorem idx1 : ∀ t : Fin cfg0.N, win0_1.index t = ![t.val / 4, 0] := by decide +kernel
theorem idx2 : ∀ t : Fin cfg0.N, win0_2.index t = ![t.val / 4, 0] := by decide +kernel
theorem idx3 : ∀ t : Fin cfg0.N, win0_3.index t = ![t.val / 4, 0, 0] := by decide +kernel
theorem idx4 : ∀ t : Fin cfg0.N, win0_4.index t = ![0, 0] := by decide +kernel
theorem idx5 : ∀ t : Fin cfg0.N, win0_5.index t = ![t.val, 0] := by decide +kernel

theorem point_lt (t : Fin cfg0.N) : t.val < 32 := t.isLt

theorem blk0 (t : Fin cfg0.N) (u : Fin 2) (w l : Fin 512) :
    Gen.iblk m c 0 t (ix3 u w l) = Gen.V m c main_v7 (ix3 (⟨t.val * 2 + u.val, by have := point_lt t; omega⟩ : Fin 64) w l) := by
  blk_ext [Gen.iblk, idx0 t]

theorem blk1 (t : Fin cfg0.N) (i : Fin 4096) (w : Fin 512) :
    Gen.iblk m c 1 t (ix2 i w) = Gen.V m c main_v30 (ix2 (⟨t.val / 4 * 4096 + i.val, by have := point_lt t; omega⟩ : Fin 32768) w) := by
  blk_ext [Gen.iblk, idx1 t]

theorem blk2 (t : Fin cfg0.N) (i : Fin 4096) (n : Fin 128) :
    Gen.iblk m c 2 t (ix2 i n) = Gen.V m c main_v28 (ix2 (⟨t.val / 4 * 4096 + i.val, by have := point_lt t; omega⟩ : Fin 32768) n) := by
  blk_ext [Gen.iblk, idx2 t]

theorem blk3 (t : Fin cfg0.N) (j : Fin 16) (w : Fin 512) (a : Fin 256) :
    Gen.iblk m c 3 t (ix3 j w a) = Gen.V m c main_v10 (ix3 (⟨t.val / 4 * 16 + j.val, by have := point_lt t; omega⟩ : Fin 128) w a) := by
  blk_ext [Gen.iblk, idx3 t]

theorem blk4 (t : Fin cfg0.N) (w : Fin 512) : Gen.iblk m c 4 t (ix2 0 w) = Gen.V m c main_v31 (ix2 (0 : Fin 1) w) := by
  blk_ext [Gen.iblk, idx4 t]

theorem gT_apply (g : FVec Ideal S512 .f32) (w : Fin 512) : shapeCast S1x512 g shapeCasts_S512_S1x512 (ix2 0 w) = g (ix1 w) := by
  pointwise

/-- The batch of a grid point. -/
def batchOf (t : Fin cfg0.N) : Fin 8 := ⟨t.val / 4, by have := point_lt t; omega⟩

/-- A point's blocks, read off the arguments. -/
theorem inputs (hq : ∀ b p w, IsR (m (c, main_arg0) (ix3 b p w))) (hk : ∀ b p w, IsR (m (c, main_arg1) (ix3 b p w)))
    (hf : ∀ b p n, IsR (fT (m (c, main_arg3)) (m (c, main_arg4)) (ix3 b p n))) (t : Fin cfg0.N) :
    Inputs (tileOf t.val) (fun p w => (at3 (m (c, main_arg0)) (batchOf t) p w).toReal) (fun p w => (at3 (m (c, main_arg1)) (batchOf t) p w).toReal)
      (fun p n => (at3 (fT (m (c, main_arg3)) (m (c, main_arg4))) (batchOf t) p n).toReal) (at3 (m (c, main_arg2)) (batchOf t)) (at1 (m (c, main_arg5)))
      (Gen.iblk m c 0 t) (Gen.iblk m c 1 t) (Gen.iblk m c 2 t) (Gen.iblk m c 3 t) (Gen.iblk m c 4 t) := by
  have ht := point_lt t
  have hnd : ∀ i n, IsR (ndT (fT (m (c, main_arg3)) (m (c, main_arg4))) (ix2 i n)) := fun i n => by
    obtain ⟨r, hr⟩ := hf ⟨i.val / 4096, by omega⟩ ⟨i.val % 4096, by omega⟩ n
    rw [ndT_apply, hr, log2_word, ← EReal.coe_neg, div_log2]
    exact .coe _
  constructor
  · intro u w l
    refine (blk0 m c t u w l).trans ?_
    rw [V_q, qtT_apply, log2_word, eighth_word]
    have e : at3 (m (c, main_arg0)) (batchOf t) (tileOf t.val * 1024 + (u.val * 512 + l.val)) w.val
        = m (c, main_arg0) (ix3 ⟨(t.val * 2 + u.val) / 8, by omega⟩ ⟨(t.val * 2 + u.val) % 8 * 512 + l.val, by omega⟩ w) := by
      refine (congrArg (fun p => at3 (m (c, main_arg0)) (batchOf t) p w.val) (?_ : _ = (t.val * 2 + u.val) % 8 * 512 + l.val)).trans ?_
      · show t.val % 4 * 1024 + (u.val * 512 + l.val) = _
        omega
      · refine (at3_eq (m (c, main_arg0)) (batchOf t) ⟨(t.val * 2 + u.val) % 8 * 512 + l.val, by omega⟩ w).trans ?_
        have : batchOf t = ⟨(t.val * 2 + u.val) / 8, by omega⟩ := Fin.ext (by show t.val / 4 = _; dsimp only; omega)
        rw [this]
    rw [e]
    obtain ⟨r, hr⟩ := hq ⟨(t.val * 2 + u.val) / 8, by omega⟩ ⟨(t.val * 2 + u.val) % 8 * 512 + l.val, by omega⟩ w
    rw [hr, ← EReal.coe_mul, div_log2, EReal.toReal_coe]
    congr 1
    field_simp
  · intro i w
    refine (blk1 m c t i w).trans ?_
    rw [V_k, kT_apply]
    have e : at3 (m (c, main_arg1)) (batchOf t) i.val w.val
        = m (c, main_arg1) (ix3 ⟨(t.val / 4 * 4096 + i.val) / 4096, by omega⟩ ⟨(t.val / 4 * 4096 + i.val) % 4096, by omega⟩ w) := by
      refine (at3_eq (m (c, main_arg1)) (batchOf t) i w).trans ?_
      have e1 : batchOf t = ⟨(t.val / 4 * 4096 + i.val) / 4096, by omega⟩ := Fin.ext (by show t.val / 4 = _; dsimp only; omega)
      have e2 : i = ⟨(t.val / 4 * 4096 + i.val) % 4096, by omega⟩ := Fin.ext (by dsimp only; omega)
      rw [← e1, ← e2]
    rw [e]
    exact (hk _ _ _).eq
  · intro i n
    refine (blk2 m c t i n).trans ?_
    rw [V_f, faT_apply _ hnd]
    by_cases hn : n.val < 8
    · rw [dif_pos hn, if_pos hn, ndT_apply, log2_word]
      have e : at3 (fT (m (c, main_arg3)) (m (c, main_arg4))) (batchOf t) i.val n.val
          = fT (m (c, main_arg3)) (m (c, main_arg4)) (ix3 ⟨(t.val / 4 * 4096 + i.val) / 4096, by omega⟩ ⟨(t.val / 4 * 4096 + i.val) % 4096, by omega⟩ ⟨n.val, hn⟩) := by
        refine (at3_eq (fT (m (c, main_arg3)) (m (c, main_arg4))) (batchOf t) i ⟨n.val, hn⟩).trans ?_
        have e1 : batchOf t = ⟨(t.val / 4 * 4096 + i.val) / 4096, by omega⟩ := Fin.ext (by show t.val / 4 = _; dsimp only; omega)
        have e2 : i = ⟨(t.val / 4 * 4096 + i.val) % 4096, by omega⟩ := Fin.ext (by dsimp only; omega)
        rw [← e1, ← e2]
      rw [e]
      obtain ⟨r, hr⟩ := hf ⟨(t.val / 4 * 4096 + i.val) / 4096, by omega⟩ ⟨(t.val / 4 * 4096 + i.val) % 4096, by omega⟩ ⟨n.val, hn⟩
      rw [hr, ← EReal.coe_neg, div_log2, EReal.toReal_coe]
    · rw [dif_neg hn, if_neg hn]
  · intro j w a
    refine (blk3 m c t j w a).trans ?_
    rw [V_v, vtT_apply]
    have e1 : batchOf t = ⟨(t.val / 4 * 16 + j.val) / 16, by omega⟩ := Fin.ext (by show t.val / 4 = _; dsimp only; omega)
    have e2 : (⟨j.val * 256 + a.val, by omega⟩ : Fin 4096) = ⟨(t.val / 4 * 16 + j.val) % 16 * 256 + a.val, by omega⟩ := Fin.ext (by dsimp only; omega)
    refine Eq.trans ?_ (at3_eq (m (c, main_arg2)) (batchOf t) ⟨j.val * 256 + a.val, by omega⟩ w).symm
    rw [e1, e2]
  · intro w
    refine (blk4 m c t w).trans ?_
    rw [V_g]
    refine (gT_apply (m (c, main_arg5)) w).trans ?_
    unfold at1
    rw [dif_pos w.isLt]

end

end Fox
-- ==== Proof.Result.lean ====
module

public import proofs.«01_k».proof.Proof.Blocks

@[expose] public section

noncomputable section

namespace Fox

open Idealize.ShloMosaic Idealize.ShloMosaic.TcCoe Idealize.SL.Sem
open Cert.KernelIdeal Cert.KernelIdeal.Facts₀ Cert.KernelIdeal.Facts

/-- The layer's output as the array the kernel leaves: a row per batch and query. -/
def outArr (q k v : FVec Ideal S8x4096x512 .f32) (f : FVec Ideal S8x4096x8 .f32) (g : FVec Ideal S512 .f32) : FVec Ideal S32768x512 .bf16 :=
  fun j => outB q k v f g ⟨(j 0).val / 4096, by have := (j 0).isLt; have : S32768x512.size 0 = 32768 := rfl; omega⟩ ((j 0).val % 4096) (j 1).val

theorem outArr_at (q k v : FVec Ideal S8x4096x512 .f32) (f : FVec Ideal S8x4096x8 .f32) (g : FVec Ideal S512 .f32) (j : S32768x512.Idx)
    (b : Fin 8) (p w : ℕ) (h0 : (j 0).val = b.val * 4096 + p) (hp : p < 4096) (h1 : (j 1).val = w) : outArr q k v f g j = outB q k v f g b p w := by
  have e0 : (⟨(j 0).val / 4096, by have := (j 0).isLt; have : S32768x512.size 0 = 32768 := rfl; omega⟩ : Fin 8) = b := Fin.ext (by dsimp only; omega)
  have e1 : (j 0).val % 4096 = p := by omega
  unfold outArr
  rw [e0, e1, h1]

section

variable (m : (ℓ : Loc nD τ sig) → Buf (Elt Ideal) ℓ) (c : Dev nD)

/-- What the kernel's output array ends at. -/
theorem result (hq : ∀ b p w, IsR (m (c, main_arg0) (ix3 b p w))) (hk : ∀ b p w, IsR (m (c, main_arg1) (ix3 b p w)))
    (hf : ∀ b p n, IsR (fT (m (c, main_arg3)) (m (c, main_arg4)) (ix3 b p n))) :
    (dats m 0 c).arrAt 5 (cfgs 0).N
      = outArr (m (c, main_arg0)) (m (c, main_arg1)) (m (c, main_arg2)) (fT (m (c, main_arg3)) (m (c, main_arg4))) (m (c, main_arg5)) := by
  refine (dats m 0 c).arrAt_eq_of_covers 5 _ (by decide +kernel) fun t hfl y => ?_
  blk_simp
  rw [after5]
  have hy : y = ix2 (y 0) (y 1) := by
    funext a
    fin_cases a <;> rfl
  have ht := point_lt t
  have T := (inputs m c hq hk hf t).tile (Nat.mod_lt _ (by decide)) (y 0) (y 1)
  unfold outAt
  rw [hy]
  have y0 : (y 0).val < 1024 := (y 0).isLt
  have hq4 : tileOf t.val < 4 := Nat.mod_lt _ (by decide)
  refine T.trans (outArr_at _ _ _ _ _ ((win0_5.blk t).view.emb (ix2 (y 0) (y 1))) (batchOf t) _ _ ?_ (by omega) ?_).symm
  · have e0 : (((win0_5.blk t).view.emb (ix2 (y 0) (y 1))) 0 : ℕ) = t.val * 1024 + (y 0).val := by blk_simp [idx5 t]
    refine e0.trans ?_
    show t.val * 1024 + (y 0).val = t.val / 4 * 4096 + (t.val % 4 * 1024 + (y 0).val)
    omega
  · blk_simp [idx5 t]

end

end Fox
-- ==== Proof.Refer.lean ====
module

public import proofs.«01_k».proof.ReferenceIdeal
public import Idealize.ShloMosaic.Lib.Pointwise
public import Idealize.ShloMosaic.Lib.IdealHost

@[expose] public section

noncomputable section

namespace Fox.Ref

open Idealize.ShloMosaic Idealize.SL.Sem
open Cert.ReferenceIdeal Cert.ReferenceIdeal.Facts₀ Cert.ReferenceIdeal.Facts

variable [Facts]

/-- An argument split in heads. -/
def headsT (x : FVec Ideal S8x4096x512 .f32) : FVec Ideal S8x8x4096x64 .f32 :=
  transpose S8x8x4096x64 [0, 2, 1, 3] (shapeCast _ x shapeCasts_S8x4096x512_S8x4096x8x64) transposes_S8x4096x8x64_S8x8x4096x64_0_2_1_3

/-- Which keys a query sees. -/
def seenT : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The logits with the forget sums. -/
def logitT (q k : FVec Ideal S8x8x4096x64 .f32) (f : FVec Ideal S8x4096x8 .f32) : FVec Ideal S8x8x4096x4096 .f32 :=
  subf (addf (mulf (Host.dotGeneral dot_S8x8x4096x64_S8x8x4096x64_S8x8x4096x4096_3_3_2_2_01_01 none q k)
      (broadcastInDim S8x8x4096x4096 ![] bcast_S_S8x8x4096x4096 (constant S_ .f32 0x3E000000#32)))
      (broadcastInDim S8x8x4096x4096 ![0, 1, 2, 3] bcast_S8x8x4096x1_S8x8x4096x4096_0_1_2_3 (broadcastInDim S8x8x4096x1 ![0, 1, 2] bcast_S8x8x4096_S8x8x4096x1_0_1_2 (transpose S8x8x4096 [0, 2, 1] f transposes_S8x4096x8_S8x8x4096_0_2_1))))
    (broadcastInDim S8x8x4096x4096 ![0, 1, 2, 3] bcast_S8x8x1x4096_S8x8x4096x4096_0_1_2_3 (broadcastInDim S8x8x1x4096 ![0, 1, 3] bcast_S8x8x4096_S8x8x1x4096_0_1_3 (transpose S8x8x4096 [0, 2, 1] f transposes_S8x4096x8_S8x8x4096_0_2_1)))

/-- Those of the keys not seen at minus infinity. -/
def maskedT (s : IVec S4096x4096 1) (x : FVec Ideal S8x8x4096x4096 .f32) : FVec Ideal S8x8x4096x4096 .f32 :=
  select (broadcastInDim S8x8x4096x4096 ![2, 3] bcast_S4096x4096_S8x8x4096x4096_2_3 s) x
    (broadcastInDim S8x8x4096x4096 ![] bcast_S_S8x8x4096x4096 (id (constant S_ .f32 0xFF800000#32)))

/-- A query's greatest logit. -/
def maxT (x : FVec Ideal S8x8x4096x4096 .f32) : FVec Ideal S8x8x4096 .f32 :=
  Host.reduce FloatOps.maximumf x (constant S_ .f32 0xFF800000#32) reducesTo_S8x8x4096x4096_S8x8x4096_d3 h_S_

/-- The exponentials. -/
def expT (x : FVec Ideal S8x8x4096x4096 .f32) (y : FVec Ideal S8x8x4096 .f32) : FVec Ideal S8x8x4096x4096 .f32 :=
  Host.exp (subf x (broadcastInDim S8x8x4096x4096 ![0, 1, 2, 3] bcast_S8x8x4096x1_S8x8x4096x4096_0_1_2_3 (broadcastInDim S8x8x4096x1 ![0, 1, 2] bcast_S8x8x4096_S8x8x4096x1_0_1_2
    (maximumf (broadcastInDim S8x8x4096 ![] bcast_S_S8x8x4096 (constant S_ .f32 0xFF800000#32)) y))))

/-- The weights. -/
def probT (e : FVec Ideal S8x8x4096x4096 .f32) : FVec Ideal S8x8x4096x4096 .f32 :=
  Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2
    (Host.reduceAdd e (constant S_ .f32 0x00000000#32) reducesTo_S8x8x4096x4096_S8x8x4096_d3 h_S_)))

/-- The weights of a table of logits. -/
def softT (x : FVec Ideal S8x8x4096x4096 .f32) : FVec Ideal S8x8x4096x4096 .f32 := probT (expT x (maxT x))

/-- The heads' outputs. -/
def attT (w : FVec Ideal S8x8x4096x4096 .f32) (v : FVec Ideal S8x8x4096x64 .f32) : FVec Ideal S8x4096x8x64 .f32 :=
  transpose S8x4096x8x64 [0, 2, 1, 3] (Host.dotGeneral dot_S8x8x4096x4096_S8x8x4096x64_S8x8x4096x64_3_2_2_3_01_01 none w v) transposes_S8x8x4096x64_S8x4096x8x64_0_2_1_3

/-- Their norm and the weights of the channels. -/
def normT (o : FVec Ideal S8x4096x8x64 .f32) (g : FVec Ideal S512 .f32) : FVec Ideal S32768x512 .bf16 :=
  truncf .bf16 (mulf (shapeCast _ (mulf o (broadcastInDim S8x4096x8x64 ![0, 1, 2, 3] bcast_S8x4096x8x1_S8x4096x8x64_0_1_2_3
    (Host.rsqrt (addf (Host.divf (broadcastInDim S8x4096x8x1 ![0, 1, 2] bcast_S8x4096x8_S8x4096x8x1_0_1_2
        (Host.reduceAdd (mulf o o) (constant S_ .f32 0x00000000#32) reducesTo_S8x4096x8x64_S8x4096x8_d3 h_S_))
      (broadcastInDim S8x4096x8x1 ![] bcast_S_S8x4096x8x1 (constant S_ .f32 0x42800000#32)))
      (broadcastInDim S8x4096x8x1 ![] bcast_S_S8x4096x8x1 (constant S_ .f32 0x358637BD#32)))))) shapeCasts_S8x4096x8x64_S32768x512)
    (broadcastInDim S32768x512 ![0, 1] bcast_S1x512_S32768x512_0_1 (broadcastInDim S1x512 ![1] bcast_S512_S1x512_1 g))) bitsLt_bf16_f32

/-- The reference on its forget sums. -/
def refT (q k v : FVec Ideal S8x4096x512 .f32) (f : FVec Ideal S8x4096x8 .f32) (g : FVec Ideal S512 .f32) : FVec Ideal S32768x512 .bf16 :=
  normT (attT (softT (maskedT seenT (logitT (headsT q) (headsT k) f))) (headsT v)) g

theorem headsT_apply (x : FVec Ideal S8x4096x512 .f32) (b : Fin 8) (h : Fin 8) (i : Fin 4096) (d : Fin 64) :
    headsT x (ix4 b h i d) = x (ix3 b i ⟨h.val * 64 + d.val, by omega⟩) := by
  pointwise [headsT]
  done

theorem seenT_apply (i j : Fin 4096) : seenT (ix2 i j) = IntOp.cmpi .sle (BitVec.ofNat 32 j.val) (BitVec.ofNat 32 i.val) := by
  pointwise [seenT]
  done

theorem logitT_apply (q k : FVec Ideal S8x8x4096x64 .f32) (f : FVec Ideal S8x4096x8 .f32) (b h : Fin 8) (i j : Fin 4096) :
    logitT q k f (ix4 b h i j) = (∑ d : Fin 64, q (ix4 b h i d) * k (ix4 b h j d)) * Ideal.ofBits .f32 0x3E000000#32 + f (ix3 b i h) - f (ix3 b j h) := by
  pointwise [logitT]
  done

theorem maskedT_apply (s : IVec S4096x4096 1) (x : FVec Ideal S8x8x4096x4096 .f32) (b h : Fin 8) (i j : Fin 4096) :
    maskedT s x (ix4 b h i j) = Scalar.select (s (ix2 i j)) (x (ix4 b h i j)) (Ideal.ofBits .f32 0xFF800000#32 : Ideal .f32) := by
  pointwise [maskedT]
  rfl

theorem ninf : (Ideal.ofBits .f32 0xFF800000#32 : EReal) = ⊥ := by
  simp [Ideal.ofBits, Ideal.ieee]

theorem expT_apply (x : FVec Ideal S8x8x4096x4096 .f32) (y : FVec Ideal S8x8x4096 .f32) (b h : Fin 8) (i j : Fin 4096) :
    expT x y (ix4 b h i j) = Ideal.exp (x (ix4 b h i j) - max (Ideal.ofBits .f32 0xFF800000#32) (y (ix3 b h i))) := by
  pointwise [expT]
  done

theorem maxT_apply (x : FVec Ideal S8x8x4096x4096 .f32) (b h : Fin 8) (i : Fin 4096) :
    maxT x (ix3 b h i) = Finset.univ.fold max ⊥ fun l : Fin 4096 => x (ix4 b h i l) := by
  rw [← ninf]
  pointwise [maxT]
  done

theorem probT_apply (e : FVec Ideal S8x8x4096x4096 .f32) (b h : Fin 8) (i j : Fin 4096) :
    probT e (ix4 b h i j) = Ideal.div (e (ix4 b h i j)) (0 + ∑ l : Fin 4096, e (ix4 b h i l)) := by
  pointwise [probT]
  done

theorem attT_apply (w : FVec Ideal S8x8x4096x4096 .f32) (v : FVec Ideal S8x8x4096x64 .f32) (b : Fin 8) (i : Fin 4096) (h : Fin 8) (d : Fin 64) :
    attT w v (ix4 b i h d) = ∑ l : Fin 4096, w (ix4 b h i l) * v (ix4 b h l d) := by
  pointwise [attT]
  done

theorem normT_apply (o : FVec Ideal S8x4096x8x64 .f32) (g : FVec Ideal S512 .f32) (r : Fin 32768) (w : Fin 512) :
    normT o g (ix2 r w) = o (ix4 ⟨r.val / 4096, by omega⟩ ⟨r.val % 4096, by omega⟩ ⟨w.val / 64, by omega⟩ ⟨w.val % 64, by omega⟩)
      * Ideal.rsqrt (Ideal.div (0 + ∑ d : Fin 64, o (ix4 ⟨r.val / 4096, by omega⟩ ⟨r.val % 4096, by omega⟩ ⟨w.val / 64, by omega⟩ d) * o (ix4 ⟨r.val / 4096, by omega⟩ ⟨r.val % 4096, by omega⟩ ⟨w.val / 64, by omega⟩ d))
        (Ideal.ofBits .f32 0x42800000#32) + Ideal.ofBits .f32 0x358637BD#32) * g (ix1 w) := by
  pointwise [normT]
  done

end Fox.Ref
-- ==== Proof.ReferValue.lean ====
module

public import proofs.«01_k».proof.Proof.Refer
public import proofs.«01_k».proof.Proof.Result
public import proofs.«01_k».proof.Proof.Gen.ReferenceIdeal
public import proofs.«01_k».proof.Proof.Gen.ReferenceIdeal.Run

@[expose] public section

noncomputable section

namespace Fox.Ref

open Idealize.ShloMosaic Idealize.SL.Sem
open Cert.ReferenceIdeal Cert.ReferenceIdeal.Facts₀ Cert.ReferenceIdeal.Facts

section

variable (q k v : FVec Ideal S8x4096x512 .f32) (f : FVec Ideal S8x4096x8 .f32) (g : FVec Ideal S512 .f32)
variable (hq : ∀ b p w, IsR (q (ix3 b p w))) (hk : ∀ b p w, IsR (k (ix3 b p w))) (hf : ∀ b p n, IsR (f (ix3 b p n)))

include hq hk hf in
/-- A query's masked logits: its scores, all of them moved by its own forget sum. -/
theorem row_eq (b h : Fin 8) (i j : Fin 4096) :
    maskedT seenT (logitT (headsT q) (headsT k) f) (ix4 b h i j)
      = if j.val ≤ i.val then ((scoreR (fun p w => (at3 q b p w).toReal) (fun p w => (at3 k b p w).toReal) (fun p n => (at3 f b p n).toReal) h.val i.val j.val
          + (at3 f b i.val h.val).toReal : ℝ) : EReal) else ⊥ := by
  rw [maskedT_apply, seenT_apply, sle_word j.val i.val (by omega) (by omega), select_ite, ninf]
  by_cases hj : j.val ≤ i.val
  · rw [if_pos hj, if_pos hj, logitT_apply, eighth_word]
    have e1 : ∑ d : Fin 64, headsT q (ix4 b h i d) * headsT k (ix4 b h j d)
        = ((∑ d ∈ Finset.range 64, (at3 q b i.val (h.val * 64 + d)).toReal * (at3 k b j.val (h.val * 64 + d)).toReal : ℝ) : EReal) := by
      rw [coe_sum, ← Fin.sum_univ_eq_sum_range (fun d => (((at3 q b i.val (h.val * 64 + d)).toReal * (at3 k b j.val (h.val * 64 + d)).toReal : ℝ) : EReal)) 64]
      refine Finset.sum_congr rfl fun d _ => ?_
      have eq := at3_eq q b i ⟨h.val * 64 + d.val, by omega⟩
      have ek := at3_eq k b j ⟨h.val * 64 + d.val, by omega⟩
      dsimp only at eq ek
      rw [headsT_apply, headsT_apply, eq, ek, EReal.coe_mul, ← (hq _ _ _).eq, ← (hk _ _ _).eq]
    rw [e1, (hf b i h).eq, (hf b j h).eq, ← at3_eq f b i h, ← at3_eq f b j h, ← EReal.coe_mul, ← EReal.coe_add, ← EReal.coe_sub]
    unfold scoreR
    congr 1
    ring
  · rw [if_neg hj, if_neg hj]

include hq hk hf in
/-- A head's output. -/
theorem att_eq (b : Fin 8) (i : Fin 4096) (h : Fin 8) (d : Fin 64) :
    attT (softT (maskedT seenT (logitT (headsT q) (headsT k) f))) (headsT v) (ix4 b i h d)
      = headR (fun p w => (at3 q b p w).toReal) (fun p w => (at3 k b p w).toReal) (fun p n => (at3 f b p n).toReal) (at3 v b) h.val i.val d.val := by
  rw [attT_apply, headR]
  refine Eq.trans (Finset.sum_congr rfl fun l _ => ?_)
    (softmax_row _ (fun l => at3 v b l (h.val * 64 + d.val)) i.val i.isLt _ (fun l => maskedT seenT (logitT (headsT q) (headsT k) f) (ix4 b h i l))
      (row_eq q k f hq hk hf b h i))
  have ev := at3_eq v b l ⟨h.val * 64 + d.val, by omega⟩
  dsimp only at ev ⊢
  rw [ev, headsT_apply]
  congr 1
  unfold softT
  rw [probT_apply]
  simp only [expT_apply, maxT_apply, ninf]

include hq hk hf in
/-- The reference's result. -/
theorem ref_eq : refT q k v f g = outArr q k v f g := by
  suffices h : ∀ (r : Fin 32768) (w : Fin 512), refT q k v f g (ix2 r w) = outArr q k v f g (ix2 r w) by
    funext j
    have hj : j = ix2 (j 0) (j 1) := by
      funext a
      fin_cases a <;> rfl
    rw [hj]
    exact h (j 0) (j 1)
  intro r w
  unfold refT
  rw [normT_apply]
  simp only [att_eq q k v f hq hk hf, zero_add]
  show _ = outR _ _ _ _ _ (r.val % 4096) w.val
  unfold outR nrm
  have eg : at1 g w.val = g (ix1 w) := dif_pos w.isLt
  rw [eg]
  rfl

end

/-- The reference's program computes it. -/
theorem res_eq (m : (ℓ : Loc nD τ sig) → Buf (Elt Ideal) ℓ) (c : Dev nD) :
    Value.res_main_v55 m c = refT (m ((c.tc : Thread nD τ).loc main_arg0)) (m ((c.tc : Thread nD τ).loc main_arg1)) (m ((c.tc : Thread nD τ).loc main_arg2))
      (fT (m ((c.tc : Thread nD τ).loc main_arg3)) (m ((c.tc : Thread nD τ).loc main_arg4))) (m ((c.tc : Thread nD τ).loc main_arg5)) := by
  unfold Value.res_main_v55
  rfl

end Fox.Ref
-- ==== Proof.Algebraic.lean ====
module

public import proofs.«01_k».proof.Defs
public import proofs.«01_k».proof.Proof.Frames
public import proofs.«01_k».proof.Proof.Finite
public import proofs.«01_k».proof.Proof.Result
public import proofs.«01_k».proof.Proof.ReferValue

@[expose] public section

noncomputable section

namespace Fox

open Idealize.ShloMosaic Idealize.ShloMosaic.TcCoe Idealize.SL.Sem

/-- With real forget logits and biases every running forget sum is real. -/
theorem forget_real (fl : FVec Ideal Cert.KernelIdeal.S8x4096x8 .f32) (bf : FVec Ideal Cert.KernelIdeal.S8 .f32)
    (hfl : ∀ i, IsR (fl i)) (hbf : ∀ i, IsR (bf i)) (b : Fin 8) (p : Fin 4096) (n : Fin 8) : IsR (fT fl bf (ix3 b p n)) := by
  refine cumT_real _ (fun i p n => lsT_real _ i p n ?_) _
  rw [zT_apply]
  exact (hfl _).add (hbf _)

/-- What both programs leave at the result, from the arguments the kernel starts with. -/
def answer (m : (ℓ : Loc Cert.KernelIdeal.nD Cert.KernelIdeal.τ Cert.KernelIdeal.sig) → Buf (Elt Ideal) ℓ) (c : Dev Cert.KernelIdeal.nD) :
    FVec Ideal Cert.KernelIdeal.S32768x512 .bf16 :=
  outArr (m (c, Cert.KernelIdeal.main_arg0)) (m (c, Cert.KernelIdeal.main_arg1)) (m (c, Cert.KernelIdeal.main_arg2))
    (fT (m (c, Cert.KernelIdeal.main_arg3)) (m (c, Cert.KernelIdeal.main_arg4))) (m (c, Cert.KernelIdeal.main_arg5))

theorem algebraic [Cert.Pre_finite_scores.Facts] : Cert.algebraic_KernelIdeal_ReferenceIdeal_pre_finite_scores := by
  intro m g m' g' hpre hargs
  have hreal := fun c => finite_of_pre _ _ _ _ _ _ (hpre c)
  have hq : ∀ (c : Dev Cert.KernelIdeal.nD) b p w, IsR (m (c, Cert.KernelIdeal.main_arg0) (ix3 b p w)) := fun c b p w => (hreal c).1 _
  have hk : ∀ (c : Dev Cert.KernelIdeal.nD) b p w, IsR (m (c, Cert.KernelIdeal.main_arg1) (ix3 b p w)) := fun c b p w => (hreal c).2.1 _
  have hf := fun (c : Dev Cert.KernelIdeal.nD) => forget_real _ _ (hreal c).2.2.1 (hreal c).2.2.2
  refine ⟨answer m, ?_, ?_⟩
  · refine (θ_run Cert.KernelIdeal.defs _ _).mono (fun r h c => ⟨?_, h.2.1 c⟩) (θ_run_and (launched_post m g) (framed m g))
    exact (Pipeline.FramePost.out_eq h.1 c 5).trans (result m c (hq c) (hk c) (hf c))
  · refine (θ_run Cert.ReferenceIdeal.defs _ _).mono (fun r h c => ⟨(h c).1.trans ?_, (h c).2⟩) (Cert.ReferenceIdeal.Value.run (F := Ideal) m' g')
    obtain ⟨a0, a1, a2, a3, a4, a5⟩ := hargs c
    refine (Ref.res_eq m' c).trans ?_
    rw [a0, a1, a2, a3, a4, a5]
    exact Ref.ref_eq _ _ _ _ _ (hq c) (hk c) (hf c)

end Fox
-- ==== Proof.BackFrames.lean ====
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run

@[expose] public section

noncomputable section

namespace Fox.Back

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

end Fox.Back
-- ==== Proof.BackTile.lean ====
module

public import proofs.«01_k».proof.Proof.Gen.Kernel2Ideal.Value
public import Idealize.ShloMosaic.Lib.Pointwise
public import Idealize.ShloMosaic.Lib.Pipeline.ValueKit

@[expose] public section

noncomputable section

namespace Fox.Back

open Idealize.ShloMosaic Idealize.ShloMosaic.TcCoe Idealize.SL.Sem

/-! ## One row -/

/-- The residual row with the projected mixers' outputs added: the two halves of the projection's rows meet the two outputs. -/
def mixR (x : Fin 1024 → EReal) (ya yb : Fin 512 → EReal) (wo : Fin 1024 → Fin 1024 → EReal) (w : Fin 1024) : EReal :=
  x w + (∑ k : Fin 512, ya k * wo ⟨k.val, by omega⟩ w + ∑ k : Fin 512, yb k * wo ⟨512 + k.val, by omega⟩ w)

/-- The root-mean-square norm of a row, with its weights. -/
def normR (x g : Fin 1024 → EReal) (w : Fin 1024) : EReal :=
  x w * Ideal.rsqrt (Ideal.div (∑ k, x k * x k) (Ideal.ofBits FTy.f32 0x44800000#32) + Ideal.ofBits FTy.f32 0x358637BD#32) * g w

/-- The gated hidden number `f` of a row. -/
def gateR (h : Fin 1024 → EReal) (w1 w3 : Fin 1024 → Fin 2816 → EReal) (f : Fin 2816) : EReal :=
  (∑ k, h k * w1 k f) * Ideal.logistic (∑ k, h k * w1 k f) * ∑ k, h k * w3 k f

/-- Half the feed-forward output added to a row. -/
def halfR (x : Fin 1024 → EReal) (u : Fin 2816 → EReal) (w2 : Fin 2816 → Fin 1024 → EReal) (w : Fin 1024) : EReal :=
  x w + Ideal.ofBits FTy.f32 0x3F000000#32 * ∑ f, u f * w2 f w

/-- A row of the result. -/
def rowR (x : Fin 1024 → EReal) (ya yb : Fin 512 → EReal) (wo : Fin 1024 → Fin 1024 → EReal) (g2 : Fin 1024 → EReal) (w1 w3 : Fin 1024 → Fin 2816 → EReal)
    (w2 : Fin 2816 → Fin 1024 → EReal) (gf : Fin 1024 → EReal) : Fin 1024 → EReal :=
  normR (halfR (mixR x ya yb wo) (gateR (normR (mixR x ya yb wo) g2) w1 w3) w2) gf

/-! ## The body's values, read at an index -/

open Cert.Kernel2Ideal Cert.Kernel2Ideal.Gen

/-- One chunk of the gated hidden numbers. -/
def chunkV (h : FVec Ideal S256x1024 .bf16) (a b : Vec Ideal S1024x256 .bf16) : Vec Ideal S256x256 .bf16 :=
  let a' : FVec Ideal S1024x256 .bf16 := shapeCast S1024x256 a shapeCasts_S1024x256_S1024x256
  let b' : FVec Ideal S1024x256 .bf16 := shapeCast S1024x256 b shapeCasts_S1024x256_S1024x256
  let p : FVec Ideal S256x256 .f32 := matmul dot_S256x1024_S1024x256_S256x256_1_0_0_1_n_n none h a' (constant S256x256 .f32 0x00000000#32)
  let q : FVec Ideal S256x256 .f32 := matmul dot_S256x1024_S1024x256_S256x256_1_0_0_1_n_n none h b' (constant S256x256 .f32 0x00000000#32)
  shapeCast S256x256 (truncf (F := Ideal) .bf16 (mulf (mulf p (logistic p)) q) bitsLt_bf16_f32) shapeCasts_S256x256_S256x256

theorem chunkV_apply (h : FVec Ideal S256x1024 .bf16) (a b : Vec Ideal S1024x256 .bf16) (r : Fin 256) (n : Fin 256) :
    chunkV h a b (ix2 r n) = (∑ k, h (ix2 r k) * a (ix2 k n)) * Ideal.logistic (∑ k, h (ix2 r k) * a (ix2 k n)) * ∑ k, h (ix2 r k) * b (ix2 k n) := by
  pointwise [chunkV]

theorem mix_apply (ya yb : Vec Ideal S256x512 .bf16) (x : Vec Ideal S256x1024 .f32) (wo : Vec Ideal S1024x1024 .bf16) (r : Fin 256) (w : Fin 1024) :
    k0_pay2 (F := Ideal) ya yb x wo (ix2 r w)
      = mixR (fun w => x (ix2 r w)) (fun k => ya (ix2 r k)) (fun k => yb (ix2 r k)) (fun k w => wo (ix2 k w)) w := by
  pointwise [k0_pay2, mixR]

theorem norm_apply (x : FVec Ideal S256x1024 .f32) (g : Vec Ideal S1x1024 .f32) (r : Fin 256) (w : Fin 1024) :
    k0_pay22 (F := Ideal) x g (ix2 r w) = normR (fun w => x (ix2 r w)) (fun w => g (ix2 0 w)) w := by
  pointwise [k0_pay22, normR]

theorem half_apply (x : FVec Ideal S256x1024 .f32) (u : Vec Ideal S256x2816 .bf16) (w2 : Vec Ideal S2816x1024 .bf16) (r : Fin 256) (w : Fin 1024) :
    k0_pay21 (F := Ideal) x u w2 (ix2 r w) = halfR (fun w => x (ix2 r w)) (fun f => u (ix2 r f)) (fun f w => w2 (ix2 f w)) w := by
  pointwise [k0_pay21, halfR]

/-! ## The scratch: the gated hidden numbers of the two halves of the rows -/

/-- The scratch array, from the normed rows. -/
def hidV (hr : Fin 512 → Fin 1024 → EReal) (x5 x6 : Vec Ideal S1024x2816 .bf16) (y : S512x2816.Idx) : EReal :=
  gateR (hr (y 0)) (fun k f => x5 (ix2 k f)) (fun k f => x6 (ix2 k f)) (y 1)

/-- A load of a chunk of a weight. -/
theorem load_chunk {s : Memref sig .tc .vmem S1024x2816 .bf16} (hs : s.IsWhole) (X : Vec Ideal S1024x2816 .bf16) (co : ℕ)
    (i2 : ∀ a, (![0, co] : Fin 2 → ℕ) a + S1024x256.size a ≤ S1024x2816.size a) (k : Fin 1024) (n : Fin 256) (hn : co + n.val < 2816) :
    View.readAt (Elt Ideal) s.view (Rect.unit (s := S1024x2816) ![0, co] S1024x256.size i2).toLoadRect (hs.unread X) (ix2 k n) = X (ix2 k ⟨co + n.val, hn⟩) := by
  refine (congrFun (View.readAt_eq_ld s.view (hs.unread X) (Rect.unit (s := S1024x2816) ![0, co] S1024x256.size i2)) (ix2 k n)).trans ?_
  rw [hs.read_unread]
  refine View.ld_unit_apply_of X _ _ _ _ _ fun a => ?_
  fin_cases a
  · exact (Nat.zero_add _).symm
  · rfl

/-- What a store of a chunk holds. -/
theorem piece (hr : Fin 512 → Fin 1024 → EReal) (x5 x6 : Vec Ideal S1024x2816 .bf16)
    {s : Memref sig .tc .vmem S1024x2816 .bf16} (hs : s.IsWhole) {t : Memref sig .tc .vmem S1024x2816 .bf16} (ht : t.IsWhole)
    (h : FVec Ideal S256x1024 .bf16) (ro co : ℕ) (hro : ro + 256 ≤ 512) (hh : ∀ (r : Fin 256) k, h (ix2 r k) = hr ⟨ro + r.val, by omega⟩ k)
    (i1 : ∀ a, (![ro, co] : Fin 2 → ℕ) a + S256x256.size a ≤ S512x2816.size a)
    (i2 : ∀ a, (![0, co] : Fin 2 → ℕ) a + S1024x256.size a ≤ S1024x2816.size a)
    (x : (Rect.unit (s := S512x2816) ![ro, co] S256x256.size i1).shape.Idx) :
    chunkV h (View.readAt (Elt Ideal) s.view (Rect.unit (s := S1024x2816) ![0, co] S1024x256.size i2).toLoadRect (hs.unread x5))
        (View.readAt (Elt Ideal) t.view (Rect.unit (s := S1024x2816) ![0, co] S1024x256.size i2).toLoadRect (ht.unread x6)) x
      = hidV hr x5 x6 ((Rect.unit (s := S512x2816) ![ro, co] S256x256.size i1).emb x) := by
  have hco : co + 256 ≤ 2816 := i2 1
  suffices H : ∀ (r : Fin 256) (n : Fin 256),
      chunkV h (View.readAt (Elt Ideal) s.view (Rect.unit (s := S1024x2816) ![0, co] S1024x256.size i2).toLoadRect (hs.unread x5))
        (View.readAt (Elt Ideal) t.view (Rect.unit (s := S1024x2816) ![0, co] S1024x256.size i2).toLoadRect (ht.unread x6)) (ix2 r n)
      = gateR (hr ⟨ro + r.val, by omega⟩) (fun k f => x5 (ix2 k f)) (fun k f => x6 (ix2 k f)) ⟨co + n.val, by omega⟩ by
    have hx : x = ix2 (x 0) (x 1) := by
      funext a
      fin_cases a <;> rfl
    have e0 : ((Rect.unit (s := S512x2816) ![ro, co] S256x256.size i1).emb x) 0 = (⟨ro + (x 0).val, by have : (x 0).val < 256 := (x 0).isLt; omega⟩ : Fin 512) :=
      Fin.ext (Rect.idx_unit_val _ _ i1 x 0)
    have e1 : ((Rect.unit (s := S512x2816) ![ro, co] S256x256.size i1).emb x) 1 = (⟨co + (x 1).val, by have : (x 1).val < 256 := (x 1).isLt; omega⟩ : Fin 2816) :=
      Fin.ext (Rect.idx_unit_val _ _ i1 x 1)
    unfold hidV
    rw [e0, e1]
    refine Eq.trans ?_ (H (x 0) (x 1))
    exact congrArg _ hx
  intro r n
  rw [chunkV_apply]
  unfold gateR
  simp only [hh, load_chunk hs x5 co i2 _ n (by omega), load_chunk ht x6 co i2 _ n (by omega)]

end Fox.Back
-- ==== Proof.BackRun.lean ====
module

public import proofs.«01_k».proof.Proof.BackTile

@[expose] public section

noncomputable section

namespace Fox.Back

open Idealize.ShloMosaic Idealize.ShloMosaic.TcCoe Idealize.SL.Sem
open Cert.Kernel2Ideal Cert.Kernel2Ideal.Gen

/-- A load of part of an input, at an index. -/
theorem load_at {S : Shape} {e : EltTy} {s : Memref sig .tc .vmem S e} (hs : s.IsWhole) (X : Vec Ideal S e) (off size : Fin S.rank → ℕ)
    (inb : ∀ a, off a + size a ≤ S.size a) (x : (Rect.unit off size inb).shape.Idx) (i : S.Idx) (hi : ∀ a, (i a : ℕ) = off a + x a) :
    View.readAt (Elt Ideal) s.view (Rect.unit off size inb).toLoadRect (hs.unread X) x = X i := by
  refine (congrFun (View.readAt_eq_ld s.view (hs.unread X) (Rect.unit off size inb)) x).trans ?_
  rw [hs.read_unread]
  exact View.ld_unit_apply_of X off size inb x i hi

/-- Loads of 256 rows and of a whole array of two axes. -/
theorem load_rows {n w : ℕ} {e : EltTy} {s : Memref sig .tc .vmem ⟨2, ![n, w]⟩ e} (hs : s.IsWhole) (X : Vec Ideal ⟨2, ![n, w]⟩ e) (ro k : ℕ)
    (inb : ∀ a, (![ro, 0] : Fin 2 → ℕ) a + (![k, w] : Fin 2 → ℕ) a ≤ (⟨2, ![n, w]⟩ : Shape).size a) (r : Fin k) (j : Fin w) (hr : ro + r.val < n) :
    View.readAt (Elt Ideal) s.view (Rect.unit (s := ⟨2, ![n, w]⟩) ![ro, 0] ![k, w] inb).toLoadRect (hs.unread X) (ix2 r j) = X (ix2 ⟨ro + r.val, hr⟩ j) := by
  refine load_at hs X _ _ inb (ix2 r j) _ fun a => ?_
  fin_cases a
  · rfl
  · exact (Nat.zero_add _).symm

theorem load_whole {n w : ℕ} {e : EltTy} {s : Memref sig .tc .vmem ⟨2, ![n, w]⟩ e} (hs : s.IsWhole) (X : Vec Ideal ⟨2, ![n, w]⟩ e)
    (inb : ∀ a, (![0, 0] : Fin 2 → ℕ) a + (![n, w] : Fin 2 → ℕ) a ≤ (⟨2, ![n, w]⟩ : Shape).size a) (r : Fin n) (j : Fin w) :
    View.readAt (Elt Ideal) s.view (Rect.unit (s := ⟨2, ![n, w]⟩) ![0, 0] ![n, w] inb).toLoadRect (hs.unread X) (ix2 r j) = X (ix2 r j) := by
  refine load_at hs X _ _ inb (ix2 r j) _ fun a => ?_
  fin_cases a
  · exact (Nat.zero_add _).symm
  · exact (Nat.zero_add _).symm

/-- Every store of a list holds what one function of the buffer's index is where it lands. -/
def Holds {S : Shape} {e : EltTy} (G : S.Idx → Elt Ideal e) (L : List (View.Piece (Elt Ideal) S e)) : Prop :=
  ∀ p ∈ L, ∀ x : p.1.shape.Idx, p.2 x = G (p.1.emb x)

theorem Holds.cons {S : Shape} {e : EltTy} {G : S.Idx → Elt Ideal e} {p : View.Piece (Elt Ideal) S e} {L : List (View.Piece (Elt Ideal) S e)}
    (h : ∀ x : p.1.shape.Idx, p.2 x = G (p.1.emb x)) (hL : Holds G L) : Holds G (p :: L) := List.forall_mem_cons.2 ⟨h, hL⟩

theorem Holds.nil {S : Shape} {e : EltTy} {G : S.Idx → Elt Ideal e} : Holds G [] := fun p hp => absurd hp List.not_mem_nil

theorem Holds.read {S : Shape} {e : EltTy} {G : S.Idx → Elt Ideal e} {L : List (View.Piece (Elt Ideal) S e)} (h : Holds G L) (y : S.Idx)
    (hy : ∃ p ∈ L, y ∈ p.1.set) : View.canon L y = G y := View.canon_apply_of_pieces G L h y hy

/-- Where the scratch is read back. -/
theorem back_idx (ro : ℕ) (hro : ro + 256 ≤ 512) (inb : ∀ a, (![ro, 0] : Fin 2 → ℕ) a + S256x2816.size a ≤ S512x2816.size a) (r : Fin 256) (f : Fin 2816) :
    (Rect.unit (s := S512x2816) ![ro, 0] S256x2816.size inb).toLoadRect.idx (ix2 r f) = ix2 (⟨ro + r.val, by omega⟩ : Fin 512) f := by
  funext a
  fin_cases a
  · exact Fin.ext (by show ro + 1 * r.val = ro + r.val; omega)
  · exact Fin.ext (by show 0 + 1 * f.val = f.val; omega)

/-- An index of the scratch lies in a tile, from its two coordinates. -/
theorem two {a b ro co : ℕ} (i : Fin 512) (j : Fin 2816) (hi : ro ≤ i.val ∧ i.val < ro + a) (hj : co ≤ j.val ∧ j.val < co + b) :
    ∀ x : Fin 2, (![ro, co] : Fin 2 → ℕ) x ≤ ((ix2 i j : S512x2816.Idx) x : ℕ) ∧ ((ix2 i j : S512x2816.Idx) x : ℕ) < (![ro, co] : Fin 2 → ℕ) x + (![a, b] : Fin 2 → ℕ) x := by
  intro x
  fin_cases x
  · exact hi
  · exact hj

section

variable (c : Dev nD) (arg1 : Memref sig .tc .vmem S512x1024 .f32) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S1024x1024 .bf16) (harg4 : arg4.IsWhole)
  (arg5 : Memref sig .tc .vmem S1x1024 .f32) (harg5 : arg5.IsWhole) (arg6 : Memref sig .tc .vmem S1024x2816 .bf16) (harg6 : arg6.IsWhole)
  (arg7 : Memref sig .tc .vmem S1024x2816 .bf16) (harg7 : arg7.IsWhole) (arg8 : Memref sig .tc .vmem S2816x1024 .bf16) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S512x2816 .bf16) (harg11 : arg11.IsWhole)
  (x0 : Vec Ideal S512x1024 .f32) (x1 : Vec Ideal S512x512 .bf16) (x2 : Vec Ideal S512x512 .bf16) (x3 : Vec Ideal S1024x1024 .bf16) (x4 : Vec Ideal S1x1024 .f32)
  (x5 : Vec Ideal S1024x2816 .bf16) (x6 : Vec Ideal S1024x2816 .bf16) (x7 : Vec Ideal S2816x1024 .bf16) (x8 : Vec Ideal S1x1024 .f32)

/-- The rows with the projected mixers' outputs, and their norms. -/
def mixV (r : Fin 512) : Fin 1024 → EReal :=
  mixR (fun w => x0 (ix2 r w)) (fun k => x1 (ix2 r k)) (fun k => x2 (ix2 r k)) (fun k w => x3 (ix2 k w))

def nrmV (r : Fin 512) : Fin 1024 → EReal := normR (mixV x0 x1 x2 x3 r) (fun w => x4 (ix2 0 w))

theorem mix0 (r : Fin 256) (w : Fin 1024) :
    kernelRun0_A.sl.r (F := Ideal) c arg1 harg1 arg2 harg2 arg3 harg3 arg4 harg4 x0 x1 x2 x3 (ix2 r w) = mixV x0 x1 x2 x3 ⟨0 + r.val, by omega⟩ w := by
  unfold kernelRun0_A.sl.r
  rw [mix_apply]
  unfold mixV
  congr 1
  · funext w; exact load_rows harg1 x0 0 256 _ r w (by omega)
  · funext w; exact load_rows harg2 x1 0 256 _ r w (by omega)
  · funext w; exact load_rows harg3 x2 0 256 _ r w (by omega)
  · funext k w; exact load_whole harg4 x3 _ k w

theorem mix1 (r : Fin 256) (w : Fin 1024) :
    kernelRun0_A.sl.r_1 (F := Ideal) c arg1 harg1 arg2 harg2 arg3 harg3 arg4 harg4 x0 x1 x2 x3 (ix2 r w) = mixV x0 x1 x2 x3 ⟨256 + r.val, by omega⟩ w := by
  unfold kernelRun0_A.sl.r_1
  refine (mix_apply _ _ _ _ r w).trans ?_
  unfold mixV
  congr 1
  · funext w; exact load_rows harg1 x0 256 256 _ r w (by omega)
  · funext w; exact load_rows harg2 x1 256 256 _ r w (by omega)
  · funext w; exact load_rows harg3 x2 256 256 _ r w (by omega)
  · funext k w; exact load_whole harg4 x3 _ k w

theorem nrm0 (r : Fin 256) (w : Fin 1024) :
    kernelRun0_A.sl.r_3 (F := Ideal) c arg1 harg1 arg2 harg2 arg3 harg3 arg4 harg4 arg5 harg5 x0 x1 x2 x3 x4 (ix2 r w) = nrmV x0 x1 x2 x3 x4 ⟨0 + r.val, by omega⟩ w := by
  refine (norm_apply (kernelRun0_A.sl.r (F := Ideal) c arg1 harg1 arg2 harg2 arg3 harg3 arg4 harg4 x0 x1 x2 x3)
    (View.readAt (Elt Ideal) arg5.view (Rect.unit (s := S1x1024) ![0, 0] S1x1024.size inb_S1x1024_S1x1024_0_0).toLoadRect (harg5.unread x4)) r w).trans ?_
  unfold nrmV
  congr 1
  · funext w; exact mix0 c arg1 harg1 arg2 harg2 arg3 harg3 arg4 harg4 x0 x1 x2 x3 r w
  · funext w; exact load_whole harg5 x4 _ 0 w

theorem nrm1 (r : Fin 256) (w : Fin 1024) :
    kernelRun0_A.sl.r_9 (F := Ideal) c arg1 harg1 arg2 harg2 arg3 harg3 arg4 harg4 arg5 harg5 x0 x1 x2 x3 x4 (ix2 r w) = nrmV x0 x1 x2 x3 x4 ⟨256 + r.val, by omega⟩ w := by
  refine (norm_apply (kernelRun0_A.sl.r_1 (F := Ideal) c arg1 harg1 arg2 harg2 arg3 harg3 arg4 harg4 x0 x1 x2 x3)
    (View.readAt (Elt Ideal) arg5.view (Rect.unit (s := S1x1024) ![0, 0] S1x1024.size inb_S1x1024_S1x1024_0_0).toLoadRect (harg5.unread x4)) r w).trans ?_
  unfold nrmV
  congr 1
  · funext w; exact mix1 c arg1 harg1 arg2 harg2 arg3 harg3 arg4 harg4 x0 x1 x2 x3 r w
  · funext w; exact load_whole harg5 x4 _ 0 w

/-! ## The scratch -/

/-- The first half's stores. -/
theorem pieces0 : Holds (hidV (nrmV x0 x1 x2 x3 x4) x5 x6)
    (kernelRun0_A.sl.HS0_11 (F := Ideal) c arg1 harg1 arg2 harg2 arg3 harg3 arg4 harg4 arg5 harg5 arg6 harg6 arg7 harg7 x0 x1 x2 x3 x4 x5 x6) := by
  unfold kernelRun0_A.sl.HS0_11
  have H := fun r k => nrm0 c arg1 harg1 arg2 harg2 arg3 harg3 arg4 harg4 arg5 harg5 x0 x1 x2 x3 x4 r k
  refine Holds.cons ?_ ?_
  · exact fun x => piece _ x5 x6 harg6 harg7 _ 0 2560 (by omega) H inb_S512x2816_S256x256_0_2560 inb_S1024x2816_S1024x256_0_2560 x
  refine Holds.cons ?_ ?_
  · exact fun x => piece _ x5 x6 harg6 harg7 _ 0 2304 (by omega) H inb_S512x2816_S256x256_0_2304 inb_S1024x2816_S1024x256_0_2304 x
  refine Holds.cons ?_ ?_
  · exact fun x => piece _ x5 x6 harg6 harg7 _ 0 2048 (by omega) H inb_S512x2816_S256x256_0_2048 inb_S1024x2816_S1024x256_0_2048 x
  refine Holds.cons ?_ ?_
  · exact fun x => piece _ x5 x6 harg6 harg7 _ 0 1792 (by omega) H inb_S512x2816_S256x256_0_1792 inb_S1024x2816_S1024x256_0_1792 x
  refine Holds.cons ?_ ?_
  · exact fun x => piece _ x5 x6 harg6 harg7 _ 0 1536 (by omega) H inb_S512x2816_S256x256_0_1536 inb_S1024x2816_S1024x256_0_1536 x
  refine Holds.cons ?_ ?_
  · exact fun x => piece _ x5 x6 harg6 harg7 _ 0 1280 (by omega) H inb_S512x2816_S256x256_0_1280 inb_S1024x2816_S1024x256_0_1280 x
  refine Holds.cons ?_ ?_
  · exact fun x => piece _ x5 x6 harg6 harg7 _ 0 1024 (by omega) H inb_S512x2816_S256x256_0_1024 inb_S1024x2816_S1024x256_0_1024 x
  refine Holds.cons ?_ ?_
  · exact fun x => piece _ x5 x6 harg6 harg7 _ 0 768 (by omega) H inb_S512x2816_S256x256_0_768 inb_S1024x2816_S1024x256_0_768 x
  refine Holds.cons ?_ ?_
  · exact fun x => piece _ x5 x6 harg6 harg7 _ 0 512 (by omega) H inb_S512x2816_S256x256_0_512 inb_S1024x2816_S1024x256_0_512 x
  refine Holds.cons ?_ ?_
  · exact fun x => piece _ x5 x6 harg6 harg7 _ 0 256 (by omega) H inb_S512x2816_S256x256_0_256 inb_S1024x2816_S1024x256_0_256 x
  refine Holds.cons ?_ ?_
  · exact fun x => piece _ x5 x6 harg6 harg7 _ 0 0 (by omega) H inb_S512x2816_S256x256_0_0 inb_S1024x2816_S1024x256_0_0 x
  exact Holds.nil

/-- And the second's, on top of them. -/
theorem pieces1 : Holds (hidV (nrmV x0 x1 x2 x3 x4) x5 x6)
    (kernelRun0_A.sl.HS0_22 (F := Ideal) c arg1 harg1 arg2 harg2 arg3 harg3 arg4 harg4 arg5 harg5 arg6 harg6 arg7 harg7 x0 x1 x2 x3 x4 x5 x6) := by
  unfold kernelRun0_A.sl.HS0_22
  have H := fun r k => nrm1 c arg1 harg1 arg2 harg2 arg3 harg3 arg4 harg4 arg5 harg5 x0 x1 x2 x3 x4 r k
  refine Holds.cons ?_ ?_
  · exact fun x => piece _ x5 x6 harg6 harg7 _ 256 2560 (by omega) H inb_S512x2816_S256x256_256_2560 inb_S1024x2816_S1024x256_0_2560 x
  refine Holds.cons ?_ ?_
  · exact fun x => piece _ x5 x6 harg6 harg7 _ 256 2304 (by omega) H inb_S512x2816_S256x256_256_2304 inb_S1024x2816_S1024x256_0_2304 x
  refine Holds.cons ?_ ?_
  · exact fun x => piece _ x5 x6 harg6 harg7 _ 256 2048 (by omega) H inb_S512x2816_S256x256_256_2048 inb_S1024x2816_S1024x256_0_2048 x
  refine Holds.cons ?_ ?_
  · exact fun x => piece _ x5 x6 harg6 harg7 _ 256 1792 (by omega) H inb_S512x2816_S256x256_256_1792 inb_S1024x2816_S1024x256_0_1792 x
  refine Holds.cons ?_ ?_
  · exact fun x => piece _ x5 x6 harg6 harg7 _ 256 1536 (by omega) H inb_S512x2816_S256x256_256_1536 inb_S1024x2816_S1024x256_0_1536 x
  refine Holds.cons ?_ ?_
  · exact fun x => piece _ x5 x6 harg6 harg7 _ 256 1280 (by omega) H inb_S512x2816_S256x256_256_1280 inb_S1024x2816_S1024x256_0_1280 x
  refine Holds.cons ?_ ?_
  · exact fun x => piece _ x5 x6 harg6 harg7 _ 256 1024 (by omega) H inb_S512x2816_S256x256_256_1024 inb_S1024x2816_S1024x256_0_1024 x
  refine Holds.cons ?_ ?_
  · exact fun x => piece _ x5 x6 harg6 harg7 _ 256 768 (by omega) H inb_S512x2816_S256x256_256_768 inb_S1024x2816_S1024x256_0_768 x
  refine Holds.cons ?_ ?_
  · exact fun x => piece _ x5 x6 harg6 harg7 _ 256 512 (by omega) H inb_S512x2816_S256x256_256_512 inb_S1024x2816_S1024x256_0_512 x
  refine Holds.cons ?_ ?_
  · exact fun x => piece _ x5 x6 harg6 harg7 _ 256 256 (by omega) H inb_S512x2816_S256x256_256_256 inb_S1024x2816_S1024x256_0_256 x
  refine Holds.cons ?_ ?_
  · exact fun x => piece _ x5 x6 harg6 harg7 _ 256 0 (by omega) H inb_S512x2816_S256x256_256_0 inb_S1024x2816_S1024x256_0_0 x
  exact pieces0 c arg1 harg1 arg2 harg2 arg3 harg3 arg4 harg4 arg5 harg5 arg6 harg6 arg7 harg7 x0 x1 x2 x3 x4 x5 x6

theorem cover0 (r : Fin 256) (f : Fin 2816) : ∃ p ∈ kernelRun0_A.sl.HS0_11 (F := Ideal) c arg1 harg1 arg2 harg2 arg3 harg3 arg4 harg4 arg5 harg5 arg6 harg6 arg7 harg7 x0 x1 x2 x3 x4 x5 x6,
    (Rect.unit (s := S512x2816) ![0, 0] S256x2816.size inb_S512x2816_S256x2816_0_0).toLoadRect.idx (ix2 r f) ∈ p.1.set := by
  unfold kernelRun0_A.sl.HS0_11
  have hr := r.isLt
  rw [back_idx 0 (by omega)]
  have hf : f.val / 256 < 11 := by omega
  generalize hk : f.val / 256 = k at hf
  interval_cases k
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), (Rect.mem_set_unit (inb := inb_S512x2816_S256x256_0_0)).2 (two ⟨0 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), (Rect.mem_set_unit (inb := inb_S512x2816_S256x256_0_256)).2 (two ⟨0 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), (Rect.mem_set_unit (inb := inb_S512x2816_S256x256_0_512)).2 (two ⟨0 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (Rect.mem_set_unit (inb := inb_S512x2816_S256x256_0_768)).2 (two ⟨0 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ List.mem_cons_self))))), (Rect.mem_set_unit (inb := inb_S512x2816_S256x256_0_1024)).2 (two ⟨0 + r.val, by omega⟩ f (by dsimp only; omega) (by omega))⟩
  · exact ⟨_, List.mem_cons_of_mem _ (List.mem_cons_of_mem _ (List.mem_cons_of_mem _ (List.mem_cons_of_mem _ (List.mem_cons_of_mem _ List.mem_cons_self)))), (Rect.mem_set_unit (inb := inb_S512x2816_S256x256_0_1280)).2 (two ⟨0 + r.val, by omega⟩ f (by dsimp only; omega) (by omega))⟩
  · exact ⟨_, List.mem_cons_of_mem _ (List.mem_cons_of_mem _ (List.mem_cons_of_mem _ (List.mem_cons_of_mem _ List.mem_cons_self))), (Rect.mem_set_unit (inb := inb_S512x2816_S256x256_0_1536)).2 (two ⟨0 + r.val, by omega⟩ f (by dsimp only; omega) (by omega))⟩
  · exact ⟨_, List.mem_cons_of_mem _ (List.mem_cons_of_mem _ (List.mem_cons_of_mem _ List.mem_cons_self)), (Rect.mem_set_unit (inb := inb_S512x2816_S256x256_0_1792)).2 (two ⟨0 + r.val, by omega⟩ f (by dsimp only; omega) (by omega))⟩
  · exact ⟨_, List.mem_cons_of_mem _ (List.mem_cons_of_mem _ List.mem_cons_self), (Rect.mem_set_unit (inb := inb_S512x2816_S256x256_0_2048)).2 (two ⟨0 + r.val, by omega⟩ f (by dsimp only; omega) (by omega))⟩
  · exact ⟨_, List.mem_cons_of_mem _ List.mem_cons_self, (Rect.mem_set_unit (inb := inb_S512x2816_S256x256_0_2304)).2 (two ⟨0 + r.val, by omega⟩ f (by dsimp only; omega) (by omega))⟩
  · exact ⟨_, List.mem_cons_self, (Rect.mem_set_unit (inb := inb_S512x2816_S256x256_0_2560)).2 (two ⟨0 + r.val, by omega⟩ f (by dsimp only; omega) (by omega))⟩

theorem cover1 (r : Fin 256) (f : Fin 2816) : ∃ p ∈ kernelRun0_A.sl.HS0_22 (F := Ideal) c arg1 harg1 arg2 harg2 arg3 harg3 arg4 harg4 arg5 harg5 arg6 harg6 arg7 harg7 x0 x1 x2 x3 x4 x5 x6,
    (Rect.unit (s := S512x2816) ![256, 0] S256x2816.size inb_S512x2816_S256x2816_256_0).toLoadRect.idx (ix2 r f) ∈ p.1.set := by
  unfold kernelRun0_A.sl.HS0_22
  have hr := r.isLt
  rw [back_idx 256 (by omega)]
  have hf : f.val / 256 < 11 := by omega
  generalize hk : f.val / 256 = k at hf
  interval_cases k
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), (Rect.mem_set_unit (inb := inb_S512x2816_S256x256_256_0)).2 (two ⟨256 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), (Rect.mem_set_unit (inb := inb_S512x2816_S256x256_256_256)).2 (two ⟨256 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), (Rect.mem_set_unit (inb := inb_S512x2816_S256x256_256_512)).2 (two ⟨256 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (Rect.mem_set_unit (inb := inb_S512x2816_S256x256_256_768)).2 (two ⟨256 + r.val, by omega⟩ f (by dsimp only; omega) (by omega))⟩
  · exact ⟨_, List.mem_cons_of_mem _ (List.mem_cons_of_mem _ (List.mem_cons_of_mem _ (List.mem_cons_of_mem _ (List.mem_cons_of_mem _ (List.mem_cons_of_mem _ List.mem_cons_self))))), (Rect.mem_set_unit (inb := inb_S512x2816_S256x256_256_1024)).2 (two ⟨256 + r.val, by omega⟩ f (by dsimp only; omega) (by omega))⟩
  · exact ⟨_, List.mem_cons_of_mem _ (List.mem_cons_of_mem _ (List.mem_cons_of_mem _ (List.mem_cons_of_mem _ (List.mem_cons_of_mem _ List.mem_cons_self)))), (Rect.mem_set_unit (inb := inb_S512x2816_S256x256_256_1280)).2 (two ⟨256 + r.val, by omega⟩ f (by dsimp only; omega) (by omega))⟩
  · exact ⟨_, List.mem_cons_of_mem _ (List.mem_cons_of_mem _ (List.mem_cons_of_mem _ (List.mem_cons_of_mem _ List.mem_cons_self))), (Rect.mem_set_unit (inb := inb_S512x2816_S256x256_256_1536)).2 (two ⟨256 + r.val, by omega⟩ f (by dsimp only; omega) (by omega))⟩
  · exact ⟨_, List.mem_cons_of_mem _ (List.mem_cons_of_mem _ (List.mem_cons_of_mem _ List.mem_cons_self)), (Rect.mem_set_unit (inb := inb_S512x2816_S256x256_256_1792)).2 (two ⟨256 + r.val, by omega⟩ f (by dsimp only; omega) (by omega))⟩
  · exact ⟨_, List.mem_cons_of_mem _ (List.mem_cons_of_mem _ List.mem_cons_self), (Rect.mem_set_unit (inb := inb_S512x2816_S256x256_256_2048)).2 (two ⟨256 + r.val, by omega⟩ f (by dsimp only; omega) (by omega))⟩
  · exact ⟨_, List.mem_cons_of_mem _ List.mem_cons_self, (Rect.mem_set_unit (inb := inb_S512x2816_S256x256_256_2304)).2 (two ⟨256 + r.val, by omega⟩ f (by dsimp only; omega) (by omega))⟩
  · exact ⟨_, List.mem_cons_self, (Rect.mem_set_unit (inb := inb_S512x2816_S256x256_256_2560)).2 (two ⟨256 + r.val, by omega⟩ f (by dsimp only; omega) (by omega))⟩

theorem hid0 (r : Fin 256) (f : Fin 2816) :
    kernelRun0_A.sl.v191 (F := Ideal) c arg1 harg1 arg2 harg2 arg3 harg3 arg4 harg4 arg5 harg5 arg6 harg6 arg7 harg7 arg11 x0 x1 x2 x3 x4 x5 x6 (ix2 r f) = gateR (nrmV x0 x1 x2 x3 x4 ⟨0 + r.val, by omega⟩) (fun k f => x5 (ix2 k f)) (fun k f => x6 (ix2 k f)) f := by
  unfold kernelRun0_A.sl.v191
  rw [View.readCov_eq_canon']
  refine (Holds.read (pieces0 c arg1 harg1 arg2 harg2 arg3 harg3 arg4 harg4 arg5 harg5 arg6 harg6 arg7 harg7 x0 x1 x2 x3 x4 x5 x6) _ (cover0 c arg1 harg1 arg2 harg2 arg3 harg3 arg4 harg4 arg5 harg5 arg6 harg6 arg7 harg7 x0 x1 x2 x3 x4 x5 x6 r f)).trans ?_
  rw [back_idx 0 (by omega)]
  rfl

theorem hid1 (r : Fin 256) (f : Fin 2816) :
    kernelRun0_A.sl.v382 (F := Ideal) c arg1 harg1 arg2 harg2 arg3 harg3 arg4 harg4 arg5 harg5 arg6 harg6 arg7 harg7 arg11 x0 x1 x2 x3 x4 x5 x6 (ix2 r f) = gateR (nrmV x0 x1 x2 x3 x4 ⟨256 + r.val, by omega⟩) (fun k f => x5 (ix2 k f)) (fun k f => x6 (ix2 k f)) f := by
  unfold kernelRun0_A.sl.v382
  rw [View.readCov_eq_canon']
  refine (Holds.read (pieces1 c arg1 harg1 arg2 harg2 arg3 harg3 arg4 harg4 arg5 harg5 arg6 harg6 arg7 harg7 x0 x1 x2 x3 x4 x5 x6) _ (cover1 c arg1 harg1 arg2 harg2 arg3 harg3 arg4 harg4 arg5 harg5 arg6 harg6 arg7 harg7 x0 x1 x2 x3 x4 x5 x6 r f)).trans ?_
  rw [back_idx 256 (by omega)]
  rfl

/-! ## The result -/

/-- The rows with half the feed-forward output. -/
def fullV (r : Fin 512) : Fin 1024 → EReal :=
  halfR (mixV x0 x1 x2 x3 r) (gateR (nrmV x0 x1 x2 x3 x4 r) (fun k f => x5 (ix2 k f)) (fun k f => x6 (ix2 k f))) (fun f w => x7 (ix2 f w))

/-- The block of the result. -/
def outV (y : S512x1024.Idx) : EReal := normR (fullV x0 x1 x2 x3 x4 x5 x6 x7 (y 0)) (fun w => x8 (ix2 0 w)) (y 1)

theorem full0 (r : Fin 256) (w : Fin 1024) :
    kernelRun0_A.sl.r_8 (F := Ideal) c arg1 harg1 arg2 harg2 arg3 harg3 arg4 harg4 arg5 harg5 arg6 harg6 arg7 harg7 arg8 harg8 arg11 x0 x1 x2 x3 x4 x5 x6 x7 (ix2 r w) = fullV x0 x1 x2 x3 x4 x5 x6 x7 ⟨0 + r.val, by omega⟩ w := by
  unfold kernelRun0_A.sl.r_8
  refine (half_apply _ _ _ r w).trans ?_
  unfold fullV
  congr 1
  · funext w; exact mix0 c arg1 harg1 arg2 harg2 arg3 harg3 arg4 harg4 x0 x1 x2 x3 r w
  · funext f; exact hid0 c arg1 harg1 arg2 harg2 arg3 harg3 arg4 harg4 arg5 harg5 arg6 harg6 arg7 harg7 arg11 x0 x1 x2 x3 x4 x5 x6 r f
  · funext f w; exact load_whole harg8 x7 _ f w

/-- The last half's rows before their norm, as the body sums them. -/
def sum1 : FVec Ideal S256x1024 .f32 :=
  k0_pay21 (F := Ideal) (kernelRun0_A.sl.r_1 c arg1 harg1 arg2 harg2 arg3 harg3 arg4 harg4 x0 x1 x2 x3) (kernelRun0_A.sl.v382 c arg1 harg1 arg2 harg2 arg3 harg3 arg4 harg4 arg5 harg5 arg6 harg6 arg7 harg7 arg11 x0 x1 x2 x3 x4 x5 x6)
    (View.readAt (Elt Ideal) arg8.view (Rect.unit (s := S2816x1024) ![0, 0] S2816x1024.size inb_S2816x1024_S2816x1024_0_0).toLoadRect (harg8.unread x7))

theorem full1 (r : Fin 256) (w : Fin 1024) : sum1 c arg1 harg1 arg2 harg2 arg3 harg3 arg4 harg4 arg5 harg5 arg6 harg6 arg7 harg7 arg8 harg8 arg11 x0 x1 x2 x3 x4 x5 x6 x7 (ix2 r w) = fullV x0 x1 x2 x3 x4 x5 x6 x7 ⟨256 + r.val, by omega⟩ w := by
  unfold sum1
  refine (half_apply _ _ _ r w).trans ?_
  unfold fullV
  congr 1
  · funext w; exact mix1 c arg1 harg1 arg2 harg2 arg3 harg3 arg4 harg4 x0 x1 x2 x3 r w
  · funext f; exact hid1 c arg1 harg1 arg2 harg2 arg3 harg3 arg4 harg4 arg5 harg5 arg6 harg6 arg7 harg7 arg11 x0 x1 x2 x3 x4 x5 x6 r f
  · funext f w; exact load_whole harg8 x7 _ f w

/-- A store of 256 rows of the result. -/
theorem out_piece (ro : ℕ) (hro : ro + 256 ≤ 512) (z : FVec Ideal S256x1024 .f32) (g : Vec Ideal S1x1024 .f32)
    (hz : ∀ (r : Fin 256) (w : Fin 1024), z (ix2 r w) = fullV x0 x1 x2 x3 x4 x5 x6 x7 ⟨ro + r.val, by omega⟩ w) (hg : ∀ w : Fin 1024, g (ix2 0 w) = x8 (ix2 0 w))
    (inb : ∀ a, (![ro, 0] : Fin 2 → ℕ) a + S256x1024.size a ≤ S512x1024.size a) (x : (Rect.unit (s := S512x1024) ![ro, 0] S256x1024.size inb).shape.Idx) :
    k0_pay22 (F := Ideal) z g x = outV x0 x1 x2 x3 x4 x5 x6 x7 x8 ((Rect.unit (s := S512x1024) ![ro, 0] S256x1024.size inb).emb x) := by
  have hx : x = ix2 (x 0) (x 1) := by
    funext a
    fin_cases a <;> rfl
  have e0 : ((Rect.unit (s := S512x1024) ![ro, 0] S256x1024.size inb).emb x) 0 = (⟨ro + (x 0).val, by have : (x 0).val < 256 := (x 0).isLt; omega⟩ : Fin 512) :=
    Fin.ext (by show ro + 1 * (x 0).val = ro + (x 0).val; omega)
  have e1 : ((Rect.unit (s := S512x1024) ![ro, 0] S256x1024.size inb).emb x) 1 = x 1 := Fin.ext (by show 0 + 1 * (x 1).val = (x 1).val; omega)
  unfold outV
  rw [e0, e1]
  refine (congrArg (k0_pay22 (F := Ideal) z g) hx).trans ((norm_apply z g (x 0) (x 1)).trans ?_)
  congr 1
  · funext w; exact hz (x 0) w
  · funext w; exact hg w

/-- WHAT THE BODY LEAVES in the result's block. -/
theorem out_eq (i : grid0.Coords) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 = outV x0 x1 x2 x3 x4 x5 x6 x7 x8 := by
  unfold out0_A_9
  rw [View.read_writes_junk_eq_canon]
  funext y
  refine Holds.read (G := outV x0 x1 x2 x3 x4 x5 x6 x7 x8) ?_ y (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8 y)
  unfold kernelRun0_A
  refine Holds.cons ?_ (Holds.cons ?_ Holds.nil)
  · exact fun x => out_piece x0 x1 x2 x3 x4 x5 x6 x7 x8 256 (by omega) (sum1 c arg1 harg1 arg2 harg2 arg3 harg3 arg4 harg4 arg5 harg5 arg6 harg6 arg7 harg7 arg8 harg8 arg11 x0 x1 x2 x3 x4 x5 x6 x7)
      (View.readAt (Elt Ideal) arg9.view (Rect.unit (s := S1x1024) ![0, 0] S1x1024.size inb_S1x1024_S1x1024_0_0).toLoadRect (harg9.unread x8))
      (full1 c arg1 harg1 arg2 harg2 arg3 harg3 arg4 harg4 arg5 harg5 arg6 harg6 arg7 harg7 arg8 harg8 arg11 x0 x1 x2 x3 x4 x5 x6 x7) (fun w => load_whole harg9 x8 _ 0 w) inb_S512x1024_S256x1024_256_0 x
  · exact fun x => out_piece x0 x1 x2 x3 x4 x5 x6 x7 x8 0 (by omega) (kernelRun0_A.sl.r_8 (F := Ideal) c arg1 harg1 arg2 harg2 arg3 harg3 arg4 harg4 arg5 harg5 arg6 harg6 arg7 harg7 arg8 harg8 arg11 x0 x1 x2 x3 x4 x5 x6 x7)
      (View.readAt (Elt Ideal) arg9.view (Rect.unit (s := S1x1024) ![0, 0] S1x1024.size inb_S1x1024_S1x1024_0_0).toLoadRect (harg9.unread x8))
      (full0 c arg1 harg1 arg2 harg2 arg3 harg3 arg4 harg4 arg5 harg5 arg6 harg6 arg7 harg7 arg8 harg8 arg11 x0 x1 x2 x3 x4 x5 x6 x7) (fun w => load_whole harg9 x8 _ 0 w) inb_S512x1024_S256x1024_0_0 x

end

end Fox.Back
-- ==== Proof.BackResult.lean ====
module

public import proofs.«01_k».proof.Proof.BackRun

@[expose] public section

noncomputable section

namespace Fox.Back

open Idealize.ShloMosaic Idealize.ShloMosaic.TcCoe Idealize.SL.Sem

section

open Cert.Kernel2Ideal

/-- The row of the result at a batch and a position, from the arguments. -/
def answerRow (x : FVec Ideal S8x4096x1024 .f32) (ya yb : FVec Ideal S8x4096x512 .f32) (wo : FVec Ideal S1024x1024 .f32) (g2 : FVec Ideal S1024 .f32)
    (w1 w3 : FVec Ideal S1024x2816 .f32) (w2 : FVec Ideal S2816x1024 .f32) (gf : FVec Ideal S1024 .f32) (b : Fin 8) (p : Fin 4096) : Fin 1024 → EReal :=
  rowR (fun w => x (ix3 b p w)) (fun k => ya (ix3 b p k)) (fun k => yb (ix3 b p k)) (fun k w => wo (ix2 k w)) (fun w => g2 (ix1 w))
    (fun k f => w1 (ix2 k f)) (fun k f => w3 (ix2 k f)) (fun f w => w2 (ix2 f w)) (fun w => gf (ix1 w))

/-- The batch and the position of a row. -/
def rowB (r : ℕ) (h : r < 32768) : Fin 8 := ⟨r / 4096, by omega⟩
def rowP (r : ℕ) (h : r < 32768) : Fin 4096 := ⟨r % 4096, by omega⟩

/-- The array of the result. -/
def answerA (x : FVec Ideal S8x4096x1024 .f32) (ya yb : FVec Ideal S8x4096x512 .f32) (wo : FVec Ideal S1024x1024 .f32) (g2 : FVec Ideal S1024 .f32)
    (w1 w3 : FVec Ideal S1024x2816 .f32) (w2 : FVec Ideal S2816x1024 .f32) (gf : FVec Ideal S1024 .f32) : FVec Ideal S32768x1024 .f32 :=
  fun j => answerRow x ya yb wo g2 w1 w3 w2 gf (rowB (j 0).val (j 0).isLt) (rowP (j 0).val (j 0).isLt) (j 1)

end

section

open Cert.Kernel2Ideal Cert.Kernel2Ideal.Facts₀ Cert.Kernel2Ideal.Facts

variable (m : (ℓ : Loc nD τ sig) → Buf (Elt Ideal) ℓ) (c : Dev nD)

theorem rows_apply {e : EltTy} (x : Vec Ideal S8x4096x1024 e) (r : Fin 32768) (w : Fin 1024) :
    shapeCast S32768x1024 x shapeCasts_S8x4096x1024_S32768x1024 (ix2 r w) = x (ix3 (rowB r.val r.isLt) (rowP r.val r.isLt) w) := by
  pointwise [rowB, rowP]

theorem half_rows_apply {e : EltTy} (x : Vec Ideal S8x4096x512 e) (r : Fin 32768) (w : Fin 512) :
    shapeCast S32768x512 x shapeCasts_S8x4096x512_S32768x512 (ix2 r w) = x (ix3 (rowB r.val r.isLt) (rowP r.val r.isLt) w) := by
  pointwise [rowB, rowP]

theorem weights_apply (g : FVec Ideal S1024 .f32) (w : Fin 1024) : shapeCast S1x1024 g shapeCasts_S1024_S1x1024 (ix2 0 w) = g (ix1 w) := by
  pointwise

theorem V_x : Gen.V m c main_v0 = shapeCast S32768x1024 (m (c, main_arg0)) shapeCasts_S8x4096x1024_S32768x1024 := by
  entry_read
  rfl
theorem V_ya : Gen.V m c main_v2 = shapeCast S32768x512 (m (c, main_arg1)) shapeCasts_S8x4096x512_S32768x512 := by
  entry_read
  rfl
theorem V_yb : Gen.V m c main_v4 = shapeCast S32768x512 (m (c, main_arg2)) shapeCasts_S8x4096x512_S32768x512 := by
  entry_read
  rfl
theorem V_wo : Gen.V m c main_v5 = m (c, main_arg3) := by
  entry_read
  rfl
theorem V_g2 : Gen.V m c main_v6 = shapeCast S1x1024 (m (c, main_arg4)) shapeCasts_S1024_S1x1024 := by
  entry_read
  rfl
theorem V_w1 : Gen.V m c main_v7 = m (c, main_arg5) := by
  entry_read
  rfl
theorem V_w3 : Gen.V m c main_v8 = m (c, main_arg6) := by
  entry_read
  rfl
theorem V_w2 : Gen.V m c main_v9 = m (c, main_arg7) := by
  entry_read
  rfl
theorem V_gf : Gen.V m c main_v10 = shapeCast S1x1024 (m (c, main_arg8)) shapeCasts_S1024_S1x1024 := by
  entry_read
  rfl

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel

theorem point_lt (t : Fin cfg0.N) : t.val < 64 := t.isLt

/-- The row of the arrays at a point and a row of its block. -/
def rowAt (t : Fin cfg0.N) (r : Fin 512) : Fin 32768 := ⟨t.val * 512 + r.val, by have := point_lt t; omega⟩

theorem blk0 (t : Fin cfg0.N) (r : Fin 512) (w : Fin 1024) : Gen.iblk m c 0 t (ix2 r w) = Gen.V m c main_v0 (ix2 (rowAt t r) w) := by
  unfold rowAt
  blk_ext [Gen.iblk, idx0 t]
theorem blk1 (t : Fin cfg0.N) (r : Fin 512) (w : Fin 512) : Gen.iblk m c 1 t (ix2 r w) = Gen.V m c main_v2 (ix2 (rowAt t r) w) := by
  unfold rowAt
  blk_ext [Gen.iblk, idx1 t]
theorem blk2 (t : Fin cfg0.N) (r : Fin 512) (w : Fin 512) : Gen.iblk m c 2 t (ix2 r w) = Gen.V m c main_v4 (ix2 (rowAt t r) w) := by
  unfold rowAt
  blk_ext [Gen.iblk, idx2 t]
theorem blk3 (t : Fin cfg0.N) (k : Fin 1024) (w : Fin 1024) : Gen.iblk m c 3 t (ix2 k w) = Gen.V m c main_v5 (ix2 k w) := by
  blk_ext [Gen.iblk, idx3 t]
theorem blk4 (t : Fin cfg0.N) (w : Fin 1024) : Gen.iblk m c 4 t (ix2 0 w) = Gen.V m c main_v6 (ix2 (0 : Fin 1) w) := by
  blk_ext [Gen.iblk, idx4 t]
theorem blk5 (t : Fin cfg0.N) (k : Fin 1024) (f : Fin 2816) : Gen.iblk m c 5 t (ix2 k f) = Gen.V m c main_v7 (ix2 k f) := by
  blk_ext [Gen.iblk, idx5 t]
theorem blk6 (t : Fin cfg0.N) (k : Fin 1024) (f : Fin 2816) : Gen.iblk m c 6 t (ix2 k f) = Gen.V m c main_v8 (ix2 k f) := by
  blk_ext [Gen.iblk, idx6 t]
theorem blk7 (t : Fin cfg0.N) (f : Fin 2816) (w : Fin 1024) : Gen.iblk m c 7 t (ix2 f w) = Gen.V m c main_v9 (ix2 f w) := by
  blk_ext [Gen.iblk, idx7 t]
theorem blk8 (t : Fin cfg0.N) (w : Fin 1024) : Gen.iblk m c 8 t (ix2 0 w) = Gen.V m c main_v10 (ix2 (0 : Fin 1) w) := by
  blk_ext [Gen.iblk, idx8 t]

/-- What a point leaves in its block. -/
theorem block_eq (t : Fin cfg0.N) (r : Fin 512) (w : Fin 1024) :
    outV (Gen.iblk m c 0 t) (Gen.iblk m c 1 t) (Gen.iblk m c 2 t) (Gen.iblk m c 3 t) (Gen.iblk m c 4 t) (Gen.iblk m c 5 t) (Gen.iblk m c 6 t) (Gen.iblk m c 7 t)
        (Gen.iblk m c 8 t) (ix2 r w)
      = answerA (m (c, main_arg0)) (m (c, main_arg1)) (m (c, main_arg2)) (m (c, main_arg3)) (m (c, main_arg4)) (m (c, main_arg5)) (m (c, main_arg6)) (m (c, main_arg7))
          (m (c, main_arg8)) (ix2 (rowAt t r) w) := by
  have h0 : (fun w => Gen.iblk m c 0 t (ix2 r w)) = fun w => m (c, main_arg0) (ix3 (rowB (rowAt t r).val (rowAt t r).isLt) (rowP (rowAt t r).val (rowAt t r).isLt) w) := by
    funext w
    refine (blk0 m c t r w).trans ?_
    rw [V_x]
    exact rows_apply _ _ w
  have h1 : (fun w => Gen.iblk m c 1 t (ix2 r w)) = fun w => m (c, main_arg1) (ix3 (rowB (rowAt t r).val (rowAt t r).isLt) (rowP (rowAt t r).val (rowAt t r).isLt) w) := by
    funext w
    refine (blk1 m c t r w).trans ?_
    rw [V_ya]
    exact half_rows_apply _ _ w
  have h2 : (fun w => Gen.iblk m c 2 t (ix2 r w)) = fun w => m (c, main_arg2) (ix3 (rowB (rowAt t r).val (rowAt t r).isLt) (rowP (rowAt t r).val (rowAt t r).isLt) w) := by
    funext w
    refine (blk2 m c t r w).trans ?_
    rw [V_yb]
    exact half_rows_apply _ _ w
  have h3 : (fun k w => Gen.iblk m c 3 t (ix2 k w)) = fun k w => m (c, main_arg3) (ix2 k w) := by
    funext k w
    exact (blk3 m c t k w).trans (congrFun (V_wo m c) _)
  have h4 : (fun w => Gen.iblk m c 4 t (ix2 0 w)) = fun w => m (c, main_arg4) (ix1 w) := by
    funext w
    refine (blk4 m c t w).trans ?_
    rw [V_g2]
    exact weights_apply _ w
  have h5 : (fun k f => Gen.iblk m c 5 t (ix2 k f)) = fun k f => m (c, main_arg5) (ix2 k f) := by
    funext k f
    exact (blk5 m c t k f).trans (congrFun (V_w1 m c) _)
  have h6 : (fun k f => Gen.iblk m c 6 t (ix2 k f)) = fun k f => m (c, main_arg6) (ix2 k f) := by
    funext k f
    exact (blk6 m c t k f).trans (congrFun (V_w3 m c) _)
  have h7 : (fun f w => Gen.iblk m c 7 t (ix2 f w)) = fun f w => m (c, main_arg7) (ix2 f w) := by
    funext f w
    exact (blk7 m c t f w).trans (congrFun (V_w2 m c) _)
  have h8 : (fun w => Gen.iblk m c 8 t (ix2 0 w)) = fun w => m (c, main_arg8) (ix1 w) := by
    funext w
    refine (blk8 m c t w).trans ?_
    rw [V_gf]
    exact weights_apply _ w
  show rowR (fun w => Gen.iblk m c 0 t (ix2 r w)) (fun w => Gen.iblk m c 1 t (ix2 r w)) (fun w => Gen.iblk m c 2 t (ix2 r w)) (fun k w => Gen.iblk m c 3 t (ix2 k w))
      (fun w => Gen.iblk m c 4 t (ix2 0 w)) (fun k f => Gen.iblk m c 5 t (ix2 k f)) (fun k f => Gen.iblk m c 6 t (ix2 k f)) (fun f w => Gen.iblk m c 7 t (ix2 f w))
      (fun w => Gen.iblk m c 8 t (ix2 0 w)) w = _
  rw [h0, h1, h2, h3, h4, h5, h6, h7, h8]
  rfl

/-- What the kernel's result array ends at. -/
theorem result : (Gen.dats m 0 c).arrAt 9 (cfgs 0).N
    = answerA (m (c, main_arg0)) (m (c, main_arg1)) (m (c, main_arg2)) (m (c, main_arg3)) (m (c, main_arg4)) (m (c, main_arg5)) (m (c, main_arg6)) (m (c, main_arg7))
        (m (c, main_arg8)) := by
  refine (Gen.dats m 0 c).arrAt_eq_of_covers 9 _ (by decide +kernel) fun t hfl y => ?_
  have hy : y = ix2 (y 0) (y 1) := by
    funext a
    fin_cases a <;> rfl
  blk_simp
  rw [Gen.after0_9]
  unfold Gen.outsAt0
  rw [out_eq, hy]
  refine (block_eq m c t (y 0) (y 1)).trans (congrArg _ ?_)
  blk_ext [idx9 t, rowAt]

end

end Fox.Back
-- ==== Proof.BackRefer.lean ====
module

public import proofs.«01_k».proof.Proof.BackResult
public import proofs.«01_k».proof.Proof.Gen.Reference2Ideal
public import proofs.«01_k».proof.Proof.Gen.Reference2Ideal.Run
public import Idealize.ShloMosaic.Lib.IdealHost

@[expose] public section

noncomputable section

namespace Fox.Back.Ref

open Idealize.ShloMosaic Idealize.SL.Sem
open Cert.Reference2Ideal Cert.Reference2Ideal.Facts₀ Cert.Reference2Ideal.Facts

variable [Facts]

/-- The residual with the projected mixers' outputs. -/
def mixT (x : FVec Ideal S8x4096x1024 .f32) (ya yb : FVec Ideal S8x4096x512 .f32) (wo : FVec Ideal S1024x1024 .f32) : FVec Ideal S8x4096x1024 .f32 :=
  addf x (Host.dotGeneral dot_S8x4096x1024_S1024x1024_S8x4096x1024_2_0_01_1_n_n none
    (concatenate S8x4096x1024 2 [⟨S8x4096x512, ya⟩, ⟨S8x4096x512, yb⟩] concatenates_S8x4096x512_S8x4096x512_S8x4096x1024_d2) wo)

/-- The root-mean-square norm. -/
def nrmT (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- A product with one of the two first weights. -/
def dotT (h : FVec Ideal S8x4096x1024 .f32) (w : FVec Ideal S1024x2816 .f32) : FVec Ideal S8x4096x2816 .f32 :=
  Host.dotGeneral dot_S8x4096x1024_S1024x2816_S8x4096x2816_2_0_01_1_n_n none h w

/-- The gate. -/
def gateT (a b : FVec Ideal S8x4096x2816 .f32) : FVec Ideal S8x4096x2816 .f32 :=
  mulf (mulf a (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf a))))) b

/-- Half the feed-forward output added. -/
def halfT (x : FVec Ideal S8x4096x1024 .f32) (u : FVec Ideal S8x4096x2816 .f32) (w2 : FVec Ideal S2816x1024 .f32) : FVec Ideal S8x4096x1024 .f32 :=
  addf x (mulf (broadcastInDim S8x4096x1024 ![] bcast_S_S8x4096x1024 (constant S_ .f32 0x3F000000#32))
    (Host.dotGeneral dot_S8x4096x2816_S2816x1024_S8x4096x1024_2_0_01_1_n_n none u w2))

/-- The result with its batches apart. -/
def fullT (x : FVec Ideal S8x4096x1024 .f32) (g2 : FVec Ideal S1024 .f32)
    (w1 w3 : FVec Ideal S1024x2816 .f32) (w2 : FVec Ideal S2816x1024 .f32) (gf : FVec Ideal S1024 .f32) : FVec Ideal S8x4096x1024 .f32 :=
  nrmT (halfT x (gateT (dotT (nrmT x g2) w1) (dotT (nrmT x g2) w3)) w2) gf

theorem mixT_apply (x : FVec Ideal S8x4096x1024 .f32) (ya yb : FVec Ideal S8x4096x512 .f32) (wo : FVec Ideal S1024x1024 .f32) (b : Fin 8) (p : Fin 4096) (w : Fin 1024) :
    mixT x ya yb wo (ix3 b p w) = mixR (fun w => x (ix3 b p w)) (fun k => ya (ix3 b p k)) (fun k => yb (ix3 b p k)) (fun k w => wo (ix2 k w)) w := by
  pointwise [mixT, mixR]

theorem nrmT_apply (x : FVec Ideal S8x4096x1024 .f32) (g : FVec Ideal S1024 .f32) (b : Fin 8) (p : Fin 4096) (w : Fin 1024) :
    nrmT x g (ix3 b p w) = normR (fun w => x (ix3 b p w)) (fun w => g (ix1 w)) w := by
  pointwise [nrmT, normR]

theorem dotT_apply (h : FVec Ideal S8x4096x1024 .f32) (w : FVec Ideal S1024x2816 .f32) (b : Fin 8) (p : Fin 4096) (f : Fin 2816) :
    dotT h w (ix3 b p f) = ∑ k : Fin 1024, h (ix3 b p k) * w (ix2 k f) := by
  pointwise [dotT]

theorem gateT_apply (a c : FVec Ideal S8x4096x2816 .f32) (b : Fin 8) (p : Fin 4096) (f : Fin 2816) :
    gateT a c (ix3 b p f) = a (ix3 b p f) * Ideal.logistic (a (ix3 b p f)) * c (ix3 b p f) := by
  pointwise [gateT]
  rfl

theorem halfT_apply (x : FVec Ideal S8x4096x1024 .f32) (u : FVec Ideal S8x4096x2816 .f32) (w2 : FVec Ideal S2816x1024 .f32) (b : Fin 8) (p : Fin 4096) (w : Fin 1024) :
    halfT x u w2 (ix3 b p w) = halfR (fun w => x (ix3 b p w)) (fun f => u (ix3 b p f)) (fun f w => w2 (ix2 f w)) w := by
  pointwise [halfT, halfR]

theorem flat_apply (x : FVec Ideal S8x4096x1024 .f32) (r : Fin 32768) (w : Fin 1024) :
    shapeCast S32768x1024 x shapeCasts_S8x4096x1024_S32768x1024 (ix2 r w) = x (ix3 (rowB r.val r.isLt) (rowP r.val r.isLt) w) := by
  pointwise [rowB, rowP]

theorem fullT_apply (x : FVec Ideal S8x4096x1024 .f32) (ya yb : FVec Ideal S8x4096x512 .f32) (wo : FVec Ideal S1024x1024 .f32) (g2 : FVec Ideal S1024 .f32)
    (w1 w3 : FVec Ideal S1024x2816 .f32) (w2 : FVec Ideal S2816x1024 .f32) (gf : FVec Ideal S1024 .f32) (b : Fin 8) (p : Fin 4096) (w : Fin 1024) :
    fullT (mixT x ya yb wo) g2 w1 w3 w2 gf (ix3 b p w) = answerRow x ya yb wo g2 w1 w3 w2 gf b p w := by
  unfold fullT answerRow rowR
  rw [nrmT_apply]
  congr 1
  funext w
  rw [halfT_apply]
  have hm : (fun w => mixT x ya yb wo (ix3 b p w)) = mixR (fun w => x (ix3 b p w)) (fun k => ya (ix3 b p k)) (fun k => yb (ix3 b p k)) (fun k w => wo (ix2 k w)) := by
    funext w
    exact mixT_apply x ya yb wo b p w
  rw [hm]
  congr 1
  funext f
  rw [gateT_apply, dotT_apply, dotT_apply]
  simp only [nrmT_apply, hm]
  rfl

/-- The reference's result. -/
theorem ref_eq (x : FVec Ideal S8x4096x1024 .f32) (ya yb : FVec Ideal S8x4096x512 .f32) (wo : FVec Ideal S1024x1024 .f32) (g2 : FVec Ideal S1024 .f32)
    (w1 w3 : FVec Ideal S1024x2816 .f32) (w2 : FVec Ideal S2816x1024 .f32) (gf : FVec Ideal S1024 .f32) :
    shapeCast S32768x1024 (fullT (mixT x ya yb wo) g2 w1 w3 w2 gf) shapeCasts_S8x4096x1024_S32768x1024 = answerA x ya yb wo g2 w1 w3 w2 gf := by
  suffices h : ∀ (r : Fin 32768) (w : Fin 1024), shapeCast S32768x1024 (fullT (mixT x ya yb wo) g2 w1 w3 w2 gf) shapeCasts_S8x4096x1024_S32768x1024 (ix2 r w)
      = answerA x ya yb wo g2 w1 w3 w2 gf (ix2 r w) by
    funext j
    have hj : j = ix2 (j 0) (j 1) := by
      funext a
      fin_cases a <;> rfl
    rw [hj]
    exact h (j 0) (j 1)
  intro r w
  rw [flat_apply]
  exact fullT_apply x ya yb wo g2 w1 w3 w2 gf _ _ w

/-- The reference's program computes it. -/
theorem res_eq (m : (ℓ : Loc nD τ sig) → Buf (Elt Ideal) ℓ) (c : Dev nD) :
    Value.res_main_v37 m c = shapeCast S32768x1024 (fullT (mixT (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8))) shapeCasts_S8x4096x1024_S32768x1024 := by
  unfold Value.res_main_v37
  rfl

end Fox.Back.Ref
-- ==== Proof.BackAlgebraic.lean ====
module

public import proofs.«01_k».proof.Proof.BackRefer
public import proofs.«01_k».proof.Defs

@[expose] public section

noncomputable section

namespace Fox.Back

open Idealize.ShloMosaic Idealize.ShloMosaic.TcCoe Idealize.SL.Sem

/-- What both programs leave at the result, from the arguments the kernel starts with. -/
def answer (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S32768x1024 .f32 :=
  answerA (m (c, Cert.Kernel2Ideal.main_arg0)) (m (c, Cert.Kernel2Ideal.main_arg1)) (m (c, Cert.Kernel2Ideal.main_arg2)) (m (c, Cert.Kernel2Ideal.main_arg3))
    (m (c, Cert.Kernel2Ideal.main_arg4)) (m (c, Cert.Kernel2Ideal.main_arg5)) (m (c, Cert.Kernel2Ideal.main_arg6)) (m (c, Cert.Kernel2Ideal.main_arg7))
    (m (c, Cert.Kernel2Ideal.main_arg8))

theorem algebraic : Cert.algebraic_Kernel2Ideal_Reference2Ideal := by
  intro m g m' g' _ hargs
  refine ⟨answer m, ?_, ?_⟩
  · exact (θ_run Cert.Kernel2Ideal.defs _ _).mono (fun r h c => ⟨(h c).1.trans (result m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨a0, a1, a2, a3, a4, a5, a6, a7, a8⟩ := hargs c
    refine (Ref.res_eq m' c).trans ?_
    rw [a0, a1, a2, a3, a4, a5, a6, a7, a8]
    exact Ref.ref_eq _ _ _ _ _ _ _ _ _

end Fox.Back
-- ==== Proof.FrontReset.lean ====
module

public import proofs.«01_k».proof.Proof.Gen.Kernel3Ideal.Skeleton
public import proofs.«01_k».proof.Proof.Gen.Kernel3Ideal.Frame
public import Idealize.ShloMosaic.Lib.Tactic

@[expose] public section

set_option maxRecDepth 16384

noncomputable section

namespace Fox.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- A whole buffer held at the contents that read `X` is owned at `X`. -/
theorem owned {s : Shape} {e : EltTy} (c : Dev nD) {a : Memref sig .tc .vmem s e} (h : a.IsWhole) (X : Vec F s e) :
    (a.view.loc (c : Thread nD τ) ↦[a.view.set]{fullShare} h.unread X : sProp 𝕄) ⊢ iprop(∃ f, ⌜View.read (Elt F) a.view f = X⌝ ∗ (a.view.loc (c : Thread nD τ) ↦[a.view.set]{fullShare} f)) := by
  iintro H
  iexists _
  isplitr
  · ipureintro; exact h.read_unread _
  · iexact H

/-- A buffer held at anything is owned at something. -/
theorem held {s : Shape} {e : EltTy} (c : Dev nD) (a : Memref sig .tc .vmem s e) (f : Buf (Elt F) (a.view.loc (c : Thread nD τ))) :
    (a.view.loc (c : Thread nD τ) ↦[a.view.set]{fullShare} f : sProp 𝕄) ⊢ iprop(∃ d, owns (c : Thread nD τ) a fullShare d) := by
  unfold owns
  iintro H
  iexists _, _
  isplitr
  swap
  · iexact H
  · ipureintro; rfl

variable (c : Dev nD) (i : grid0.Coords)
  (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole)
  (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole)
  (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
  (arg10 : Memref sig .tc .vmem S1040x1024 .bf16) (harg10 : arg10.IsWhole) (arg11 : Memref sig .tc .vmem S16x1 .f32) (harg11 : arg11.IsWhole) (arg12 : Memref sig .tc .vmem S1x512 .f32) (harg12 : arg12.IsWhole)
  (arg13 : Memref sig .tc .vmem S1x512 .f32) (harg13 : arg13.IsWhole) (arg14 : Memref sig .tc .vmem S4x256x128 .bf16) (harg14 : arg14.IsWhole) (arg15 : Memref sig .tc .vmem S128x512 .f32) (harg15 : arg15.IsWhole)
  (arg16 : Memref sig .tc .vmem S1x512 .f32) (harg16 : arg16.IsWhole) (arg17 : Memref sig .tc .vmem S256x256 .bf16) (harg17 : arg17.IsWhole) (arg18 : Memref sig .tc .vmem S16x2816 .f32) (harg18 : arg18.IsWhole)
  (arg19 : Memref sig .tc .vmem S16x2816 .f32) (harg19 : arg19.IsWhole) (arg20 : Memref sig .tc .vmem S16x1024 .f32) (harg20 : arg20.IsWhole) (arg21 : Memref sig .tc .vmem S512x1024 .f32) (harg21 : arg21.IsWhole)
  (arg22 : Memref sig .tc .vmem S512x512 .bf16) (harg22 : arg22.IsWhole) (arg23 : Memref sig .tc .vmem S512x512 .bf16) (harg23 : arg23.IsWhole) (arg24 : Memref sig .tc .vmem S512x128 .bf16) (harg24 : arg24.IsWhole)
  (arg25 : Memref sig .tc .vmem S1x512x512 .bf16) (harg25 : arg25.IsWhole) (arg26 : Memref sig .tc .vmem S2x512x256 .bf16) (harg26 : arg26.IsWhole) (arg27 : Memref sig .tc .vmem S16x2816 .bf16) (harg27 : arg27.IsWhole)
  (arg28 : Memref sig .tc .vmem S16x2816 .bf16) (harg28 : arg28.IsWhole) (arg29 : Memref sig .tc .vmem S16x1024 .bf16) (harg29 : arg29.IsWhole) (arg30 : Memref sig .tc .vmem S512x2816 .bf16) (harg30 : arg30.IsWhole)
  (arg31 : Memref sig .tc .vmem S512x512 .f32) (harg31 : arg31.IsWhole) (arg32 : Memref sig .tc .vmem S16x1 .f32) (harg32 : arg32.IsWhole) (arg33 : Memref sig .tc .vmem S512x1024 .f32) (harg33 : arg33.IsWhole)
  (arg34 : Memref sig .tc .vmem S16x512 .f32) (harg34 : arg34.IsWhole)

/-- The body's beginning clears what it carries from one point to the next, at some points; whether or not it does, the rest runs from
these buffers at something. -/
theorem reset (E : Set ℕ) (K : PUnit → sProp 𝕄)
    (κ : (Σ' (arg0 : BitVec 32) (v14 : IVec S256x128 32) (v38 : IVec S256x128 32) (c64_i32_11 : BitVec 32), IVec S256x128 32) →
      Prog (TpuEff nD τ sig (Elt F) Λ₀ .tc) PUnit) (f2 : Buf (Elt F) (arg32.view.loc (c : Thread nD τ)))
    (f3 : Buf (Elt F) (arg33.view.loc (c : Thread nD τ))) (f4 : Buf (Elt F) (arg34.view.loc (c : Thread nD τ))) :
    iprop((arg32.view.loc (c : Thread nD τ) ↦[arg32.view.set]{fullShare} f2) ∗ (arg33.view.loc (c : Thread nD τ) ↦[arg33.view.set]{fullShare} f3)
        ∗ (arg34.view.loc (c : Thread nD τ) ↦[arg34.view.set]{fullShare} f4))
      ⊢ iprop((∀ v14 : IVec S256x128 32, ∀ g2 : Buf (Elt F) (arg32.view.loc (c : Thread nD τ)), ∀ g3 : Buf (Elt F) (arg33.view.loc (c : Thread nD τ)),
          ∀ g4 : Buf (Elt F) (arg34.view.loc (c : Thread nD τ)),
          iprop((arg32.view.loc (c : Thread nD τ) ↦[arg32.view.set]{fullShare} g2) ∗ (arg33.view.loc (c : Thread nD τ) ↦[arg33.view.set]{fullShare} g3)
            ∗ (arg34.view.loc (c : Thread nD τ) ↦[arg34.view.set]{fullShare} g4))
          -∗ wp frame (wpE (defs₀ (F := F)) Variants.none c none) E
            (κ ⟨BitVec.ofNat 32 (i 0).val, v14, k0_pay181, 64#32, k0_pay182⟩) K)
        -∗ wp frame (wpE (defs₀ (F := F)) Variants.none c none) E
          (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 >>= κ) K) := by
  simp only [k0_part44_eq_skeleton]
  unfold k0_part44_skel
  by_cases h0 : Scalar.cmpi .ne (Scalar.extui (Scalar.cmpi .eq (BitVec.ofNat 32 (i 0).val) 0#32)) 0#32 = 1#1 <;>
  by_cases h1 : Scalar.cmpi .ne (Scalar.extui (Scalar.ori (Scalar.cmpi .eq (BitVec.ofNat 32 (i 0).val) 0#32)
      (Scalar.cmpi .eq (Scalar.remsi (Scalar.subi (Scalar.addi (BitVec.ofNat 32 (i 0).val) 8#32) 1#32) 8#32) 0#32))) 0#32 = 1#1 <;>
  · iintro ⟨H2, H3, H4⟩
    iintro Hk
    sl_exec (disch := first | sl_exact h0 | sl_exact h1)
    iapply Hk
    isplitl [H2]
    · iexact H2
    isplitl [H3]
    · iexact H3
    · iexact H4

end Fox.Front
-- ==== Proof.FrontRun.lean ====
module

public import proofs.«01_k».proof.Proof.FrontReset

@[expose] public section

set_option maxRecDepth 16384

noncomputable section

namespace Fox.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole)
  (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole)
  (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
  (arg10 : Memref sig .tc .vmem S1040x1024 .bf16) (harg10 : arg10.IsWhole) (arg11 : Memref sig .tc .vmem S16x1 .f32) (harg11 : arg11.IsWhole) (arg12 : Memref sig .tc .vmem S1x512 .f32) (harg12 : arg12.IsWhole)
  (arg13 : Memref sig .tc .vmem S1x512 .f32) (harg13 : arg13.IsWhole) (arg14 : Memref sig .tc .vmem S4x256x128 .bf16) (harg14 : arg14.IsWhole) (arg15 : Memref sig .tc .vmem S128x512 .f32) (harg15 : arg15.IsWhole)
  (arg16 : Memref sig .tc .vmem S1x512 .f32) (harg16 : arg16.IsWhole) (arg17 : Memref sig .tc .vmem S256x256 .bf16) (harg17 : arg17.IsWhole) (arg18 : Memref sig .tc .vmem S16x2816 .f32) (harg18 : arg18.IsWhole)
  (arg19 : Memref sig .tc .vmem S16x2816 .f32) (harg19 : arg19.IsWhole) (arg20 : Memref sig .tc .vmem S16x1024 .f32) (harg20 : arg20.IsWhole) (arg21 : Memref sig .tc .vmem S512x1024 .f32) (harg21 : arg21.IsWhole)
  (arg22 : Memref sig .tc .vmem S512x512 .bf16) (harg22 : arg22.IsWhole) (arg23 : Memref sig .tc .vmem S512x512 .bf16) (harg23 : arg23.IsWhole) (arg24 : Memref sig .tc .vmem S512x128 .bf16) (harg24 : arg24.IsWhole)
  (arg25 : Memref sig .tc .vmem S1x512x512 .bf16) (harg25 : arg25.IsWhole) (arg26 : Memref sig .tc .vmem S2x512x256 .bf16) (harg26 : arg26.IsWhole) (arg27 : Memref sig .tc .vmem S16x2816 .bf16) (harg27 : arg27.IsWhole)
  (arg28 : Memref sig .tc .vmem S16x2816 .bf16) (harg28 : arg28.IsWhole) (arg29 : Memref sig .tc .vmem S16x1024 .bf16) (harg29 : arg29.IsWhole) (arg30 : Memref sig .tc .vmem S512x2816 .bf16) (harg30 : arg30.IsWhole)
  (arg31 : Memref sig .tc .vmem S512x512 .f32) (harg31 : arg31.IsWhole) (arg32 : Memref sig .tc .vmem S16x1 .f32) (harg32 : arg32.IsWhole) (arg33 : Memref sig .tc .vmem S512x1024 .f32) (harg33 : arg33.IsWhole)
  (arg34 : Memref sig .tc .vmem S16x512 .f32) (harg34 : arg34.IsWhole)
  (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x512 .bf16)
  (x7 : Vec F S1024x512 .bf16) (x8 : Vec F S1024x512 .bf16) (x9 : Vec F S1040x1024 .bf16) (x10 : Vec F S16x1 .f32) (x11 : Vec F S1x512 .f32) (x12 : Vec F S1x512 .f32) (x13 : Vec F S4x256x128 .bf16)
  (x14 : Vec F S128x512 .f32) (x15 : Vec F S1x512 .f32) (x16 : Vec F S256x256 .bf16) (x17 : Vec F S16x2816 .f32) (x18 : Vec F S16x2816 .f32) (x19 : Vec F S16x1024 .f32)

set_option maxHeartbeats 4000000 in
/-- What one point before the last leaves in the four claimed results, as stores (last first), with the proof that the body runs: from
the inputs at their contents and the other buffers at anything, it leaves the inputs as they were, the four results with these stores, and the
other buffers at something. -/
def mainRun (hc2 : k0_cond3 i = 1#1) (hc3 : ¬k0_cond4 i = 1#1) :
    Σ' (L20 : List (View.Piece (Elt F) S512x1024 .f32)), Σ' (L22 : List (View.Piece (Elt F) S512x512 .bf16)), Σ' (L24 : List (View.Piece (Elt F) S1x512x512 .bf16)), { L25 : List (View.Piece (Elt F) S2x512x256 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare x17
            ∗ owns (c : Thread nD τ) arg19 fullShare x18
            ∗ owns (c : Thread nD τ) arg20 fullShare x19
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (∃ d, owns (c : Thread nD τ) arg28 fullShare d)
            ∗ (∃ d, owns (c : Thread nD τ) arg29 fullShare d)
            ∗ (∃ d, owns (c : Thread nD τ) arg30 fullShare d)
            ∗ (∃ d, owns (c : Thread nD τ) arg31 fullShare d)
            ∗ (∃ d, owns (c : Thread nD τ) arg32 fullShare d)
            ∗ (∃ d, owns (c : Thread nD τ) arg33 fullShare d)
            ∗ (∃ d, owns (c : Thread nD τ) arg34 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare x17
            ∗ owns (c : Thread nD τ) arg19 fullShare x18
            ∗ owns (c : Thread nD τ) arg20 fullShare x19
            ∗ (∃ f, arg21.view.loc (c : Thread nD τ) ↦[arg21.view.set]{fullShare} arg21.view.writes (Elt F) f L20)
            ∗ (∃ d, owns (c : Thread nD τ) arg22 fullShare d)
            ∗ (∃ f, arg23.view.loc (c : Thread nD τ) ↦[arg23.view.set]{fullShare} arg23.view.writes (Elt F) f L22)
            ∗ (∃ d, owns (c : Thread nD τ) arg24 fullShare d)
            ∗ (∃ f, arg25.view.loc (c : Thread nD τ) ↦[arg25.view.set]{fullShare} arg25.view.writes (Elt F) f L24)
            ∗ (∃ f, arg26.view.loc (c : Thread nD τ) ↦[arg26.view.set]{fullShare} arg26.view.writes (Elt F) f L25)
            ∗ (∃ d, owns (c : Thread nD τ) arg27 fullShare d)
            ∗ (∃ d, owns (c : Thread nD τ) arg28 fullShare d)
            ∗ (∃ d, owns (c : Thread nD τ) arg29 fullShare d)
            ∗ (∃ d, owns (c : Thread nD τ) arg30 fullShare d)
            ∗ (∃ d, owns (c : Thread nD τ) arg31 fullShare d)
            ∗ (∃ d, owns (c : Thread nD τ) arg32 fullShare d)
            ∗ (∃ d, owns (c : Thread nD τ) arg33 fullShare d)
            ∗ (∃ d, owns (c : Thread nD τ) arg34 fullShare d)) -∗ K PUnit.unit))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton, k0_part13_eq_skeleton, k0_part14_eq_skeleton, k0_part15_eq_skeleton, k0_part16_eq_skeleton,
      k0_part17_eq_skeleton, k0_part18_eq_skeleton, k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    iapply (reset c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 E) $$ [H32 H33 H34]
    · isplitl [H32]
      · iexact H32
      isplitl [H33]
      · iexact H33
      · iexact H34
    iintro %v14 %g2 %g3 %g4 ⟨H32, H33, H34⟩
    sl_exec (disch := first | sl_exact hc2 | sl_exact hc3)
    sl_step
    iapply Hk
    isplitl [H1]
    · iapply (owned c harg1 _) $$ H1
    isplitl [H2]
    · iapply (owned c harg2 _) $$ H2
    isplitl [H3]
    · iapply (owned c harg3 _) $$ H3
    isplitl [H4]
    · iapply (owned c harg4 _) $$ H4
    isplitl [H5]
    · iapply (owned c harg5 _) $$ H5
    isplitl [H6]
    · iapply (owned c harg6 _) $$ H6
    isplitl [H7]
    · iapply (owned c harg7 _) $$ H7
    isplitl [H8]
    · iapply (owned c harg8 _) $$ H8
    isplitl [H9]
    · iapply (owned c harg9 _) $$ H9
    isplitl [H10]
    · iapply (owned c harg10 _) $$ H10
    isplitl [H11]
    · iapply (owned c harg11 _) $$ H11
    isplitl [H12]
    · iapply (owned c harg12 _) $$ H12
    isplitl [H13]
    · iapply (owned c harg13 _) $$ H13
    isplitl [H14]
    · iapply (owned c harg14 _) $$ H14
    isplitl [H15]
    · iapply (owned c harg15 _) $$ H15
    isplitl [H16]
    · iapply (owned c harg16 _) $$ H16
    isplitl [H17]
    · iapply (owned c harg17 _) $$ H17
    isplitl [H18]
    · iapply (owned c harg18 _) $$ H18
    isplitl [H19]
    · iapply (owned c harg19 _) $$ H19
    isplitl [H20]
    · iapply (owned c harg20 _) $$ H20
    isplitl [H21]
    · iexists _; iexact H21
    isplitl [H22]
    · iapply (held c arg22 _) $$ H22
    isplitl [H23]
    · iexists _; iexact H23
    isplitl [H24]
    · iapply (held c arg24 _) $$ H24
    isplitl [H25]
    · iexists _; iexact H25
    isplitl [H26]
    · iexists _; iexact H26
    isplitl [H27]
    · iapply (held c arg27 _) $$ H27
    isplitl [H28]
    · iapply (held c arg28 _) $$ H28
    isplitl [H29]
    · iapply (held c arg29 _) $$ H29
    isplitl [H30]
    · iapply (held c arg30 _) $$ H30
    isplitl [H31]
    · iapply (held c arg31 _) $$ H31
    isplitl [H32]
    · iapply (held c arg32 _) $$ H32
    isplitl [H33]
    · iapply (held c arg33 _) $$ H33
    · iapply (held c arg34 _) $$ H34

end Fox.Front
-- ==== Proof.FrontLast.lean ====
module

public import proofs.«01_k».proof.Proof.FrontReset

@[expose] public section

set_option maxRecDepth 16384

noncomputable section

namespace Fox.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole)
  (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole)
  (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
  (arg10 : Memref sig .tc .vmem S1040x1024 .bf16) (harg10 : arg10.IsWhole) (arg11 : Memref sig .tc .vmem S16x1 .f32) (harg11 : arg11.IsWhole) (arg12 : Memref sig .tc .vmem S1x512 .f32) (harg12 : arg12.IsWhole)
  (arg13 : Memref sig .tc .vmem S1x512 .f32) (harg13 : arg13.IsWhole) (arg14 : Memref sig .tc .vmem S4x256x128 .bf16) (harg14 : arg14.IsWhole) (arg15 : Memref sig .tc .vmem S128x512 .f32) (harg15 : arg15.IsWhole)
  (arg16 : Memref sig .tc .vmem S1x512 .f32) (harg16 : arg16.IsWhole) (arg17 : Memref sig .tc .vmem S256x256 .bf16) (harg17 : arg17.IsWhole) (arg18 : Memref sig .tc .vmem S16x2816 .f32) (harg18 : arg18.IsWhole)
  (arg19 : Memref sig .tc .vmem S16x2816 .f32) (harg19 : arg19.IsWhole) (arg20 : Memref sig .tc .vmem S16x1024 .f32) (harg20 : arg20.IsWhole) (arg21 : Memref sig .tc .vmem S512x1024 .f32) (harg21 : arg21.IsWhole)
  (arg22 : Memref sig .tc .vmem S512x512 .bf16) (harg22 : arg22.IsWhole) (arg23 : Memref sig .tc .vmem S512x512 .bf16) (harg23 : arg23.IsWhole) (arg24 : Memref sig .tc .vmem S512x128 .bf16) (harg24 : arg24.IsWhole)
  (arg25 : Memref sig .tc .vmem S1x512x512 .bf16) (harg25 : arg25.IsWhole) (arg26 : Memref sig .tc .vmem S2x512x256 .bf16) (harg26 : arg26.IsWhole) (arg27 : Memref sig .tc .vmem S16x2816 .bf16) (harg27 : arg27.IsWhole)
  (arg28 : Memref sig .tc .vmem S16x2816 .bf16) (harg28 : arg28.IsWhole) (arg29 : Memref sig .tc .vmem S16x1024 .bf16) (harg29 : arg29.IsWhole) (arg30 : Memref sig .tc .vmem S512x2816 .bf16) (harg30 : arg30.IsWhole)
  (arg31 : Memref sig .tc .vmem S512x512 .f32) (harg31 : arg31.IsWhole) (arg32 : Memref sig .tc .vmem S16x1 .f32) (harg32 : arg32.IsWhole) (arg33 : Memref sig .tc .vmem S512x1024 .f32) (harg33 : arg33.IsWhole)
  (arg34 : Memref sig .tc .vmem S16x512 .f32) (harg34 : arg34.IsWhole)
  (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x512 .bf16)
  (x7 : Vec F S1024x512 .bf16) (x8 : Vec F S1024x512 .bf16) (x9 : Vec F S1040x1024 .bf16) (x10 : Vec F S16x1 .f32) (x11 : Vec F S1x512 .f32) (x12 : Vec F S1x512 .f32) (x13 : Vec F S4x256x128 .bf16)
  (x14 : Vec F S128x512 .f32) (x15 : Vec F S1x512 .f32) (x16 : Vec F S256x256 .bf16) (x17 : Vec F S16x2816 .f32) (x18 : Vec F S16x2816 .f32) (x19 : Vec F S16x1024 .f32)

set_option maxHeartbeats 4000000 in
/-- The last point only mixes the tile before it: it runs from the inputs at their contents and leaves them and the four claimed results as they were. -/
theorem lastRun (hc2 : ¬k0_cond3 i = 1#1) (hc3 : k0_cond4 i = 1#1)
    (E : Set ℕ) (K : PUnit → sProp 𝕄) (d20 : Vec F S512x1024 .f32) (d22 : Vec F S512x512 .bf16) (d24 : Vec F S1x512x512 .bf16) (d25 : Vec F S2x512x256 .bf16) :
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare x17
            ∗ owns (c : Thread nD τ) arg19 fullShare x18
            ∗ owns (c : Thread nD τ) arg20 fullShare x19
            ∗ owns (c : Thread nD τ) arg21 fullShare d20
            ∗ (∃ d, owns (c : Thread nD τ) arg22 fullShare d)
            ∗ owns (c : Thread nD τ) arg23 fullShare d22
            ∗ (∃ d, owns (c : Thread nD τ) arg24 fullShare d)
            ∗ owns (c : Thread nD τ) arg25 fullShare d24
            ∗ owns (c : Thread nD τ) arg26 fullShare d25
            ∗ (∃ d, owns (c : Thread nD τ) arg27 fullShare d)
            ∗ (∃ d, owns (c : Thread nD τ) arg28 fullShare d)
            ∗ (∃ d, owns (c : Thread nD τ) arg29 fullShare d)
            ∗ (∃ d, owns (c : Thread nD τ) arg30 fullShare d)
            ∗ (∃ d, owns (c : Thread nD τ) arg31 fullShare d)
            ∗ (∃ d, owns (c : Thread nD τ) arg32 fullShare d)
            ∗ (∃ d, owns (c : Thread nD τ) arg33 fullShare d)
            ∗ (∃ d, owns (c : Thread nD τ) arg34 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare x17
            ∗ owns (c : Thread nD τ) arg19 fullShare x18
            ∗ owns (c : Thread nD τ) arg20 fullShare x19
            ∗ owns (c : Thread nD τ) arg21 fullShare d20
            ∗ (∃ d, owns (c : Thread nD τ) arg22 fullShare d)
            ∗ owns (c : Thread nD τ) arg23 fullShare d22
            ∗ (∃ d, owns (c : Thread nD τ) arg24 fullShare d)
            ∗ owns (c : Thread nD τ) arg25 fullShare d24
            ∗ owns (c : Thread nD τ) arg26 fullShare d25
            ∗ (∃ d, owns (c : Thread nD τ) arg27 fullShare d)
            ∗ (∃ d, owns (c : Thread nD τ) arg28 fullShare d)
            ∗ (∃ d, owns (c : Thread nD τ) arg29 fullShare d)
            ∗ (∃ d, owns (c : Thread nD τ) arg30 fullShare d)
            ∗ (∃ d, owns (c : Thread nD τ) arg31 fullShare d)
            ∗ (∃ d, owns (c : Thread nD τ) arg32 fullShare d)
            ∗ (∃ d, owns (c : Thread nD τ) arg33 fullShare d)
            ∗ (∃ d, owns (c : Thread nD τ) arg34 fullShare d)) -∗ K PUnit.unit))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_front_eq_skeleton]; unfold cc0_front_skel
  simp only [k0_part30_eq_skeleton, k0_part31_eq_skeleton, k0_part32_eq_skeleton, k0_part33_eq_skeleton, k0_part34_eq_skeleton, k0_part35_eq_skeleton, k0_part36_eq_skeleton, k0_part37_eq_skeleton,
    k0_part38_eq_skeleton, k0_part39_eq_skeleton, k0_part40_eq_skeleton, k0_part41_eq_skeleton, k0_part42_eq_skeleton, k0_part43_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, ⟨%d24, %f24, -, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg23.eq_unread hf23; obtain rfl := harg25.eq_unread hf25; obtain rfl := harg26.eq_unread hf26
  iapply (reset c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 E) $$ [H32 H33 H34]
  · isplitl [H32]
    · iexact H32
    isplitl [H33]
    · iexact H33
    · iexact H34
  iintro %v14 %g2 %g3 %g4 ⟨H32, H33, H34⟩
  sl_exec (disch := first | sl_exact hc2 | sl_exact hc3)
  sl_step
  iapply Hk
  isplitl [H1]
  · iapply (owned c harg1 _) $$ H1
  isplitl [H2]
  · iapply (owned c harg2 _) $$ H2
  isplitl [H3]
  · iapply (owned c harg3 _) $$ H3
  isplitl [H4]
  · iapply (owned c harg4 _) $$ H4
  isplitl [H5]
  · iapply (owned c harg5 _) $$ H5
  isplitl [H6]
  · iapply (owned c harg6 _) $$ H6
  isplitl [H7]
  · iapply (owned c harg7 _) $$ H7
  isplitl [H8]
  · iapply (owned c harg8 _) $$ H8
  isplitl [H9]
  · iapply (owned c harg9 _) $$ H9
  isplitl [H10]
  · iapply (owned c harg10 _) $$ H10
  isplitl [H11]
  · iapply (owned c harg11 _) $$ H11
  isplitl [H12]
  · iapply (owned c harg12 _) $$ H12
  isplitl [H13]
  · iapply (owned c harg13 _) $$ H13
  isplitl [H14]
  · iapply (owned c harg14 _) $$ H14
  isplitl [H15]
  · iapply (owned c harg15 _) $$ H15
  isplitl [H16]
  · iapply (owned c harg16 _) $$ H16
  isplitl [H17]
  · iapply (owned c harg17 _) $$ H17
  isplitl [H18]
  · iapply (owned c harg18 _) $$ H18
  isplitl [H19]
  · iapply (owned c harg19 _) $$ H19
  isplitl [H20]
  · iapply (owned c harg20 _) $$ H20
  isplitl [H21]
  · iapply (owned c harg21 _) $$ H21
  isplitl [H22]
  · iapply (held c arg22 _) $$ H22
  isplitl [H23]
  · iapply (owned c harg23 _) $$ H23
  isplitl [H24]
  · iapply (held c arg24 _) $$ H24
  isplitl [H25]
  · iapply (owned c harg25 _) $$ H25
  isplitl [H26]
  · iapply (owned c harg26 _) $$ H26
  isplitl [H27]
  · iapply (held c arg27 _) $$ H27
  isplitl [H28]
  · iapply (held c arg28 _) $$ H28
  isplitl [H29]
  · iapply (held c arg29 _) $$ H29
  isplitl [H30]
  · iapply (held c arg30 _) $$ H30
  isplitl [H31]
  · iapply (held c arg31 _) $$ H31
  isplitl [H32]
  · iapply (held c arg32 _) $$ H32
  isplitl [H33]
  · iapply (held c arg33 _) $$ H33
  · iapply (held c arg34 _) $$ H34

end Fox.Front
-- ==== Proof.FrontBody.lean ====
module

public import proofs.«01_k».proof.Proof.FrontRun
public import proofs.«01_k».proof.Proof.FrontLast

@[expose] public section

set_option maxRecDepth 16384

noncomputable section

namespace Fox.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## Which branch a point takes -/

theorem main_of : ∀ t : Fin cfg0.N, t.val < 64 → k0_cond3 (grid0.coords t) = 1#1 := by decide +kernel
theorem main_of_not : ∀ t : Fin cfg0.N, t.val < 64 → ¬k0_cond4 (grid0.coords t) = 1#1 := by decide +kernel
theorem last_of : ∀ t : Fin cfg0.N, ¬t.val < 64 → k0_cond4 (grid0.coords t) = 1#1 := by decide +kernel
theorem last_of_not : ∀ t : Fin cfg0.N, ¬t.val < 64 → ¬k0_cond3 (grid0.coords t) = 1#1 := by decide +kernel

/-! ## What the points leave -/

/-- The run of a point before the last, at the staging buffers and the input blocks of the point. -/
def runAt (t : Fin cfg0.N) (ht : t.val < 64) :=
  mainRun (F := F) c (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t 15)) (hstage0_15 ((cfg0.slots t 15).cast nbuf0_15))
    (win0_16.stage (cfg0.slots t 16)) (hstage0_16 ((cfg0.slots t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t 19)) (hstage0_19 ((cfg0.slots t 19).cast nbuf0_19))
    (win0_20.stage (cfg0.slots t 20)) (hstage0_20 ((cfg0.slots t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t 23)) (hstage0_23 ((cfg0.slots t 23).cast nbuf0_23))
    (win0_24.stage (cfg0.slots t 24)) (hstage0_24 ((cfg0.slots t 24).cast nbuf0_24)) (win0_25.stage (cfg0.slots t 25)) (hstage0_25 ((cfg0.slots t 25).cast nbuf0_25))
    (win0_26.stage (cfg0.slots t 26)) (hstage0_26 ((cfg0.slots t 26).cast nbuf0_26)) (win0_27.stage (cfg0.slots t 27)) (hstage0_27 ((cfg0.slots t 27).cast nbuf0_27))
    (win0_28.stage (cfg0.slots t 28)) (hstage0_28 ((cfg0.slots t 28).cast nbuf0_28)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t) (iblk m c 18 t) (iblk m c 19 t) (main_of t ht) (main_of_not t ht)

/-- The point whose stores a point's block holds: the last point keeps what the one before it left. -/
def src (t : Fin cfg0.N) : Fin cfg0.N := ⟨min t.val 63, lt_of_le_of_lt (Nat.min_le_left _ _) t.isLt⟩

theorem src_lt (t : Fin cfg0.N) : (src t).val < 64 := lt_of_le_of_lt (Nat.min_le_right _ _) (by decide)

theorem src_of_lt (t : Fin cfg0.N) (h : t.val < 64) : src t = t := Fin.ext (Nat.min_eq_left (by omega))

def left20 (t : Fin cfg0.N) : Vec F S512x1024 .f32 := View.canon (runAt m c (src t) (src_lt t)).1
def left22 (t : Fin cfg0.N) : Vec F S512x512 .bf16 := View.canon (runAt m c (src t) (src_lt t)).2.1
def left24 (t : Fin cfg0.N) : Vec F S1x512x512 .bf16 := View.canon (runAt m c (src t) (src_lt t)).2.2.1
def left25 (t : Fin cfg0.N) : Vec F S2x512x256 .bf16 := View.canon (runAt m c (src t) (src_lt t)).2.2.2.1

/-! ## The stores cover their blocks -/

/-- A block whose stores cover it is owned at what they leave. -/
theorem covered {s : Shape} {e : EltTy} (c : Dev nD) (a : Memref sig .tc .vmem s e) (L : List (View.Piece (Elt F) s e))
    (f : Buf (Elt F) (a.view.loc (c : Thread nD τ))) (X : Vec F s e) (hX : X = View.canon L) (h : ∀ y, ∃ p ∈ L, y ∈ p.1.set) :
    (a.view.loc (c : Thread nD τ) ↦[a.view.set]{fullShare} a.view.writes (Elt F) f L : sProp 𝕄) ⊢ owns (c : Thread nD τ) a fullShare X := by
  subst hX
  unfold owns
  iintro H
  iexists _
  isplitr
  swap
  · iexact H
  · ipureintro; exact (View.read_writes_of_cover a.view f a.view a.view.junk L h).trans (View.read_writes_junk_eq_canon a.view L)

theorem cover20 (t : Fin cfg0.N) (ht : t.val < 64) (y : (S512x1024 : Shape).Idx) : ∃ p ∈ (runAt m c t ht).1, y ∈ p.1.set :=
  View.cover_of_tiledL (runAt m c t ht).1 S256x1024.size (by sl_kernel_rfl) y

theorem left20_of (t : Fin cfg0.N) (ht : t.val < 64) : left20 m c t = View.canon (runAt m c t ht).1 := by
  have h : ∀ s (hs : s.val < 64), s = t → View.canon (runAt m c s hs).1 = View.canon (runAt m c t ht).1 := by
    rintro s hs rfl
    rfl
  exact h _ _ (src_of_lt t ht)

theorem cover22 (t : Fin cfg0.N) (ht : t.val < 64) (y : (S512x512 : Shape).Idx) : ∃ p ∈ (runAt m c t ht).2.1, y ∈ p.1.set :=
  View.cover_of_tiledL (runAt m c t ht).2.1 S256x512.size (by sl_kernel_rfl) y

theorem left22_of (t : Fin cfg0.N) (ht : t.val < 64) : left22 m c t = View.canon (runAt m c t ht).2.1 := by
  have h : ∀ s (hs : s.val < 64), s = t → View.canon (runAt m c s hs).2.1 = View.canon (runAt m c t ht).2.1 := by
    rintro s hs rfl
    rfl
  exact h _ _ (src_of_lt t ht)

theorem cover24 (t : Fin cfg0.N) (ht : t.val < 64) (y : (S1x512x512 : Shape).Idx) : ∃ p ∈ (runAt m c t ht).2.2.1, y ∈ p.1.set :=
  View.cover_of_tiledL (runAt m c t ht).2.2.1 S1x512x256.size (by sl_kernel_rfl) y

theorem left24_of (t : Fin cfg0.N) (ht : t.val < 64) : left24 m c t = View.canon (runAt m c t ht).2.2.1 := by
  have h : ∀ s (hs : s.val < 64), s = t → View.canon (runAt m c s hs).2.2.1 = View.canon (runAt m c t ht).2.2.1 := by
    rintro s hs rfl
    rfl
  exact h _ _ (src_of_lt t ht)

theorem cover25 (t : Fin cfg0.N) (ht : t.val < 64) (y : (S2x512x256 : Shape).Idx) : ∃ p ∈ (runAt m c t ht).2.2.2.1, y ∈ p.1.set :=
  View.cover_of_tiledL (runAt m c t ht).2.2.2.1 S1x512x256.size (by sl_kernel_rfl) y

theorem left25_of (t : Fin cfg0.N) (ht : t.val < 64) : left25 m c t = View.canon (runAt m c t ht).2.2.2.1 := by
  have h : ∀ s (hs : s.val < 64), s = t → View.canon (runAt m c s hs).2.2.2.1 = View.canon (runAt m c t ht).2.2.2.1 := by
    rintro s hs rfl
    rfl
  exact h _ _ (src_of_lt t ht)

/-! ## The proof data -/

/-- The results nothing is said of. -/
def dropped : Fin 29 → Bool := fun w => w.val == 21 || w.val == 23 || w.val == 26 || w.val == 27 || w.val == 28

/-- What a window's buffer holds after a point: an input its block, a claimed result what the point's stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => left20 m c t
    | ⟨21, h⟩ => Pipeline.Dat.unnamed (cfg := cfg0) ⟨21, h⟩ t
    | ⟨22, _⟩ => left22 m c t
    | ⟨23, h⟩ => Pipeline.Dat.unnamed (cfg := cfg0) ⟨23, h⟩ t
    | ⟨24, _⟩ => left24 m c t
    | ⟨25, _⟩ => left25 m c t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = left20 m c t := by dsimp only [dats]
theorem after22 (c : Dev nD) (t : Fin cfg0.N) : (dats m 0 c).after 22 t = left22 m c t := by dsimp only [dats]
theorem after24 (c : Dev nD) (t : Fin cfg0.N) : (dats m 0 c).after 24 t = left24 m c t := by dsimp only [dats]
theorem after25 (c : Dev nD) (t : Fin cfg0.N) : (dats m 0 c).after 25 t = left25 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d
theorem before19 (c : Dev nD) (t : Fin cfg0.N) (d) : (dats m 0 c).before 19 t d = iblk m c 19 t :=
  before0_19_of m (dats m 0 c) (A_eq m c 19) (after19 m c) t d

/-- A claimed result's block is kept by the last point: it is at the point before, and is not written back there. -/
theorem point_last (t : Fin cfg0.N) (h : ¬t.val < 64) : t.val = 64 := by
  have hN : t.val < 65 := lt_of_lt_of_eq t.isLt (show cfg0.N = 65 from N_0)
  omega

theorem keep20 (c : Dev nD) (t : Fin cfg0.N) (h : ¬t.val < 64) (d) : (dats m 0 c).before 20 t d = left20 m c t := by
  have e := point_last t h
  obtain ⟨n, hn⟩ := t
  obtain rfl : n = 64 := e
  rw [(dats m 0 c).before_of_pos 20 ⟨64, hn⟩ (by decide : (64 : ℕ) ≠ 0) ((cfg0.win 20).fetch_out rfl _)]
  rw [if_neg (by decide +kernel +revert)]
  unfold Dat.left
  rw [show cfg0.idle 20 (cfg0.grid.coords ⟨64 - 1, lt_of_le_of_lt (Nat.sub_le _ _) hn⟩) = false from by decide +kernel +revert]
  exact after20 m c _
theorem keep22 (c : Dev nD) (t : Fin cfg0.N) (h : ¬t.val < 64) (d) : (dats m 0 c).before 22 t d = left22 m c t := by
  have e := point_last t h
  obtain ⟨n, hn⟩ := t
  obtain rfl : n = 64 := e
  rw [(dats m 0 c).before_of_pos 22 ⟨64, hn⟩ (by decide : (64 : ℕ) ≠ 0) ((cfg0.win 22).fetch_out rfl _)]
  rw [if_neg (by decide +kernel +revert)]
  unfold Dat.left
  rw [show cfg0.idle 22 (cfg0.grid.coords ⟨64 - 1, lt_of_le_of_lt (Nat.sub_le _ _) hn⟩) = false from by decide +kernel +revert]
  exact after22 m c _
theorem keep24 (c : Dev nD) (t : Fin cfg0.N) (h : ¬t.val < 64) (d) : (dats m 0 c).before 24 t d = left24 m c t := by
  have e := point_last t h
  obtain ⟨n, hn⟩ := t
  obtain rfl : n = 64 := e
  rw [(dats m 0 c).before_of_pos 24 ⟨64, hn⟩ (by decide : (64 : ℕ) ≠ 0) ((cfg0.win 24).fetch_out rfl _)]
  rw [if_neg (by decide +kernel +revert)]
  unfold Dat.left
  rw [show cfg0.idle 24 (cfg0.grid.coords ⟨64 - 1, lt_of_le_of_lt (Nat.sub_le _ _) hn⟩) = false from by decide +kernel +revert]
  exact after24 m c _
theorem keep25 (c : Dev nD) (t : Fin cfg0.N) (h : ¬t.val < 64) (d) : (dats m 0 c).before 25 t d = left25 m c t := by
  have e := point_last t h
  obtain ⟨n, hn⟩ := t
  obtain rfl : n = 64 := e
  rw [(dats m 0 c).before_of_pos 25 ⟨64, hn⟩ (by decide : (64 : ℕ) ≠ 0) ((cfg0.win 25).fetch_out rfl _)]
  rw [if_neg (by decide +kernel +revert)]
  unfold Dat.left
  rw [show cfg0.idle 25 (cfg0.grid.coords ⟨64 - 1, lt_of_le_of_lt (Nat.sub_le _ _) hn⟩) = false from by decide +kernel +revert]
  exact after25 m c _

theorem outs_live : ∀ t : Fin cfg0.N, (cfg0.idle 20 (cfg0.grid.coords t) = false ∨ (cfg0.win 20).flush t = true) ∧ (cfg0.idle 22 (cfg0.grid.coords t) = false ∨ (cfg0.win 22).flush t = true) ∧ (cfg0.idle 24 (cfg0.grid.coords t) = false ∨ (cfg0.win 24).flush t = true) ∧ (cfg0.idle 25 (cfg0.grid.coords t) = false ∨ (cfg0.win 25).flush t = true) := by
  decide +kernel

/-- Each window handed back exactly: at a point that stores it, or that writes it back. -/
theorem exact_of (c : Dev nD) (w : Fin cfg0.W) (t : Fin cfg0.N) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases cfg0.idle w (cfg0.grid.coords t)
    · rfl
    · simp only [h]

theorem rest_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

set_option maxHeartbeats 51200000 in
/-- The body, at any point. -/
theorem body_at (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d))
      ∗ (∃ d, owns (c : Thread nD τ) (win0_10.stage (cfg0.slots t 10)) fullShare ((dats m 0 c).before 10 t d))
      ∗ (∃ d, owns (c : Thread nD τ) (win0_11.stage (cfg0.slots t 11)) fullShare ((dats m 0 c).before 11 t d))
      ∗ (∃ d, owns (c : Thread nD τ) (win0_12.stage (cfg0.slots t 12)) fullShare ((dats m 0 c).before 12 t d))
      ∗ (∃ d, owns (c : Thread nD τ) (win0_13.stage (cfg0.slots t 13)) fullShare ((dats m 0 c).before 13 t d))
      ∗ (∃ d, owns (c : Thread nD τ) (win0_14.stage (cfg0.slots t 14)) fullShare ((dats m 0 c).before 14 t d))
      ∗ (∃ d, owns (c : Thread nD τ) (win0_15.stage (cfg0.slots t 15)) fullShare ((dats m 0 c).before 15 t d))
      ∗ (∃ d, owns (c : Thread nD τ) (win0_16.stage (cfg0.slots t 16)) fullShare ((dats m 0 c).before 16 t d))
      ∗ (∃ d, owns (c : Thread nD τ) (win0_17.stage (cfg0.slots t 17)) fullShare ((dats m 0 c).before 17 t d))
      ∗ (∃ d, owns (c : Thread nD τ) (win0_18.stage (cfg0.slots t 18)) fullShare ((dats m 0 c).before 18 t d))
      ∗ (∃ d, owns (c : Thread nD τ) (win0_19.stage (cfg0.slots t 19)) fullShare ((dats m 0 c).before 19 t d))
      ∗ (∃ d, owns (c : Thread nD τ) (win0_20.stage (cfg0.slots t 20)) fullShare ((dats m 0 c).before 20 t d))
      ∗ (∃ d, owns (c : Thread nD τ) (win0_21.stage (cfg0.slots t 21)) fullShare d)
      ∗ (∃ d, owns (c : Thread nD τ) (win0_22.stage (cfg0.slots t 22)) fullShare ((dats m 0 c).before 22 t d))
      ∗ (∃ d, owns (c : Thread nD τ) (win0_23.stage (cfg0.slots t 23)) fullShare d)
      ∗ (∃ d, owns (c : Thread nD τ) (win0_24.stage (cfg0.slots t 24)) fullShare ((dats m 0 c).before 24 t d))
      ∗ (∃ d, owns (c : Thread nD τ) (win0_25.stage (cfg0.slots t 25)) fullShare ((dats m 0 c).before 25 t d))
      ∗ (∃ d, owns (c : Thread nD τ) (win0_26.stage (cfg0.slots t 26)) fullShare d)
      ∗ (∃ d, owns (c : Thread nD τ) (win0_27.stage (cfg0.slots t 27)) fullShare d)
      ∗ (∃ d, owns (c : Thread nD τ) (win0_28.stage (cfg0.slots t 28)) fullShare d))
      ⊢ wp frame (wpE (defs₀ (F := F)) Variants.none c none) Set.univ (bodyAt0 t) (fun _ =>
        iprop((dats m 0 c).Φ t.succ ∗ (dats m 0 c).owesAt () t.succ
      ∗ (dats m 0 c).leavesExact 0 t
      ∗ (dats m 0 c).leavesExact 1 t
      ∗ (dats m 0 c).leavesExact 2 t
      ∗ (dats m 0 c).leavesExact 3 t
      ∗ (dats m 0 c).leavesExact 4 t
      ∗ (dats m 0 c).leavesExact 5 t
      ∗ (dats m 0 c).leavesExact 6 t
      ∗ (dats m 0 c).leavesExact 7 t
      ∗ (dats m 0 c).leavesExact 8 t
      ∗ (dats m 0 c).leavesExact 9 t
      ∗ (dats m 0 c).leavesExact 10 t
      ∗ (dats m 0 c).leavesExact 11 t
      ∗ (dats m 0 c).leavesExact 12 t
      ∗ (dats m 0 c).leavesExact 13 t
      ∗ (dats m 0 c).leavesExact 14 t
      ∗ (dats m 0 c).leavesExact 15 t
      ∗ (dats m 0 c).leavesExact 16 t
      ∗ (dats m 0 c).leavesExact 17 t
      ∗ (dats m 0 c).leavesExact 18 t
      ∗ (dats m 0 c).leavesExact 19 t
      ∗ (dats m 0 c).leavesExact 20 t
      ∗ (∃ d, owns (c : Thread nD τ) (win0_21.stage (cfg0.slots t 21)) fullShare d)
      ∗ (dats m 0 c).leavesExact 22 t
      ∗ (∃ d, owns (c : Thread nD τ) (win0_23.stage (cfg0.slots t 23)) fullShare d)
      ∗ (dats m 0 c).leavesExact 24 t
      ∗ (dats m 0 c).leavesExact 25 t
      ∗ (∃ d, owns (c : Thread nD τ) (win0_26.stage (cfg0.slots t 26)) fullShare d)
      ∗ (∃ d, owns (c : Thread nD τ) (win0_27.stage (cfg0.slots t 27)) fullShare d)
      ∗ (∃ d, owns (c : Thread nD τ) (win0_28.stage (cfg0.slots t 28)) fullShare d))) := by
  unfold bodyAt0
  simp only [before0, before1, before2, before3, before4, before5, before6, before7, before8, before9, before10, before11, before12, before13, before14, before15, before16, before17, before18, before19]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, rest_eq]
  have hl := outs_live t
  rw [exact_of m c 0 t (.inl rfl), after0, exact_of m c 1 t (.inl rfl), after1, exact_of m c 2 t (.inl rfl), after2, exact_of m c 3 t (.inl rfl), after3, exact_of m c 4 t (.inl rfl), after4, exact_of m c 5 t (.inl rfl), after5, exact_of m c 6 t (.inl rfl), after6, exact_of m c 7 t (.inl rfl), after7, exact_of m c 8 t (.inl rfl), after8, exact_of m c 9 t (.inl rfl), after9, exact_of m c 10 t (.inl rfl), after10, exact_of m c 11 t (.inl rfl), after11, exact_of m c 12 t (.inl rfl), after12, exact_of m c 13 t (.inl rfl), after13, exact_of m c 14 t (.inl rfl), after14, exact_of m c 15 t (.inl rfl), after15, exact_of m c 16 t (.inl rfl), after16, exact_of m c 17 t (.inl rfl), after17, exact_of m c 18 t (.inl rfl), after18, exact_of m c 19 t (.inl rfl), after19]
  rw [exact_of m c 20 t hl.1, after20, exact_of m c 22 t hl.2.1, after22, exact_of m c 24 t hl.2.2.1, after24, exact_of m c 25 t hl.2.2.2, after25]
  by_cases ht : t.val < 64
  · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((runAt m c t ht).2.2.2.2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    isplitl [H26]
    · iexists _; iexact H26
    isplitl [H27]
    · iexists _; iexact H27
    isplitl [H28]
    · iexists _; iexact H28
    isplitl [HS0]
    · iexact HS0
    isplitl [HS1]
    · iexact HS1
    isplitl [HS2]
    · iexact HS2
    isplitl [HS3]
    · iexact HS3
    isplitl [HS4]
    · iexact HS4
    iintro ⟨H0, H1, H2, H3, H4, H5, H6, H7, H8, H9, H10, H11, H12, H13, H14, H15, H16, H17, H18, H19, ⟨%f20, H20⟩, H21, ⟨%f22, H22⟩, H23, ⟨%f24, H24⟩, ⟨%f25, H25⟩, H26, H27, H28, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      · iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iapply (covered c _ _ _ _ (left20_of m c t ht) (cover20 m c t ht)) $$ H20
    isplitl [H21]
    · iexact H21
    isplitl [H22]
    · iapply (covered c _ _ _ _ (left22_of m c t ht) (cover22 m c t ht)) $$ H22
    isplitl [H23]
    · iexact H23
    isplitl [H24]
    · iapply (covered c _ _ _ _ (left24_of m c t ht) (cover24 m c t ht)) $$ H24
    isplitl [H25]
    · iapply (covered c _ _ _ _ (left25_of m c t ht) (cover25 m c t ht)) $$ H25
    isplitl [H26]
    · iexact H26
    isplitl [H27]
    · iexact H27
    · iexact H28
  · simp only [keep20 m c t ht, keep22 m c t ht, keep24 m c t ht, keep25 m c t ht]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (lastRun c (grid0.coords t)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6)) (win0_7.stage (cfg0.slots t 7)) (hstage0_7 ((cfg0.slots t 7).cast nbuf0_7))
      (win0_8.stage (cfg0.slots t 8)) (hstage0_8 ((cfg0.slots t 8).cast nbuf0_8)) (win0_9.stage (cfg0.slots t 9)) (hstage0_9 ((cfg0.slots t 9).cast nbuf0_9))
      (win0_10.stage (cfg0.slots t 10)) (hstage0_10 ((cfg0.slots t 10).cast nbuf0_10)) (win0_11.stage (cfg0.slots t 11)) (hstage0_11 ((cfg0.slots t 11).cast nbuf0_11))
      (win0_12.stage (cfg0.slots t 12)) (hstage0_12 ((cfg0.slots t 12).cast nbuf0_12)) (win0_13.stage (cfg0.slots t 13)) (hstage0_13 ((cfg0.slots t 13).cast nbuf0_13))
      (win0_14.stage (cfg0.slots t 14)) (hstage0_14 ((cfg0.slots t 14).cast nbuf0_14)) (win0_15.stage (cfg0.slots t 15)) (hstage0_15 ((cfg0.slots t 15).cast nbuf0_15))
      (win0_16.stage (cfg0.slots t 16)) (hstage0_16 ((cfg0.slots t 16).cast nbuf0_16)) (win0_17.stage (cfg0.slots t 17)) (hstage0_17 ((cfg0.slots t 17).cast nbuf0_17))
      (win0_18.stage (cfg0.slots t 18)) (hstage0_18 ((cfg0.slots t 18).cast nbuf0_18)) (win0_19.stage (cfg0.slots t 19)) (hstage0_19 ((cfg0.slots t 19).cast nbuf0_19))
      (win0_20.stage (cfg0.slots t 20)) (hstage0_20 ((cfg0.slots t 20).cast nbuf0_20)) (win0_21.stage (cfg0.slots t 21)) (hstage0_21 ((cfg0.slots t 21).cast nbuf0_21))
      (win0_22.stage (cfg0.slots t 22)) (hstage0_22 ((cfg0.slots t 22).cast nbuf0_22)) (win0_23.stage (cfg0.slots t 23)) (hstage0_23 ((cfg0.slots t 23).cast nbuf0_23))
      (win0_24.stage (cfg0.slots t 24)) (hstage0_24 ((cfg0.slots t 24).cast nbuf0_24)) (win0_25.stage (cfg0.slots t 25)) (hstage0_25 ((cfg0.slots t 25).cast nbuf0_25))
      (win0_26.stage (cfg0.slots t 26)) (hstage0_26 ((cfg0.slots t 26).cast nbuf0_26)) (win0_27.stage (cfg0.slots t 27)) (hstage0_27 ((cfg0.slots t 27).cast nbuf0_27))
      (win0_28.stage (cfg0.slots t 28)) (hstage0_28 ((cfg0.slots t 28).cast nbuf0_28)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 16 t) (iblk m c 17 t) (iblk m c 18 t) (iblk m c 19 t) (last_of_not t ht) (last_of t ht) Set.univ _ (left20 m c t) (left22 m c t) (left24 m c t) (left25 m c t))
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexists _; iexact H21
    isplitl [H22]
    · iexact H22
    isplitl [H23]
    · iexists _; iexact H23
    isplitl [H24]
    · iexact H24
    isplitl [H25]
    · iexact H25
    isplitl [H26]
    · iexists _; iexact H26
    isplitl [H27]
    · iexists _; iexact H27
    isplitl [H28]
    · iexists _; iexact H28
    isplitl [HS0]
    · iexact HS0
    isplitl [HS1]
    · iexact HS1
    isplitl [HS2]
    · iexact HS2
    isplitl [HS3]
    · iexact HS3
    isplitl [HS4]
    · iexact HS4
    iintro ⟨H0, H1, H2, H3, H4, H5, H6, H7, H8, H9, H10, H11, H12, H13, H14, H15, H16, H17, H18, H19, H20, H21, H22, H23, H24, H25, H26, H27, H28, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      · iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    · iexact H28

/-! ## The launch -/

theorem body_row (t : Fin cfg0.N) : defs₀ (F := F) .tc cfg0.body (cfg0.bodyArgs t (cfg0.slots t)) = bodyAt0 t := by
  unfold defs₀; rw [Defs.onTc_tc]

set_option maxHeartbeats 4000000 in
/-- The body's obligation. -/
theorem obligation (c : Dev nD) : BodyObligation (dats (F := F) m 0 c) (defs₀ (F := F)) Variants.none () Set.univ dropped := fun t => by
  rw [bigSep_W0, bigSep_W0, body_row]
  exact triple_restated (body_at m c t) rfl .rfl fun _ => .rfl

set_option backward.isDefEq.respectTransparency.types false in
/-- The launch: the inputs and the four claimed results at what the data names, and every counter at zero. -/
theorem launched : θ_run defs (onTc (τ := τ) (main (F := F))) (s₀ m ρ)
    (fun r => Pipeline.RDat.FramePost (cfgs 0) (fun c => (dats m 0 c).toRForget dropped) (V m) r ∧ r.2.sem = fun _ => 0) :=
  Pipeline.θ_run_frame_track_forget (Q' := _) cfgs (dats m) (0 : Fin 1) launch0 defs₀ Variants.none dropped m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

end Fox.Front
-- ==== Proof.FrontFrames.lean ====
module

public import proofs.«01_k».proof.Defs
public import proofs.«01_k».proof.Proof.Frames
public import proofs.«01_k».proof.Proof.FrontBody
public import proofs.«01_k».proof.Proof.Gen.Kernel3
public import proofs.«01_k».proof.Proof.Gen.Reference3Ideal.Run

@[expose] public section

noncomputable section

namespace Fox.Front

open Idealize.ShloMosaic Idealize.ShloMosaic.TcCoe Idealize.SL.Sem

section

open Cert.Kernel3Ideal Cert.Kernel3Ideal.Gen

variable {F : FTy → Type} [FloatOps F] [Named F]

set_option maxHeartbeats 2000000 in
/-- A run that ends as the pipeline's account says keeps the arguments. -/
theorem kept (m : (ℓ : Loc nD τ sig) → Buf (Elt F) ℓ) {r} (h : Pipeline.RDat.FramePost (cfgs 0) (fun c => (dats m 0 c).toRForget dropped) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 19 rfl).trans ((A_eq m c 19).trans (V_main_arg13 m c)),
      (Pipeline.RDat.FramePost.arr_in h c 17 rfl).trans ((A_eq m c 17).trans (V_main_arg14 m c)),
      (Pipeline.RDat.FramePost.arr_in h c 18 rfl).trans ((A_eq m c 18).trans (V_main_arg15 m c))⟩

/-- The run ends with the arguments as they began and every counter at zero. -/
theorem framed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨kept m h.1, h.2⟩) (launched m ρ)

/-- The run of the idealized program read at machine words. -/
def wordsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem words : wordsFrame := fun m ρ _ => framed m ρ

end

theorem frame_ideal : Cert.quiescent_Kernel3Ideal := fun m ρ _ => framed m ρ

theorem frame_kernel_eq : wordsFrame = Cert.quiescent_Kernel3 := by sl_kernel_rfl

theorem frame_kernel : Cert.quiescent_Kernel3 := frame_kernel_eq ▸ words

theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem preserves : Cert.preserves_Kernel3_Kernel3Ideal := IdealRules.named_const.statement _ _ _ _ _ rfl

end Fox.Front
-- ==== Proof.FrontTile.lean ====
module

public import proofs.«01_k».proof.Proof.BackRun
public import proofs.«01_k».proof.Proof.Gen.Kernel3Ideal.Skeleton

@[expose] public section

noncomputable section

namespace Fox.Front

open Idealize.ShloMosaic Idealize.ShloMosaic.TcCoe Idealize.SL.Sem
open Fox.Back (normR gateR halfR chunkV chunkV_apply)
open Cert.Kernel3Ideal Cert.Kernel3Ideal.Gen

/-! ## The first mixer's values, read at an index -/

theorem norm_lo (x : Vec Ideal S256x1024 .f32) (g : Vec Ideal S1x1024 .f32) (r : Fin 256) (w : Fin 1024) :
    k0_pay5 (F := Ideal) x g (ix2 r w) = normR (fun w => x (ix2 r w)) (fun w => g (ix2 0 w)) w := by
  pointwise [k0_pay5, k0_pay4, normR]

theorem norm_hi (x : Vec Ideal S256x1024 .f32) (g : Vec Ideal S1x1024 .f32) (r : Fin 256) (w : Fin 1024) :
    k0_pay55 (F := Ideal) (k0_pay54 x) g (ix2 r w) = normR (fun w => x (ix2 r w)) (fun w => g (ix2 0 w)) w := by
  pointwise [k0_pay55, k0_pay54, normR]

theorem half_lo (x : Vec Ideal S256x1024 .f32) (u : Vec Ideal S256x2816 .bf16) (w2 : Vec Ideal S2816x1024 .bf16) (r : Fin 256) (w : Fin 1024) :
    k0_pay52 (F := Ideal) (k0_pay4 x) u w2 (ix2 r w) = halfR (fun w => x (ix2 r w)) (fun f => u (ix2 r f)) (fun f w => w2 (ix2 f w)) w := by
  pointwise [k0_pay52, k0_pay4, halfR]

theorem half_hi (x : Vec Ideal S256x1024 .f32) (u : Vec Ideal S256x2816 .bf16) (w2 : Vec Ideal S2816x1024 .bf16) (r : Fin 256) (w : Fin 1024) :
    k0_pay101 (F := Ideal) (k0_pay54 x) u w2 (ix2 r w) = halfR (fun w => x (ix2 r w)) (fun f => u (ix2 r f)) (fun f w => w2 (ix2 f w)) w := by
  pointwise [k0_pay101, k0_pay54, halfR]

theorem again_lo (x : FVec Ideal S256x1024 .f32) (u : Vec Ideal S256x2816 .bf16) (w2 : Vec Ideal S2816x1024 .bf16) (g : Vec Ideal S1x1024 .f32) (r : Fin 256)
    (w : Fin 1024) : k0_pay53 (F := Ideal) x u w2 g (ix2 r w) = normR (fun w => k0_pay52 (F := Ideal) x u w2 (ix2 r w)) (fun w => g (ix2 0 w)) w := by
  pointwise [k0_pay53, normR]

theorem again_hi (x : FVec Ideal S256x1024 .f32) (u : Vec Ideal S256x2816 .bf16) (w2 : Vec Ideal S2816x1024 .bf16) (g : Vec Ideal S1x1024 .f32) (r : Fin 256)
    (w : Fin 1024) : k0_pay102 (F := Ideal) x u w2 g (ix2 r w) = normR (fun w => k0_pay101 (F := Ideal) x u w2 (ix2 r w)) (fun w => g (ix2 0 w)) w := by
  pointwise [k0_pay102, normR]

theorem key_lo (h : FVec Ideal S256x1024 .bf16) (W : Vec Ideal S1024x512 .bf16) (r : Fin 256) (a : Fin 512) :
    k0_pay108 (F := Ideal) h W (ix2 r a) = ∑ k, h (ix2 r k) * W (ix2 k a) := by
  pointwise [k0_pay108]

theorem key_hi (h : FVec Ideal S256x1024 .bf16) (W : Vec Ideal S1024x512 .bf16) (r : Fin 256) (a : Fin 512) :
    k0_pay115 (F := Ideal) h W (ix2 r a) = ∑ k, h (ix2 r k) * W (ix2 k a) := by
  pointwise [k0_pay115]

theorem packed_lo (h : FVec Ideal S256x1024 .bf16) (W : Vec Ideal S1040x1024 .bf16) (a : Fin 1040) (r : Fin 256) :
    k0_pay103 (F := Ideal) h W (ix2 a r) = ∑ k, W (ix2 a k) * h (ix2 r k) := by
  pointwise [k0_pay103]

theorem packed_hi (h : FVec Ideal S256x1024 .bf16) (W : Vec Ideal S1040x1024 .bf16) (a : Fin 1040) (r : Fin 256) :
    k0_pay111 (F := Ideal) h W (ix2 a r) = ∑ k, W (ix2 a k) * h (ix2 r k) := by
  pointwise [k0_pay111]

theorem query_lo (h : FVec Ideal S256x1024 .bf16) (W : Vec Ideal S1040x1024 .bf16) (a : Fin 512) (r : Fin 256) :
    k0_pay105 (F := Ideal) (k0_pay104 h W) (ix3 0 a r) = k0_pay103 (F := Ideal) h W (ix2 ⟨a.val, by omega⟩ r) * (Named.named (F := Ideal) κ "scale" (φ := .f32) 0x3E38AA3B#32 : Ideal .f32) := by
  pointwise [k0_pay105, k0_pay104]

theorem query_hi (h : FVec Ideal S256x1024 .bf16) (W : Vec Ideal S1040x1024 .bf16) (a : Fin 512) (r : Fin 256) :
    k0_pay112 (F := Ideal) h W (ix3 0 a r) = k0_pay111 (F := Ideal) h W (ix2 ⟨a.val, by omega⟩ r) * (Named.named (F := Ideal) κ "scale" (φ := .f32) 0x3E38AA3B#32 : Ideal .f32) := by
  pointwise [k0_pay112]

theorem value_lo (p : FVec Ideal S1040x256 .f32) (a : Fin 512) (r : Fin 256) :
    k0_pay106 (F := Ideal) p (ix3 0 a r) = p (ix2 ⟨512 + a.val, by omega⟩ r) := by
  pointwise [k0_pay106]

theorem value_hi (h : FVec Ideal S256x1024 .bf16) (W : Vec Ideal S1040x1024 .bf16) (a : Fin 512) (r : Fin 256) :
    k0_pay113 (F := Ideal) h W (ix3 0 a r) = k0_pay111 (F := Ideal) h W (ix2 ⟨512 + a.val, by omega⟩ r) := by
  pointwise [k0_pay113]

/-! ## Loads -/

/-- A load of part of an input, at an index. -/
theorem load_at {S : Shape} {e : EltTy} {s : Memref sig .tc .vmem S e} (hs : s.IsWhole) (X : Vec Ideal S e) (off size : Fin S.rank → ℕ)
    (inb : ∀ a, off a + size a ≤ S.size a) (x : (Rect.unit off size inb).shape.Idx) (i : S.Idx) (hi : ∀ a, (i a : ℕ) = off a + x a) :
    View.readAt (Elt Ideal) s.view (Rect.unit off size inb).toLoadRect (hs.unread X) x = X i :=
  (congrFun (View.readAt_eq_ld s.view (hs.unread X) (Rect.unit off size inb)) x).trans
    ((congrArg (fun Y => View.ld Y (Rect.unit off size inb) x) (hs.read_unread X)).trans (View.ld_unit_apply_of X off size inb x i hi))

/-- A load of a tile of an array of two axes. -/
theorem load_tile {n w : ℕ} {e : EltTy} {s : Memref sig .tc .vmem ⟨2, ![n, w]⟩ e} (hs : s.IsWhole) (X : Vec Ideal ⟨2, ![n, w]⟩ e) (ro co k l : ℕ)
    (inb : ∀ a, (![ro, co] : Fin 2 → ℕ) a + (![k, l] : Fin 2 → ℕ) a ≤ (⟨2, ![n, w]⟩ : Shape).size a) (r : Fin k) (j : Fin l) (i : Fin n) (o : Fin w)
    (hi : i.val = ro + r.val) (ho : o.val = co + j.val) :
    View.readAt (Elt Ideal) s.view (Rect.unit (s := ⟨2, ![n, w]⟩) ![ro, co] ![k, l] inb).toLoadRect (hs.unread X) (ix2 r j) = X (ix2 i o) := by
  refine load_at hs X _ _ inb (ix2 r j) _ fun a => ?_
  fin_cases a
  · exact hi
  · exact ho

/-! ## The scratch: the gated hidden numbers -/

/-- The scratch array, from the normed rows. -/
def hidV (hr : Fin 512 → Fin 1024 → EReal) (x2 x3 : Vec Ideal S1024x2816 .bf16) (y : S512x2816.Idx) : EReal :=
  gateR (hr (y 0)) (fun k f => x2 (ix2 k f)) (fun k f => x3 (ix2 k f)) (y 1)

/-- What a store of a chunk of the gated hidden numbers holds. -/
theorem piece (hr : Fin 512 → Fin 1024 → EReal) (x2 x3 : Vec Ideal S1024x2816 .bf16)
    {s : Memref sig .tc .vmem S1024x2816 .bf16} (hs : s.IsWhole) {t : Memref sig .tc .vmem S1024x2816 .bf16} (ht : t.IsWhole)
    (h : FVec Ideal S256x1024 .bf16) (ro co : ℕ) (hro : ro + 256 ≤ 512) (hh : ∀ (r : Fin 256) k, h (ix2 r k) = hr ⟨ro + r.val, by omega⟩ k)
    (i1 : ∀ a, (![ro, co] : Fin 2 → ℕ) a + S256x256.size a ≤ S512x2816.size a)
    (i2 : ∀ a, (![0, co] : Fin 2 → ℕ) a + S1024x256.size a ≤ S1024x2816.size a)
    (x : (Rect.unit (s := S512x2816) ![ro, co] S256x256.size i1).shape.Idx) :
    chunkV h (View.readAt (Elt Ideal) s.view (Rect.unit (s := S1024x2816) ![0, co] S1024x256.size i2).toLoadRect (hs.unread x2))
        (View.readAt (Elt Ideal) t.view (Rect.unit (s := S1024x2816) ![0, co] S1024x256.size i2).toLoadRect (ht.unread x3)) x
      = hidV hr x2 x3 ((Rect.unit (s := S512x2816) ![ro, co] S256x256.size i1).emb x) := by
  have hco : co + 256 ≤ 2816 := i2 1
  have hx0 : (x 0).val < 256 := (x 0).isLt
  have hx1 : (x 1).val < 256 := (x 1).isLt
  have hx : x = ix2 (⟨(x 0).val, hx0⟩ : Fin 256) (⟨(x 1).val, hx1⟩ : Fin 256) := by
    funext a
    fin_cases a <;> rfl
  have e0 : ((Rect.unit (s := S512x2816) ![ro, co] S256x256.size i1).emb x) 0 = (⟨ro + (x 0).val, by omega⟩ : Fin 512) :=
    Fin.ext (Rect.idx_unit_val _ _ i1 x 0)
  have e1 : ((Rect.unit (s := S512x2816) ![ro, co] S256x256.size i1).emb x) 1 = (⟨co + (x 1).val, by omega⟩ : Fin 2816) :=
    Fin.ext (Rect.idx_unit_val _ _ i1 x 1)
  have la : ∀ k : Fin 1024, View.readAt (Elt Ideal) s.view (Rect.unit (s := S1024x2816) ![0, co] S1024x256.size i2).toLoadRect (hs.unread x2)
      (ix2 k (⟨(x 1).val, hx1⟩ : Fin 256)) = x2 (ix2 k ⟨co + (x 1).val, by omega⟩) :=
    fun k => load_tile hs x2 0 co 1024 256 i2 k ⟨(x 1).val, hx1⟩ k ⟨co + (x 1).val, by omega⟩ (Nat.zero_add _).symm rfl
  have lb : ∀ k : Fin 1024, View.readAt (Elt Ideal) t.view (Rect.unit (s := S1024x2816) ![0, co] S1024x256.size i2).toLoadRect (ht.unread x3)
      (ix2 k (⟨(x 1).val, hx1⟩ : Fin 256)) = x3 (ix2 k ⟨co + (x 1).val, by omega⟩) :=
    fun k => load_tile ht x3 0 co 1024 256 i2 k ⟨(x 1).val, hx1⟩ k ⟨co + (x 1).val, by omega⟩ (Nat.zero_add _).symm rfl
  unfold hidV
  rw [e0, e1]
  refine (congrArg _ hx).trans ((chunkV_apply h _ _ ⟨(x 0).val, hx0⟩ ⟨(x 1).val, hx1⟩).trans ?_)
  unfold gateR
  have hs' : ∀ k, h (ix2 (⟨(x 0).val, hx0⟩ : Fin 256) k) = hr ⟨ro + (x 0).val, by omega⟩ k := fun k => hh ⟨(x 0).val, hx0⟩ k
  simp only [hs', la, lb]

end Fox.Front
-- ==== Proof.FrontVal.lean ====
module

public import proofs.«01_k».proof.Proof.FrontTile
public import proofs.«01_k».proof.Proof.FrontBody

@[expose] public section

noncomputable section

namespace Fox.Front

open Idealize.ShloMosaic Idealize.ShloMosaic.TcCoe Idealize.SL.Sem
open Fox.Back (normR gateR halfR chunkV Holds Holds.cons Holds.nil Holds.read back_idx two)
open Cert.Kernel3Ideal Cert.Kernel3Ideal.Gen

/-- What is stored at a tile agrees with a function of the buffer's index, from the index the tile's one lands at. -/
theorem at_rect {S : Shape} {α : Type} {off size : Fin S.rank → ℕ} {inb : ∀ a, off a + size a ≤ S.size a} {v : α} (G : S.Idx → α)
    (x : (Rect.unit off size inb).shape.Idx) (i : S.Idx) (hi : ∀ a, (i a : ℕ) = off a + x a) (hv : v = G i) : v = G ((Rect.unit off size inb).emb x) :=
  hv.trans (congrArg G (funext fun a => Fin.ext ((hi a).trans (Rect.idx_unit_val off size inb x a).symm)))

/-- A store that holds an index, at the head of a list or further on. -/
theorem ex_head {α : Type} {P : α → Prop} {p : α} {L : List α} (h : P p) : ∃ q ∈ p :: L, P q := ⟨p, List.mem_cons_self, h⟩
theorem ex_tail {α : Type} {P : α → Prop} {p : α} {L : List α} : (∃ q ∈ L, P q) → ∃ q ∈ p :: L, P q
  | ⟨q, hq, h⟩ => ⟨q, List.mem_cons_of_mem _ hq, h⟩

section

variable {c : Dev nD} {arg1 : Memref sig .tc .vmem S512x1024 .f32} {harg1 : arg1.IsWhole} {arg2 : Memref sig .tc .vmem S1x1024 .f32} {harg2 : arg2.IsWhole}
  {arg3 : Memref sig .tc .vmem S1024x2816 .bf16} {harg3 : arg3.IsWhole} {arg4 : Memref sig .tc .vmem S1024x2816 .bf16} {harg4 : arg4.IsWhole}
  {arg5 : Memref sig .tc .vmem S2816x1024 .bf16} {harg5 : arg5.IsWhole} {arg6 : Memref sig .tc .vmem S1x1024 .f32} {harg6 : arg6.IsWhole}
  {arg9 : Memref sig .tc .vmem S1024x512 .bf16} {harg9 : arg9.IsWhole} {arg10 : Memref sig .tc .vmem S1040x1024 .bf16} {harg10 : arg10.IsWhole}
  {arg30 : Memref sig .tc .vmem S512x2816 .bf16}
  (x0 : Vec Ideal S512x1024 .f32) (x1 : Vec Ideal S1x1024 .f32) (x2 x3 : Vec Ideal S1024x2816 .bf16) (x4 : Vec Ideal S2816x1024 .bf16)
  (x5 : Vec Ideal S1x1024 .f32) (x8 : Vec Ideal S1024x512 .bf16) (x9 : Vec Ideal S1040x1024 .bf16)

/-! ## A point's blocks, from the input blocks -/

/-- The normed rows. -/
def nrmV (r : Fin 512) : Fin 1024 → EReal := normR (fun w => x0 (ix2 r w)) (fun w => x1 (ix2 0 w))

/-- The rows after the first mixer. -/
def fullV (r : Fin 512) : Fin 1024 → EReal :=
  halfR (fun w => x0 (ix2 r w)) (gateR (nrmV x0 x1 r) (fun k f => x2 (ix2 k f)) (fun k f => x3 (ix2 k f))) (fun f w => x4 (ix2 f w))

/-- And their norms. -/
def nextV (r : Fin 512) : Fin 1024 → EReal := normR (fullV x0 x1 x2 x3 x4 r) (fun w => x5 (ix2 0 w))

/-- A row of the packed projection. -/
def packV (a : Fin 1040) (r : Fin 512) : EReal := ∑ k, x9 (ix2 a k) * nextV x0 x1 x2 x3 x4 x5 r k

def rowsV (y : S512x1024.Idx) : EReal := fullV x0 x1 x2 x3 x4 (y 0) (y 1)
def keysV (y : S512x512.Idx) : EReal := ∑ k, nextV x0 x1 x2 x3 x4 x5 (y 0) k * x8 (ix2 k (y 1))
def queriesV (y : S1x512x512.Idx) : EReal :=
  packV x0 x1 x2 x3 x4 x5 x9 ⟨(y 1).val, lt_trans (y 1).isLt (by decide)⟩ (y 2) * (Named.named (F := Ideal) κ "scale" (φ := .f32) 0x3E38AA3B#32 : Ideal .f32)
def valuesV (y : S2x512x256.Idx) : EReal :=
  packV x0 x1 x2 x3 x4 x5 x9 ⟨512 + (y 1).val, by have : (y 1).val < 512 := (y 1).isLt; omega⟩
    ⟨256 * (y 0).val + (y 2).val, by have : (y 0).val < 2 := (y 0).isLt; have : (y 2).val < 256 := (y 2).isLt; omega⟩

/-! ## The scratch -/

theorem nrm0 (r : Fin 256) (w : Fin 1024) : mainRun.sl.v91 (F := Ideal) c arg1 harg1 arg2 harg2 x0 x1 (ix2 r w) = nrmV x0 x1 ⟨0 + r.val, by omega⟩ w := by
  refine (norm_lo (View.readAt (Elt Ideal) arg1.view (Rect.unit (s := S512x1024) ![0, 0] S256x1024.size inb_S512x1024_S256x1024_0_0).toLoadRect (harg1.unread x0))
    (View.readAt (Elt Ideal) arg2.view (Rect.unit (s := S1x1024) ![0, 0] S1x1024.size inb_S1x1024_S1x1024_0_0).toLoadRect (harg2.unread x1)) r w).trans ?_
  unfold nrmV
  congr 1
  · funext w; exact load_tile harg1 x0 0 0 256 1024 _ r w _ w rfl (Nat.zero_add _).symm
  · funext w; exact load_tile harg2 x1 0 0 1 1024 _ 0 w 0 w rfl (Nat.zero_add _).symm

theorem nrm1 (r : Fin 256) (w : Fin 1024) : mainRun.sl.v572 (F := Ideal) c arg1 harg1 arg2 harg2 x0 x1 (ix2 r w) = nrmV x0 x1 ⟨256 + r.val, by omega⟩ w := by
  refine (norm_hi (View.readAt (Elt Ideal) arg1.view (Rect.unit (s := S512x1024) ![256, 0] S256x1024.size inb_S512x1024_S256x1024_256_0).toLoadRect (harg1.unread x0))
    (View.readAt (Elt Ideal) arg2.view (Rect.unit (s := S1x1024) ![0, 0] S1x1024.size inb_S1x1024_S1x1024_0_0).toLoadRect (harg2.unread x1)) r w).trans ?_
  unfold nrmV
  congr 1
  · funext w; exact load_tile harg1 x0 256 0 256 1024 _ r w _ w rfl (Nat.zero_add _).symm
  · funext w; exact load_tile harg2 x1 0 0 1 1024 _ 0 w 0 w rfl (Nat.zero_add _).symm

theorem pieces0 : Holds (hidV (nrmV x0 x1) x2 x3) (mainRun.sl.H30_11 (F := Ideal) c arg1 harg1 arg2 harg2 arg3 harg3 arg4 harg4 x0 x1 x2 x3) := by
  have H := fun r k => nrm0 (c := c) (harg1 := harg1) (harg2 := harg2) x0 x1 r k
  unfold mainRun.sl.H30_11
  have P := fun co i1 i2 => piece (nrmV x0 x1) x2 x3 harg3 harg4 (mainRun.sl.v91 (F := Ideal) c arg1 harg1 arg2 harg2 x0 x1) 0 co (by omega) H i1 i2
  refine Holds.cons (P 2560 (by decide) (by decide)) ?_
  refine Holds.cons (P 2304 (by decide) (by decide)) ?_
  refine Holds.cons (P 2048 (by decide) (by decide)) ?_
  refine Holds.cons (P 1792 (by decide) (by decide)) ?_
  refine Holds.cons (P 1536 (by decide) (by decide)) ?_
  refine Holds.cons (P 1280 (by decide) (by decide)) ?_
  refine Holds.cons (P 1024 (by decide) (by decide)) ?_
  refine Holds.cons (P 768 (by decide) (by decide)) ?_
  refine Holds.cons (P 512 (by decide) (by decide)) ?_
  refine Holds.cons (P 256 (by decide) (by decide)) ?_
  refine Holds.cons (P 0 (by decide) (by decide)) ?_
  exact Holds.nil

theorem pieces1 : Holds (hidV (nrmV x0 x1) x2 x3) (mainRun.sl.H30_22 (F := Ideal) c arg1 harg1 arg2 harg2 arg3 harg3 arg4 harg4 x0 x1 x2 x3) := by
  have H := fun r k => nrm1 (c := c) (harg1 := harg1) (harg2 := harg2) x0 x1 r k
  unfold mainRun.sl.H30_22
  have P := fun co i1 i2 => piece (nrmV x0 x1) x2 x3 harg3 harg4 (mainRun.sl.v572 (F := Ideal) c arg1 harg1 arg2 harg2 x0 x1) 256 co (by omega) H i1 i2
  refine Holds.cons (P 2560 (by decide) (by decide)) ?_
  refine Holds.cons (P 2304 (by decide) (by decide)) ?_
  refine Holds.cons (P 2048 (by decide) (by decide)) ?_
  refine Holds.cons (P 1792 (by decide) (by decide)) ?_
  refine Holds.cons (P 1536 (by decide) (by decide)) ?_
  refine Holds.cons (P 1280 (by decide) (by decide)) ?_
  refine Holds.cons (P 1024 (by decide) (by decide)) ?_
  refine Holds.cons (P 768 (by decide) (by decide)) ?_
  refine Holds.cons (P 512 (by decide) (by decide)) ?_
  refine Holds.cons (P 256 (by decide) (by decide)) ?_
  refine Holds.cons (P 0 (by decide) (by decide)) ?_
  exact pieces0 x0 x1 x2 x3

theorem cover0 (r : Fin 256) (f : Fin 2816) : ∃ p ∈ mainRun.sl.H30_11 (F := Ideal) c arg1 harg1 arg2 harg2 arg3 harg3 arg4 harg4 x0 x1 x2 x3,
    (Rect.unit (s := S512x2816) ![0, 0] S256x2816.size inb_S512x2816_S256x2816_0_0).toLoadRect.idx (ix2 r f) ∈ p.1.set := by
  unfold mainRun.sl.H30_11
  have hr := r.isLt
  rw [back_idx 0 (by omega)]
  have hf : f.val / 256 < 11 := by omega
  generalize hk : f.val / 256 = k at hf
  interval_cases k <;>
    repeat first
      | (refine ex_head ?_; exact (Rect.mem_set_unit (inb := by decide)).2 (two ⟨0 + r.val, by omega⟩ f (by dsimp only; omega) (by omega)))
      | refine ex_tail ?_

theorem cover1 (r : Fin 256) (f : Fin 2816) : ∃ p ∈ mainRun.sl.H30_22 (F := Ideal) c arg1 harg1 arg2 harg2 arg3 harg3 arg4 harg4 x0 x1 x2 x3,
    (Rect.unit (s := S512x2816) ![256, 0] S256x2816.size inb_S512x2816_S256x2816_256_0).toLoadRect.idx (ix2 r f) ∈ p.1.set := by
  unfold mainRun.sl.H30_22
  have hr := r.isLt
  rw [back_idx 256 (by omega)]
  have hf : f.val / 256 < 11 := by omega
  generalize hk : f.val / 256 = k at hf
  interval_cases k <;>
    repeat first
      | (refine ex_head ?_; exact (Rect.mem_set_unit (inb := by decide)).2 (two ⟨256 + r.val, by omega⟩ f (by dsimp only; omega) (by omega)))
      | refine ex_tail ?_

theorem hid0 (r : Fin 256) (f : Fin 2816) :
    mainRun.sl.v533 (F := Ideal) c arg1 harg1 arg2 harg2 arg3 harg3 arg4 harg4 arg30 x0 x1 x2 x3 (ix2 r f)
      = gateR (nrmV x0 x1 ⟨0 + r.val, by omega⟩) (fun k f => x2 (ix2 k f)) (fun k f => x3 (ix2 k f)) f := by
  unfold mainRun.sl.v533
  rw [View.readCov_eq_canon']
  refine (Holds.read (pieces0 x0 x1 x2 x3) _ (cover0 x0 x1 x2 x3 r f)).trans ?_
  rw [back_idx 0 (by omega)]
  rfl

theorem hid1 (r : Fin 256) (f : Fin 2816) :
    mainRun.sl.v1014 (F := Ideal) c arg1 harg1 arg2 harg2 arg3 harg3 arg4 harg4 arg30 x0 x1 x2 x3 (ix2 r f)
      = gateR (nrmV x0 x1 ⟨256 + r.val, by omega⟩) (fun k f => x2 (ix2 k f)) (fun k f => x3 (ix2 k f)) f := by
  unfold mainRun.sl.v1014
  rw [View.readCov_eq_canon']
  refine (Holds.read (pieces1 x0 x1 x2 x3) _ (cover1 x0 x1 x2 x3 r f)).trans ?_
  rw [back_idx 256 (by omega)]
  rfl

/-! ## The two halves of the rows -/

theorem full0 (r : Fin 256) (w : Fin 1024) :
    mainRun.sl.v539 (F := Ideal) c arg1 harg1 arg2 harg2 arg3 harg3 arg4 harg4 arg5 harg5 arg30 x0 x1 x2 x3 x4 (ix2 r w) = fullV x0 x1 x2 x3 x4 ⟨0 + r.val, by omega⟩ w := by
  refine (half_lo (View.readAt (Elt Ideal) arg1.view (Rect.unit (s := S512x1024) ![0, 0] S256x1024.size inb_S512x1024_S256x1024_0_0).toLoadRect (harg1.unread x0))
    (mainRun.sl.v533 (F := Ideal) c arg1 harg1 arg2 harg2 arg3 harg3 arg4 harg4 arg30 x0 x1 x2 x3)
    (View.readAt (Elt Ideal) arg5.view (Rect.unit (s := S2816x1024) ![0, 0] S2816x1024.size inb_S2816x1024_S2816x1024_0_0).toLoadRect (harg5.unread x4)) r w).trans ?_
  unfold fullV
  congr 1
  · funext w; exact load_tile harg1 x0 0 0 256 1024 _ r w _ w rfl (Nat.zero_add _).symm
  · funext f; exact hid0 x0 x1 x2 x3 r f
  · funext f w; exact load_tile harg5 x4 0 0 2816 1024 _ f w f w (Nat.zero_add _).symm (Nat.zero_add _).symm

/-- The second half's rows, as the body sums them. -/
def sum1 (c : Dev nD) {arg1 : Memref sig .tc .vmem S512x1024 .f32} (harg1 : arg1.IsWhole) {arg2 : Memref sig .tc .vmem S1x1024 .f32} (harg2 : arg2.IsWhole)
    {arg3 : Memref sig .tc .vmem S1024x2816 .bf16} (harg3 : arg3.IsWhole) {arg4 : Memref sig .tc .vmem S1024x2816 .bf16} (harg4 : arg4.IsWhole)
    {arg5 : Memref sig .tc .vmem S2816x1024 .bf16} (harg5 : arg5.IsWhole) (arg30 : Memref sig .tc .vmem S512x2816 .bf16) : FVec Ideal S256x1024 .f32 :=
  k0_pay101 (F := Ideal) (k0_pay54 (View.readAt (Elt Ideal) arg1.view (Rect.unit (s := S512x1024) ![256, 0] S256x1024.size inb_S512x1024_S256x1024_256_0).toLoadRect (harg1.unread x0)))
    (mainRun.sl.v1014 (F := Ideal) c arg1 harg1 arg2 harg2 arg3 harg3 arg4 harg4 arg30 x0 x1 x2 x3)
    (View.readAt (Elt Ideal) arg5.view (Rect.unit (s := S2816x1024) ![0, 0] S2816x1024.size inb_S2816x1024_S2816x1024_0_0).toLoadRect (harg5.unread x4))

theorem full1 (r : Fin 256) (w : Fin 1024) : sum1 x0 x1 x2 x3 x4 c harg1 harg2 harg3 harg4 harg5 arg30 (ix2 r w) = fullV x0 x1 x2 x3 x4 ⟨256 + r.val, by omega⟩ w := by
  unfold sum1
  refine (half_hi _ _ _ r w).trans ?_
  unfold fullV
  congr 1
  · funext w; exact load_tile harg1 x0 256 0 256 1024 _ r w _ w rfl (Nat.zero_add _).symm
  · funext f; exact hid1 x0 x1 x2 x3 r f
  · funext f w; exact load_tile harg5 x4 0 0 2816 1024 _ f w f w (Nat.zero_add _).symm (Nat.zero_add _).symm

theorem next0 (r : Fin 256) (w : Fin 1024) :
    mainRun.sl.v555 (F := Ideal) c arg1 harg1 arg2 harg2 arg3 harg3 arg4 harg4 arg5 harg5 arg6 harg6 arg30 x0 x1 x2 x3 x4 x5 (ix2 r w)
      = nextV x0 x1 x2 x3 x4 x5 ⟨0 + r.val, by omega⟩ w := by
  refine (again_lo (k0_pay4 (View.readAt (Elt Ideal) arg1.view (Rect.unit (s := S512x1024) ![0, 0] S256x1024.size inb_S512x1024_S256x1024_0_0).toLoadRect (harg1.unread x0)))
    (mainRun.sl.v533 (F := Ideal) c arg1 harg1 arg2 harg2 arg3 harg3 arg4 harg4 arg30 x0 x1 x2 x3)
    (View.readAt (Elt Ideal) arg5.view (Rect.unit (s := S2816x1024) ![0, 0] S2816x1024.size inb_S2816x1024_S2816x1024_0_0).toLoadRect (harg5.unread x4))
    (View.readAt (Elt Ideal) arg6.view (Rect.unit (s := S1x1024) ![0, 0] S1x1024.size inb_S1x1024_S1x1024_0_0).toLoadRect (harg6.unread x5)) r w).trans ?_
  unfold nextV
  congr 1
  · funext w; exact full0 (c := c) (harg1 := harg1) (harg2 := harg2) (harg3 := harg3) (harg4 := harg4) (harg5 := harg5) (arg30 := arg30) x0 x1 x2 x3 x4 r w
  · funext w; exact load_tile harg6 x5 0 0 1 1024 _ 0 w 0 w rfl (Nat.zero_add _).symm

theorem next1 (r : Fin 256) (w : Fin 1024) :
    mainRun.sl.r_8 (F := Ideal) c arg1 harg1 arg2 harg2 arg3 harg3 arg4 harg4 arg5 harg5 arg6 harg6 arg30 x0 x1 x2 x3 x4 x5 (ix2 r w)
      = nextV x0 x1 x2 x3 x4 x5 ⟨256 + r.val, by omega⟩ w := by
  unfold mainRun.sl.r_8
  refine (again_hi _ _ _ _ r w).trans ?_
  unfold nextV
  congr 1
  · funext w; exact full1 (c := c) (harg1 := harg1) (harg2 := harg2) (harg3 := harg3) (harg4 := harg4) (harg5 := harg5) (arg30 := arg30) x0 x1 x2 x3 x4 r w
  · funext w; exact load_tile harg6 x5 0 0 1 1024 _ 0 w 0 w rfl (Nat.zero_add _).symm

/-! ## The stores of the results -/

/-- A packed projection of the rows of a half. -/
theorem pack_of (h : FVec Ideal S256x1024 .bf16) (W : Vec Ideal S1040x1024 .bf16) (ro : ℕ) (hro : ro + 256 ≤ 512)
    (hh : ∀ (r : Fin 256) k, h (ix2 r k) = nextV x0 x1 x2 x3 x4 x5 ⟨ro + r.val, by omega⟩ k) (hW : ∀ a k, W (ix2 a k) = x9 (ix2 a k)) (a : Fin 1040) (r : Fin 256) :
    ∑ k, W (ix2 a k) * h (ix2 r k) = packV x0 x1 x2 x3 x4 x5 x9 a ⟨ro + r.val, by omega⟩ := by
  unfold packV
  simp only [hh, hW]

/-- A half of the rows, as stored. -/
theorem rows_piece (ro : ℕ) (hro : ro + 256 ≤ 512) (v : FVec Ideal S256x1024 .f32) (hv : ∀ r w, v (ix2 r w) = fullV x0 x1 x2 x3 x4 ⟨ro + r.val, by omega⟩ w)
    (inb : ∀ a, (![ro, 0] : Fin 2 → ℕ) a + S256x1024.size a ≤ S512x1024.size a) (x : (Rect.unit (s := S512x1024) ![ro, 0] S256x1024.size inb).shape.Idx) :
    v x = rowsV x0 x1 x2 x3 x4 ((Rect.unit (s := S512x1024) ![ro, 0] S256x1024.size inb).emb x) := by
  have hx0 : (x 0).val < 256 := (x 0).isLt
  have hx1 : (x 1).val < 1024 := (x 1).isLt
  have hx : x = ix2 (⟨(x 0).val, hx0⟩ : Fin 256) (⟨(x 1).val, hx1⟩ : Fin 1024) := by
    funext a
    fin_cases a <;> rfl
  refine at_rect (rowsV x0 x1 x2 x3 x4) x (ix2 (⟨ro + (x 0).val, by omega⟩ : Fin 512) (⟨(x 1).val, hx1⟩ : Fin 1024)) (fun a => ?_) ?_
  · fin_cases a
    · rfl
    · exact (Nat.zero_add _).symm
  · exact (congrArg v hx).trans (hv _ _)

/-- A half of the keys, as stored. -/
theorem keys_piece (ro : ℕ) (hro : ro + 256 ≤ 512) (v : FVec Ideal S256x512 .bf16)
    (hv : ∀ r a, v (ix2 r a) = ∑ k, nextV x0 x1 x2 x3 x4 x5 ⟨ro + r.val, by omega⟩ k * x8 (ix2 k a))
    (inb : ∀ a, (![ro, 0] : Fin 2 → ℕ) a + S256x512.size a ≤ S512x512.size a) (x : (Rect.unit (s := S512x512) ![ro, 0] S256x512.size inb).shape.Idx) :
    v x = keysV x0 x1 x2 x3 x4 x5 x8 ((Rect.unit (s := S512x512) ![ro, 0] S256x512.size inb).emb x) := by
  have hx0 : (x 0).val < 256 := (x 0).isLt
  have hx1 : (x 1).val < 512 := (x 1).isLt
  have hx : x = ix2 (⟨(x 0).val, hx0⟩ : Fin 256) (⟨(x 1).val, hx1⟩ : Fin 512) := by
    funext a
    fin_cases a <;> rfl
  refine at_rect (keysV x0 x1 x2 x3 x4 x5 x8) x (ix2 (⟨ro + (x 0).val, by omega⟩ : Fin 512) (⟨(x 1).val, hx1⟩ : Fin 512)) (fun a => ?_) ?_
  · fin_cases a
    · rfl
    · exact (Nat.zero_add _).symm
  · exact (congrArg v hx).trans (hv _ _)

/-- A half of the queries, as stored. -/
theorem queries_piece (co : ℕ) (hco : co + 256 ≤ 512) (v : FVec Ideal S1x512x256 .bf16)
    (hv : ∀ (a : Fin 512) (r : Fin 256), v (ix3 0 a r) = packV x0 x1 x2 x3 x4 x5 x9 ⟨a.val, by omega⟩ ⟨co + r.val, by omega⟩ * (Named.named (F := Ideal) κ "scale" (φ := .f32) 0x3E38AA3B#32 : Ideal .f32))
    (inb : ∀ a, (![0, 0, co] : Fin 3 → ℕ) a + S1x512x256.size a ≤ S1x512x512.size a) (x : (Rect.unit (s := S1x512x512) ![0, 0, co] S1x512x256.size inb).shape.Idx) :
    v x = queriesV x0 x1 x2 x3 x4 x5 x9 ((Rect.unit (s := S1x512x512) ![0, 0, co] S1x512x256.size inb).emb x) := by
  have hx0 : (x 0).val < 1 := (x 0).isLt
  have hx1 : (x 1).val < 512 := (x 1).isLt
  have hx2 : (x 2).val < 256 := (x 2).isLt
  have hx : x = ix3 (0 : Fin 1) (⟨(x 1).val, hx1⟩ : Fin 512) (⟨(x 2).val, hx2⟩ : Fin 256) := by
    funext a
    fin_cases a
    · exact Fin.ext (by show (x 0).val = 0; omega)
    · rfl
    · rfl
  refine at_rect (queriesV x0 x1 x2 x3 x4 x5 x9) x (ix3 (0 : Fin 1) (⟨(x 1).val, hx1⟩ : Fin 512) (⟨co + (x 2).val, by omega⟩ : Fin 512)) (fun a => ?_) ?_
  · fin_cases a
    · show 0 = 0 + (x 0).val
      omega
    · exact (Nat.zero_add _).symm
    · rfl
  · exact (congrArg v hx).trans (hv _ _)

/-- A half of the values, as stored. -/
theorem values_piece (h : ℕ) (hh : h < 2) (v : FVec Ideal S1x512x256 .bf16)
    (hv : ∀ (a : Fin 512) (r : Fin 256), v (ix3 0 a r) = packV x0 x1 x2 x3 x4 x5 x9 ⟨512 + a.val, by omega⟩ ⟨256 * h + r.val, by omega⟩)
    (inb : ∀ a, (![h, 0, 0] : Fin 3 → ℕ) a + S1x512x256.size a ≤ S2x512x256.size a) (x : (Rect.unit (s := S2x512x256) ![h, 0, 0] S1x512x256.size inb).shape.Idx) :
    v x = valuesV x0 x1 x2 x3 x4 x5 x9 ((Rect.unit (s := S2x512x256) ![h, 0, 0] S1x512x256.size inb).emb x) := by
  have hx0 : (x 0).val < 1 := (x 0).isLt
  have hx1 : (x 1).val < 512 := (x 1).isLt
  have hx2 : (x 2).val < 256 := (x 2).isLt
  have hx : x = ix3 (0 : Fin 1) (⟨(x 1).val, hx1⟩ : Fin 512) (⟨(x 2).val, hx2⟩ : Fin 256) := by
    funext a
    fin_cases a
    · exact Fin.ext (by show (x 0).val = 0; omega)
    · rfl
    · rfl
  refine at_rect (valuesV x0 x1 x2 x3 x4 x5 x9) x (ix3 (⟨h, hh⟩ : Fin 2) (⟨(x 1).val, hx1⟩ : Fin 512) (⟨(x 2).val, hx2⟩ : Fin 256)) (fun a => ?_) ?_
  · fin_cases a
    · show h = h + (x 0).val
      omega
    · exact (Nat.zero_add _).symm
    · exact (Nat.zero_add _).symm
  · exact (congrArg v hx).trans (hv _ _)

end

/-! ## The stores of a point -/

section

variable (m : (ℓ : Loc nD τ sig) → Buf (Elt Ideal) ℓ) (c : Dev nD) (t : Fin cfg0.N) (ht : t.val < 64)

theorem rows_hold : Holds (rowsV (iblk m c 0 t) (iblk m c 1 t) (iblk m c 2 t) (iblk m c 3 t) (iblk m c 4 t)) (runAt m c t ht).1 := by
  unfold runAt mainRun
  refine Holds.cons (fun x => ?_) (Holds.cons (fun x => ?_) Holds.nil)
  · exact rows_piece _ _ _ _ _ 256 (by omega) _ (full1 _ _ _ _ _) (by decide) x
  · exact rows_piece _ _ _ _ _ 0 (by omega) _ (full0 _ _ _ _ _) (by decide) x

theorem keys_hold : Holds (keysV (iblk m c 0 t) (iblk m c 1 t) (iblk m c 2 t) (iblk m c 3 t) (iblk m c 4 t) (iblk m c 5 t) (iblk m c 8 t)) (runAt m c t ht).2.1 := by
  unfold runAt mainRun
  refine Holds.cons (fun x => ?_) (Holds.cons (fun x => ?_) Holds.nil)
  · refine keys_piece _ _ _ _ _ _ _ 256 (by omega) _ (fun r a => (key_hi _ _ r a).trans (Finset.sum_congr rfl fun k _ => congrArg₂ _ (next1 _ _ _ _ _ _ r k) ?_)) (by decide) x
    exact load_tile (hstage0_8 _) (iblk m c 8 t) 0 0 1024 512 _ k a k a (Nat.zero_add _).symm (Nat.zero_add _).symm
  · refine keys_piece _ _ _ _ _ _ _ 0 (by omega) _ (fun r a => (key_lo _ _ r a).trans (Finset.sum_congr rfl fun k _ => congrArg₂ _ (next0 _ _ _ _ _ _ r k) ?_)) (by decide) x
    exact load_tile (hstage0_8 _) (iblk m c 8 t) 0 0 1024 512 _ k a k a (Nat.zero_add _).symm (Nat.zero_add _).symm

theorem packed_at (a : Fin 1040) (k : Fin 1024) (inb) :
    View.readAt (Elt Ideal) (win0_9.stage (cfg0.slots t 9)).view (Rect.unit (s := S1040x1024) ![0, 0] S1040x1024.size inb).toLoadRect
      ((hstage0_9 ((cfg0.slots t 9).cast nbuf0_9)).unread (iblk m c 9 t)) (ix2 a k) = iblk m c 9 t (ix2 a k) :=
  load_tile (hstage0_9 _) (iblk m c 9 t) 0 0 1040 1024 inb a k a k (Nat.zero_add _).symm (Nat.zero_add _).symm

theorem queries_hold : Holds (queriesV (iblk m c 0 t) (iblk m c 1 t) (iblk m c 2 t) (iblk m c 3 t) (iblk m c 4 t) (iblk m c 5 t) (iblk m c 9 t)) (runAt m c t ht).2.2.1 := by
  unfold runAt mainRun
  refine Holds.cons (fun x => ?_) (Holds.cons (fun x => ?_) Holds.nil)
  · exact queries_piece _ _ _ _ _ _ _ 256 (by omega) _ (fun a r => (query_hi _ _ a r).trans (congrArg (· * _) ((packed_hi _ _ _ r).trans
      (pack_of _ _ _ _ _ _ _ _ _ 256 (by omega) (next1 _ _ _ _ _ _) (fun a k => packed_at m c t a k _) _ r)))) (by decide) x
  · exact queries_piece _ _ _ _ _ _ _ 0 (by omega) _ (fun a r => (query_lo _ _ a r).trans (congrArg (· * _) ((packed_lo _ _ _ r).trans
      (pack_of _ _ _ _ _ _ _ _ _ 0 (by omega) (next0 _ _ _ _ _ _) (fun a k => packed_at m c t a k _) _ r)))) (by decide) x

theorem values_hold : Holds (valuesV (iblk m c 0 t) (iblk m c 1 t) (iblk m c 2 t) (iblk m c 3 t) (iblk m c 4 t) (iblk m c 5 t) (iblk m c 9 t)) (runAt m c t ht).2.2.2.1 := by
  unfold runAt mainRun
  refine Holds.cons (fun x => ?_) (Holds.cons (fun x => ?_) Holds.nil)
  · exact values_piece _ _ _ _ _ _ _ 1 (by omega) _ (fun a r => (value_hi _ _ a r).trans ((packed_hi _ _ _ r).trans
      (pack_of _ _ _ _ _ _ _ _ _ 256 (by omega) (next1 _ _ _ _ _ _) (fun a k => packed_at m c t a k _) _ r))) (by decide) x
  · exact values_piece _ _ _ _ _ _ _ 0 (by omega) _ (fun a r => (value_lo _ a r).trans ((packed_lo _ _ _ r).trans
      (pack_of _ _ _ _ _ _ _ _ _ 0 (by omega) (next0 _ _ _ _ _ _) (fun a k => packed_at m c t a k _) _ r))) (by decide) x

/-! ## The blocks a point leaves -/

theorem left20_eq : left20 m c t = rowsV (iblk m c 0 (src t)) (iblk m c 1 (src t)) (iblk m c 2 (src t)) (iblk m c 3 (src t)) (iblk m c 4 (src t)) :=
  funext fun y => Holds.read (rows_hold m c (src t) (src_lt t)) y (cover20 m c (src t) (src_lt t) y)

theorem left22_eq : left22 m c t = keysV (iblk m c 0 (src t)) (iblk m c 1 (src t)) (iblk m c 2 (src t)) (iblk m c 3 (src t)) (iblk m c 4 (src t)) (iblk m c 5 (src t)) (iblk m c 8 (src t)) :=
  funext fun y => Holds.read (keys_hold m c (src t) (src_lt t)) y (cover22 m c (src t) (src_lt t) y)

theorem left24_eq : left24 m c t = queriesV (iblk m c 0 (src t)) (iblk m c 1 (src t)) (iblk m c 2 (src t)) (iblk m c 3 (src t)) (iblk m c 4 (src t)) (iblk m c 5 (src t)) (iblk m c 9 (src t)) :=
  funext fun y => Holds.read (queries_hold m c (src t) (src_lt t)) y (cover24 m c (src t) (src_lt t) y)

theorem left25_eq : left25 m c t = valuesV (iblk m c 0 (src t)) (iblk m c 1 (src t)) (iblk m c 2 (src t)) (iblk m c 3 (src t)) (iblk m c 4 (src t)) (iblk m c 5 (src t)) (iblk m c 9 (src t)) :=
  funext fun y => Holds.read (values_hold m c (src t) (src_lt t)) y (cover25 m c (src t) (src_lt t) y)

end

end Fox.Front
-- ==== Proof.FrontArrays.lean ====
module

public import proofs.«01_k».proof.Proof.Gen.Kernel3Ideal
public import proofs.«01_k».proof.Proof.BackResult

@[expose] public section

noncomputable section

namespace Fox.Front

open Idealize.ShloMosaic Idealize.ShloMosaic.TcCoe Idealize.SL.Sem
open Fox.Back (normR gateR halfR rowB rowP)
open Cert.Kernel3Ideal

section

variable (x : FVec Ideal S8x4096x1024 .f32) (g1 : FVec Ideal S1024 .f32) (w1 w3 : FVec Ideal S1024x2816 .f32) (w2 : FVec Ideal S2816x1024 .f32)
variable (gm : FVec Ideal S1024 .f32) (wi : FVec Ideal S1024x2568 .f32)

/-- The row after the first half feed-forward, at a batch and a position, from the arguments. -/
def fullRow (b : Fin 8) (p : Fin 4096) : Fin 1024 → EReal :=
  halfR (fun w => x (ix3 b p w)) (gateR (normR (fun w => x (ix3 b p w)) (fun w => g1 (ix1 w))) (fun k f => w1 (ix2 k f)) (fun k f => w3 (ix2 k f))) (fun f w => w2 (ix2 f w))

/-- Its norm. -/
def nextRow (b : Fin 8) (p : Fin 4096) : Fin 1024 → EReal := normR (fullRow x g1 w1 w3 w2 b p) (fun w => gm (ix1 w))

/-- Its projection. -/
def projRow (b : Fin 8) (p : Fin 4096) (a : Fin 2568) : EReal := ∑ k, nextRow x g1 w1 w3 w2 gm b p k * wi (ix2 k a)

/-- The projection at a row of the flattened batches. -/
def projAt (r : ℕ) (h : r < 32768) (a : Fin 2568) : EReal := projRow x g1 w1 w3 w2 gm wi (rowB r h) (rowP r h) a

/-- The array of the rows. -/
def rowsA : FVec Ideal S32768x1024 .f32 := fun j => fullRow x g1 w1 w3 w2 (rowB (j 0).val (j 0).isLt) (rowP (j 0).val (j 0).isLt) (j 1)

/-- The array of the keys. -/
def keysA : FVec Ideal S32768x512 .bf16 := fun j =>
  projAt x g1 w1 w3 w2 gm wi (j 0).val (j 0).isLt ⟨1536 + (j 1).val, by have : (j 1).val < 512 := (j 1).isLt; omega⟩

/-- The array of the queries, not yet scaled: tiles of 512 positions, transposed. -/
def plainA (j : S64x512x512.Idx) : EReal :=
  projAt x g1 w1 w3 w2 gm wi ((j 0).val * 512 + (j 2).val)
    (by have : (j 0).val < 64 := (j 0).isLt; have : (j 2).val < 512 := (j 2).isLt; omega) ⟨1024 + (j 1).val, by have : (j 1).val < 512 := (j 1).isLt; omega⟩

/-- The array of the queries. -/
def queriesA : FVec Ideal S64x512x512 .bf16 := fun j =>
  plainA x g1 w1 w3 w2 gm wi j * (Named.named (F := Ideal) κ "scale" (φ := .f32) 0x3E38AA3B#32 : Ideal .f32)

/-- The array of the values: tiles of 256 positions, transposed. -/
def valuesA : FVec Ideal S128x512x256 .bf16 := fun j =>
  projAt x g1 w1 w3 w2 gm wi ((j 0).val * 256 + (j 2).val)
    (by have : (j 0).val < 128 := (j 0).isLt; have : (j 2).val < 256 := (j 2).isLt; omega) ⟨2048 + (j 1).val, by have : (j 1).val < 512 := (j 1).isLt; omega⟩

end

end Fox.Front
-- ==== Proof.FrontEntry.lean ====
module

public import proofs.«01_k».proof.Proof.FrontArrays
public import proofs.«01_k».proof.Proof.Gen.Kernel3Ideal.Frame

@[expose] public section

noncomputable section

namespace Fox.Front

open Idealize.ShloMosaic Idealize.ShloMosaic.TcCoe Idealize.SL.Sem
open Fox.Back (rowB rowP)
open Cert.Kernel3Ideal Cert.Kernel3Ideal.Facts₀ Cert.Kernel3Ideal.Facts

variable (m : (ℓ : Loc nD τ sig) → Buf (Elt Ideal) ℓ) (c : Dev nD)

/-! ## The arrays the call reads, from the arguments -/

theorem flat_rows {e : EltTy} (x : Vec Ideal S8x4096x1024 e) (r : Fin 32768) (w : Fin 1024) :
    shapeCast S32768x1024 x shapeCasts_S8x4096x1024_S32768x1024 (ix2 r w) = x (ix3 (rowB r.val r.isLt) (rowP r.val r.isLt) w) := by
  pointwise [rowB, rowP]

theorem weight_row (g : FVec Ideal S1024 .f32) (w : Fin 1024) : shapeCast S1x1024 g shapeCasts_S1024_S1x1024 (ix2 0 w) = g (ix1 w) := by
  pointwise

/-- The packed weights: the query's and the value's columns, and sixteen further ones. -/
def packT (wi : FVec Ideal S1024x2568 .f32) (f : FVec Ideal S1024x16 .f32) : FVec Ideal S1040x1024 .bf16 :=
  truncf .bf16 (transpose S1040x1024 [1, 0] (concatenate S1024x1040 1
    [⟨S1024x512, extractStridedSlice S1024x512 ![0, 1024] wi slices_S1024x2568_S1024x512_0_1024⟩,
     ⟨S1024x512, extractStridedSlice S1024x512 ![0, 2048] wi slices_S1024x2568_S1024x512_0_2048⟩, ⟨S1024x16, f⟩]
    concatenates_S1024x512_S1024x512_S1024x16_S1024x1040_d1) transposes_S1024x1040_S1040x1024_1_0) bitsLt_bf16_f32

theorem packT_query (wi : FVec Ideal S1024x2568 .f32) (f : FVec Ideal S1024x16 .f32) (a : Fin 512) (k : Fin 1024) :
    packT wi f (ix2 ⟨a.val, by omega⟩ k) = wi (ix2 k ⟨1024 + a.val, by omega⟩) := by
  pointwise [packT]

theorem packT_value (wi : FVec Ideal S1024x2568 .f32) (f : FVec Ideal S1024x16 .f32) (a : Fin 512) (k : Fin 1024) :
    packT wi f (ix2 ⟨512 + a.val, by omega⟩ k) = wi (ix2 k ⟨2048 + a.val, by omega⟩) := by
  pointwise [packT]

theorem keyT_apply (wi : FVec Ideal S1024x2568 .f32) (k : Fin 1024) (a : Fin 512) :
    extractStridedSlice S1024x512 ![0, 1536] wi slices_S1024x2568_S1024x512_0_1536 (ix2 k a) = wi (ix2 k ⟨1536 + a.val, by omega⟩) := by
  pointwise

theorem V_x : Gen.V m c main_v0 = shapeCast S32768x1024 (m (c, main_arg0)) shapeCasts_S8x4096x1024_S32768x1024 := by
  entry_read
  rfl
theorem V_g1 : Gen.V m c main_v33 = shapeCast S1x1024 (m (c, main_arg1)) shapeCasts_S1024_S1x1024 := by
  entry_read
  rfl
theorem V_w1 : Gen.V m c main_v34 = m (c, main_arg2) := by
  entry_read
  rfl
theorem V_w3 : Gen.V m c main_v35 = m (c, main_arg3) := by
  entry_read
  rfl
theorem V_w2 : Gen.V m c main_v36 = m (c, main_arg4) := by
  entry_read
  rfl
theorem V_gm : Gen.V m c main_v37 = shapeCast S1x1024 (m (c, main_arg5)) shapeCasts_S1024_S1x1024 := by
  entry_read
  rfl
theorem V_wk : Gen.V m c main_v7 = extractStridedSlice S1024x512 ![0, 1536] (m (c, main_arg6)) slices_S1024x2568_S1024x512_0_1536 := by
  entry_read
  rfl
set_option maxHeartbeats 2000000 in
theorem V_pk : ∃ f, Gen.V m c main_v13 = packT (m (c, main_arg6)) f := by
  refine ⟨?_, ?_⟩
  rotate_left
  · entry_read
    rfl

/-! ## Their blocks -/

theorem idx0 : ∀ t : Fin cfg0.N, win0_0.index t = ![min t.val 63, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx8 : ∀ t : Fin cfg0.N, win0_8.index t = ![0, 0] := by decide +kernel
theorem idx9 : ∀ t : Fin cfg0.N, win0_9.index t = ![0, 0] := by decide +kernel
theorem idx20 : ∀ t : Fin cfg0.N, win0_20.index t = ![min t.val 63, 0] := by decide +kernel
theorem idx22 : ∀ t : Fin cfg0.N, win0_22.index t = ![min t.val 63, 0] := by decide +kernel
theorem idx24 : ∀ t : Fin cfg0.N, win0_24.index t = ![min t.val 63, 0, 0] := by decide +kernel
theorem idx25 : ∀ t : Fin cfg0.N, win0_25.index t = ![min t.val 63, 0, 0] := by decide +kernel

/-- The row of the arrays at a point and a row of its block. -/
def rowAt (t : Fin cfg0.N) (r : Fin 512) : Fin 32768 := ⟨min t.val 63 * 512 + r.val, by omega⟩

theorem blk0 (t : Fin cfg0.N) (r : Fin 512) (w : Fin 1024) : Gen.iblk m c 0 t (ix2 r w) = Gen.V m c main_v0 (ix2 (rowAt t r) w) := by
  unfold rowAt
  blk_ext [Gen.iblk, idx0 t]
theorem blk1 (t : Fin cfg0.N) (w : Fin 1024) : Gen.iblk m c 1 t (ix2 0 w) = Gen.V m c main_v33 (ix2 (0 : Fin 1) w) := by
  blk_ext [Gen.iblk, idx1 t]
theorem blk2 (t : Fin cfg0.N) (k : Fin 1024) (f : Fin 2816) : Gen.iblk m c 2 t (ix2 k f) = Gen.V m c main_v34 (ix2 k f) := by
  blk_ext [Gen.iblk, idx2 t]
theorem blk3 (t : Fin cfg0.N) (k : Fin 1024) (f : Fin 2816) : Gen.iblk m c 3 t (ix2 k f) = Gen.V m c main_v35 (ix2 k f) := by
  blk_ext [Gen.iblk, idx3 t]
theorem blk4 (t : Fin cfg0.N) (f : Fin 2816) (w : Fin 1024) : Gen.iblk m c 4 t (ix2 f w) = Gen.V m c main_v36 (ix2 f w) := by
  blk_ext [Gen.iblk, idx4 t]
theorem blk5 (t : Fin cfg0.N) (w : Fin 1024) : Gen.iblk m c 5 t (ix2 0 w) = Gen.V m c main_v37 (ix2 (0 : Fin 1) w) := by
  blk_ext [Gen.iblk, idx5 t]
theorem blk8 (t : Fin cfg0.N) (k : Fin 1024) (a : Fin 512) : Gen.iblk m c 8 t (ix2 k a) = Gen.V m c main_v7 (ix2 k a) := by
  blk_ext [Gen.iblk, idx8 t]
theorem blk9 (t : Fin cfg0.N) (a : Fin 1040) (k : Fin 1024) : Gen.iblk m c 9 t (ix2 a k) = Gen.V m c main_v13 (ix2 a k) := by
  blk_ext [Gen.iblk, idx9 t]

end Fox.Front
-- ==== Proof.FrontResult.lean ====
module

public import proofs.«01_k».proof.Proof.FrontVal
public import proofs.«01_k».proof.Proof.FrontEntry

@[expose] public section

noncomputable section

namespace Fox.Front

open Idealize.ShloMosaic Idealize.ShloMosaic.TcCoe Idealize.SL.Sem
open Fox.Back (normR gateR halfR rowB rowP)
open Cert.Kernel3Ideal Cert.Kernel3Ideal.Facts₀ Cert.Kernel3Ideal.Facts

variable (m : (ℓ : Loc nD τ sig) → Buf (Elt Ideal) ℓ) (c : Dev nD)

/-- The positions after the first half feed-forward and their projection, from the program's arguments. -/
def fullAt (r : Fin 32768) : Fin 1024 → EReal :=
  fullRow (m (c, main_arg0)) (m (c, main_arg1)) (m (c, main_arg2)) (m (c, main_arg3)) (m (c, main_arg4)) (rowB r.val r.isLt) (rowP r.val r.isLt)
def nextAt (r : Fin 32768) : Fin 1024 → EReal :=
  nextRow (m (c, main_arg0)) (m (c, main_arg1)) (m (c, main_arg2)) (m (c, main_arg3)) (m (c, main_arg4)) (m (c, main_arg5)) (rowB r.val r.isLt) (rowP r.val r.isLt)

/-- A point's rows of the first array, and its weights. -/
theorem in0 (t : Fin cfg0.N) (r : Fin 512) :
    (fun w => Gen.iblk m c 0 t (ix2 r w)) = fun w => m (c, main_arg0) (ix3 (rowB (rowAt t r).val (rowAt t r).isLt) (rowP (rowAt t r).val (rowAt t r).isLt) w) := by
  funext w
  refine (blk0 m c t r w).trans ?_
  rw [V_x]
  exact flat_rows _ _ w
theorem in1 (t : Fin cfg0.N) : (fun w => Gen.iblk m c 1 t (ix2 0 w)) = fun w => m (c, main_arg1) (ix1 w) := by
  funext w
  refine (blk1 m c t w).trans ?_
  rw [V_g1]
  exact weight_row _ w
theorem in2 (t : Fin cfg0.N) : (fun k f => Gen.iblk m c 2 t (ix2 k f)) = fun k f => m (c, main_arg2) (ix2 k f) := by
  funext k f
  exact (blk2 m c t k f).trans (congrFun (V_w1 m c) _)
theorem in3 (t : Fin cfg0.N) : (fun k f => Gen.iblk m c 3 t (ix2 k f)) = fun k f => m (c, main_arg3) (ix2 k f) := by
  funext k f
  exact (blk3 m c t k f).trans (congrFun (V_w3 m c) _)
theorem in4 (t : Fin cfg0.N) : (fun f w => Gen.iblk m c 4 t (ix2 f w)) = fun f w => m (c, main_arg4) (ix2 f w) := by
  funext f w
  exact (blk4 m c t f w).trans (congrFun (V_w2 m c) _)
theorem in5 (t : Fin cfg0.N) : (fun w => Gen.iblk m c 5 t (ix2 0 w)) = fun w => m (c, main_arg5) (ix1 w) := by
  funext w
  refine (blk5 m c t w).trans ?_
  rw [V_gm]
  exact weight_row _ w
theorem in8 (t : Fin cfg0.N) (k : Fin 1024) (a : Fin 512) : Gen.iblk m c 8 t (ix2 k a) = m (c, main_arg6) (ix2 k ⟨1536 + a.val, by omega⟩) := by
  refine (blk8 m c t k a).trans ?_
  rw [V_wk]
  exact keyT_apply _ k a
theorem in9_query (t : Fin cfg0.N) (a : Fin 512) (k : Fin 1024) :
    Gen.iblk m c 9 t (ix2 ⟨a.val, by omega⟩ k) = m (c, main_arg6) (ix2 k ⟨1024 + a.val, by omega⟩) := by
  refine (blk9 m c t _ k).trans ?_
  obtain ⟨f, hf⟩ := V_pk m c
  rw [hf]
  exact packT_query _ _ a k
theorem in9_value (t : Fin cfg0.N) (a : Fin 512) (k : Fin 1024) :
    Gen.iblk m c 9 t (ix2 ⟨512 + a.val, by omega⟩ k) = m (c, main_arg6) (ix2 k ⟨2048 + a.val, by omega⟩) := by
  refine (blk9 m c t _ k).trans ?_
  obtain ⟨f, hf⟩ := V_pk m c
  rw [hf]
  exact packT_value _ _ a k

/-- A point's rows after the first half feed-forward. -/
theorem full_block (t : Fin cfg0.N) (r : Fin 512) :
    fullV (Gen.iblk m c 0 t) (Gen.iblk m c 1 t) (Gen.iblk m c 2 t) (Gen.iblk m c 3 t) (Gen.iblk m c 4 t) r = fullAt m c (rowAt t r) := by
  show halfR (fun w => Gen.iblk m c 0 t (ix2 r w))
      (gateR (normR (fun w => Gen.iblk m c 0 t (ix2 r w)) (fun w => Gen.iblk m c 1 t (ix2 0 w))) (fun k f => Gen.iblk m c 2 t (ix2 k f)) (fun k f => Gen.iblk m c 3 t (ix2 k f)))
      (fun f w => Gen.iblk m c 4 t (ix2 f w)) = _
  rw [in0, in1, in2, in3, in4]
  rfl

theorem next_block (t : Fin cfg0.N) (r : Fin 512) :
    nextV (Gen.iblk m c 0 t) (Gen.iblk m c 1 t) (Gen.iblk m c 2 t) (Gen.iblk m c 3 t) (Gen.iblk m c 4 t) (Gen.iblk m c 5 t) r = nextAt m c (rowAt t r) := by
  show normR (fullV (Gen.iblk m c 0 t) (Gen.iblk m c 1 t) (Gen.iblk m c 2 t) (Gen.iblk m c 3 t) (Gen.iblk m c 4 t) r) (fun w => Gen.iblk m c 5 t (ix2 0 w)) = _
  rw [full_block, in5]
  rfl

/-- The projection of a row of the flattened batches, from the program's arguments. -/
def projM (r : ℕ) (h : r < 32768) (a : Fin 2568) : EReal :=
  projAt (m (c, main_arg0)) (m (c, main_arg1)) (m (c, main_arg2)) (m (c, main_arg3)) (m (c, main_arg4)) (m (c, main_arg5)) (m (c, main_arg6)) r h a

theorem keys_block (t : Fin cfg0.N) (r a : Fin 512) :
    keysV (Gen.iblk m c 0 t) (Gen.iblk m c 1 t) (Gen.iblk m c 2 t) (Gen.iblk m c 3 t) (Gen.iblk m c 4 t) (Gen.iblk m c 5 t) (Gen.iblk m c 8 t) (ix2 r a)
      = projM m c (rowAt t r).val (rowAt t r).isLt ⟨1536 + a.val, by omega⟩ := by
  show (∑ k : Fin 1024, nextV (Gen.iblk m c 0 t) (Gen.iblk m c 1 t) (Gen.iblk m c 2 t) (Gen.iblk m c 3 t) (Gen.iblk m c 4 t) (Gen.iblk m c 5 t) r k * Gen.iblk m c 8 t (ix2 k a)) = _
  rw [next_block]
  exact Finset.sum_congr rfl fun k _ => congrArg (nextAt m c (rowAt t r) k * ·) (in8 m c t k a)

theorem query_block (t : Fin cfg0.N) (a r : Fin 512) :
    packV (Gen.iblk m c 0 t) (Gen.iblk m c 1 t) (Gen.iblk m c 2 t) (Gen.iblk m c 3 t) (Gen.iblk m c 4 t) (Gen.iblk m c 5 t) (Gen.iblk m c 9 t) ⟨a.val, by omega⟩ r
      = projM m c (rowAt t r).val (rowAt t r).isLt ⟨1024 + a.val, by omega⟩ := by
  unfold packV
  rw [next_block]
  exact Finset.sum_congr rfl fun k _ => (mul_comm _ _).trans (congrArg (nextAt m c (rowAt t r) k * ·) (in9_query m c t a k))

theorem value_block (t : Fin cfg0.N) (a r : Fin 512) :
    packV (Gen.iblk m c 0 t) (Gen.iblk m c 1 t) (Gen.iblk m c 2 t) (Gen.iblk m c 3 t) (Gen.iblk m c 4 t) (Gen.iblk m c 5 t) (Gen.iblk m c 9 t) ⟨512 + a.val, by omega⟩ r
      = projM m c (rowAt t r).val (rowAt t r).isLt ⟨2048 + a.val, by omega⟩ := by
  unfold packV
  rw [next_block]
  exact Finset.sum_congr rfl fun k _ => (mul_comm _ _).trans (congrArg (nextAt m c (rowAt t r) k * ·) (in9_value m c t a k))

theorem projM_congr {r r' : ℕ} (e : r = r') (h : r < 32768) (h' : r' < 32768) {a a' : Fin 2568} (ea : a = a') : projM m c r h a = projM m c r' h' a' := by
  subst e
  subst ea
  rfl

theorem src_row (t : Fin cfg0.N) (r : Fin 512) : (rowAt (src t) r).val = min t.val 63 * 512 + r.val := by
  show min (min t.val 63) 63 * 512 + r.val = _
  rw [min_assoc, min_self]

/-! ## What the four result arrays end at -/

theorem result20 : (dats m 0 c).arrAt 20 (cfgs 0).N
    = rowsA (m (c, main_arg0)) (m (c, main_arg1)) (m (c, main_arg2)) (m (c, main_arg3)) (m (c, main_arg4)) := by
  refine (dats m 0 c).arrAt_eq_of_covers 20 _ (by decide +kernel) fun t hfl y => ?_
  have hy : y = ix2 (y 0) (y 1) := by
    funext a
    fin_cases a <;> rfl
  blk_simp
  rw [after20, left20_eq, hy]
  refine (congrFun (full_block m c (src t) (y 0)) (y 1)).trans (congrArg (rowsA _ _ _ _ _) (a₁ := ix2 (rowAt (src t) (y 0)) (y 1)) ?_)
  have e := src_row t (y 0)
  unfold rowAt at e ⊢
  blk_ext [idx20 t, src]

theorem result22 : (dats m 0 c).arrAt 22 (cfgs 0).N
    = keysA (m (c, main_arg0)) (m (c, main_arg1)) (m (c, main_arg2)) (m (c, main_arg3)) (m (c, main_arg4)) (m (c, main_arg5)) (m (c, main_arg6)) := by
  refine (dats m 0 c).arrAt_eq_of_covers 22 _ (by decide +kernel) fun t hfl y => ?_
  have hy : y = ix2 (y 0) (y 1) := by
    funext a
    fin_cases a <;> rfl
  blk_simp
  rw [after22, left22_eq, hy]
  refine (keys_block m c (src t) (y 0) (y 1)).trans (congrArg (keysA _ _ _ _ _ _ _) (a₁ := ix2 (rowAt (src t) (y 0)) (y 1)) ?_)
  have e := src_row t (y 0)
  unfold rowAt at e ⊢
  blk_ext [idx22 t, src]

theorem row24 (t : Fin cfg0.N) : win0_24.index t 0 = min t.val 63 := congrFun (idx24 t) 0
theorem mid24 (t : Fin cfg0.N) : win0_24.index t 1 = 0 := congrFun (idx24 t) 1
theorem col24 (t : Fin cfg0.N) : win0_24.index t 2 = 0 := congrFun (idx24 t) 2
theorem row25 (t : Fin cfg0.N) : win0_25.index t 0 = min t.val 63 := congrFun (idx25 t) 0
theorem mid25 (t : Fin cfg0.N) : win0_25.index t 1 = 0 := congrFun (idx25 t) 1
theorem col25 (t : Fin cfg0.N) : win0_25.index t 2 = 0 := congrFun (idx25 t) 2

theorem result24 : (dats m 0 c).arrAt 24 (cfgs 0).N
    = queriesA (m (c, main_arg0)) (m (c, main_arg1)) (m (c, main_arg2)) (m (c, main_arg3)) (m (c, main_arg4)) (m (c, main_arg5)) (m (c, main_arg6)) := by
  refine (dats m 0 c).arrAt_eq_of_covers 24 _ (by decide +kernel) fun t hfl y => ?_
  blk_simp
  rw [after24, left24_eq]
  refine congrArg (· * (Named.named (F := Ideal) κ "scale" (φ := .f32) 0x3E38AA3B#32 : Ideal .f32)) ((query_block m c (src t) (y 1) (y 2)).trans (projM_congr m c ?_ _ _ ?_))
  · refine (src_row t (y 2)).trans ?_
    have h0 : (y 0).val < 1 := (y 0).isLt
    blk_simp
    simp only [row24 t, col24 t]
    omega
  · apply Fin.ext
    blk_simp
    simp only [mid24 t, Nat.zero_mul, Nat.zero_add]

theorem result25 : (dats m 0 c).arrAt 25 (cfgs 0).N
    = valuesA (m (c, main_arg0)) (m (c, main_arg1)) (m (c, main_arg2)) (m (c, main_arg3)) (m (c, main_arg4)) (m (c, main_arg5)) (m (c, main_arg6)) := by
  refine (dats m 0 c).arrAt_eq_of_covers 25 _ (by decide +kernel) fun t hfl y => ?_
  blk_simp
  rw [after25, left25_eq]
  refine (value_block m c (src t) (y 1) ⟨256 * (y 0).val + (y 2).val, by have : (y 0).val < 2 := (y 0).isLt; have : (y 2).val < 256 := (y 2).isLt; omega⟩).trans (projM_congr m c ?_ _ _ ?_)
  · refine (src_row t _).trans ?_
    blk_simp
    simp only [row25 t, col25 t]
    omega
  · apply Fin.ext
    blk_simp
    simp only [mid25 t, Nat.zero_mul, Nat.zero_add]

end Fox.Front
-- ==== Proof.FrontRefer.lean ====
module

public import proofs.«01_k».proof.Proof.FrontArrays
public import proofs.«01_k».proof.Proof.Gen.Reference3Ideal
public import proofs.«01_k».proof.Proof.Gen.Reference3Ideal.Run
public import Idealize.ShloMosaic.Lib.IdealHost

@[expose] public section

noncomputable section

namespace Fox.Front.Ref

open Idealize.ShloMosaic Idealize.SL.Sem
open Fox.Back (normR gateR halfR rowB rowP)
open Cert.Reference3Ideal Cert.Reference3Ideal.Facts₀ Cert.Reference3Ideal.Facts

variable [Facts]

/-- The root-mean-square norm of every position. -/
def nrmT (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The gated hidden numbers. -/
def hidT (h : FVec Ideal S8x4096x1024 .f32) (w1 w3 : FVec Ideal S1024x2816 .f32) : FVec Ideal S8x4096x2816 .f32 :=
  mulf (mulf (Host.dotGeneral dot_S8x4096x1024_S1024x2816_S8x4096x2816_2_0_01_1_n_n none h w1)
    (Host.divf (broadcastInDim S8x4096x2816 ![] bcast_S_S8x4096x2816 (constant S_ .f32 0x3F800000#32))
      (addf (broadcastInDim S8x4096x2816 ![] bcast_S_S8x4096x2816 (constant S_ .f32 0x3F800000#32))
        (Host.exp (Host.negf (Host.dotGeneral dot_S8x4096x1024_S1024x2816_S8x4096x2816_2_0_01_1_n_n none h w1))))))
    (Host.dotGeneral dot_S8x4096x1024_S1024x2816_S8x4096x2816_2_0_01_1_n_n none h w3)

/-- Half their product with the second weights, added to the position. -/
def halfT (x : FVec Ideal S8x4096x1024 .f32) (u : FVec Ideal S8x4096x2816 .f32) (w2 : FVec Ideal S2816x1024 .f32) : FVec Ideal S8x4096x1024 .f32 :=
  addf x (mulf (broadcastInDim S8x4096x1024 ![] bcast_S_S8x4096x1024 (constant S_ .f32 0x3F000000#32))
    (Host.dotGeneral dot_S8x4096x2816_S2816x1024_S8x4096x1024_2_0_01_1_n_n none u w2))

/-- The positions after the first half feed-forward. -/
def fullT (x : FVec Ideal S8x4096x1024 .f32) (g1 : FVec Ideal S1024 .f32) (w1 w3 : FVec Ideal S1024x2816 .f32) (w2 : FVec Ideal S2816x1024 .f32) :
    FVec Ideal S8x4096x1024 .f32 := halfT x (hidT (nrmT x g1) w1 w3) w2

/-- The product with the packed projection. -/
def projT (h : FVec Ideal S8x4096x1024 .f32) (wi : FVec Ideal S1024x2568 .f32) : FVec Ideal S8x4096x2568 .f32 :=
  Host.dotGeneral dot_S8x4096x1024_S1024x2568_S8x4096x2568_2_0_01_1_n_n none h wi

/-- The four results, the last three from the projection. -/
def rowsT (x : FVec Ideal S8x4096x1024 .f32) : FVec Ideal S32768x1024 .f32 := shapeCast S32768x1024 x shapeCasts_S8x4096x1024_S32768x1024
def keysT (z : FVec Ideal S8x4096x2568 .f32) : FVec Ideal S32768x512 .bf16 :=
  truncf .bf16 (shapeCast S32768x512 (extractStridedSlice S8x4096x512 ![0, 0, 1536] z slices_S8x4096x2568_S8x4096x512_0_0_1536) shapeCasts_S8x4096x512_S32768x512) bitsLt_bf16_f32
def queriesT (z : FVec Ideal S8x4096x2568 .f32) : FVec Ideal S64x512x512 .bf16 :=
  truncf .bf16 (transpose S64x512x512 [0, 2, 1] (shapeCast S64x512x512
    (Host.divf (mulf (extractStridedSlice S8x4096x512 ![0, 0, 1024] z slices_S8x4096x2568_S8x4096x512_0_0_1024)
        (broadcastInDim S8x4096x512 ![] bcast_S_S8x4096x512 (constant S_ .f32 0x3E000000#32)))
      (broadcastInDim S8x4096x512 ![] bcast_S_S8x4096x512 (Host.log (constant S_ .f32 0x40000000#32))))
    shapeCasts_S8x4096x512_S64x512x512) transposes_S64x512x512_S64x512x512_0_2_1) bitsLt_bf16_f32
def valuesT (z : FVec Ideal S8x4096x2568 .f32) : FVec Ideal S128x512x256 .bf16 :=
  truncf .bf16 (transpose S128x512x256 [0, 2, 1] (shapeCast S128x256x512
    (extractStridedSlice S8x4096x512 ![0, 0, 2048] z slices_S8x4096x2568_S8x4096x512_0_0_2048) shapeCasts_S8x4096x512_S128x256x512)
    transposes_S128x256x512_S128x512x256_0_2_1) bitsLt_bf16_f32

theorem nrmT_apply (x : FVec Ideal S8x4096x1024 .f32) (g : FVec Ideal S1024 .f32) (b : Fin 8) (p : Fin 4096) (w : Fin 1024) :
    nrmT x g (ix3 b p w) = normR (fun w => x (ix3 b p w)) (fun w => g (ix1 w)) w := by
  pointwise [nrmT, normR]

theorem hidT_apply (h : FVec Ideal S8x4096x1024 .f32) (w1 w3 : FVec Ideal S1024x2816 .f32) (b : Fin 8) (p : Fin 4096) (f : Fin 2816) :
    hidT h w1 w3 (ix3 b p f) = gateR (fun k => h (ix3 b p k)) (fun k f => w1 (ix2 k f)) (fun k f => w3 (ix2 k f)) f := by
  pointwise [hidT, gateR]
  rfl

theorem halfT_apply (x : FVec Ideal S8x4096x1024 .f32) (u : FVec Ideal S8x4096x2816 .f32) (w2 : FVec Ideal S2816x1024 .f32) (b : Fin 8) (p : Fin 4096) (w : Fin 1024) :
    halfT x u w2 (ix3 b p w) = halfR (fun w => x (ix3 b p w)) (fun f => u (ix3 b p f)) (fun f w => w2 (ix2 f w)) w := by
  pointwise [halfT, halfR]

theorem projT_apply (h : FVec Ideal S8x4096x1024 .f32) (wi : FVec Ideal S1024x2568 .f32) (b : Fin 8) (p : Fin 4096) (a : Fin 2568) :
    projT h wi (ix3 b p a) = ∑ k : Fin 1024, h (ix3 b p k) * wi (ix2 k a) := by
  pointwise [projT]

theorem rowsT_apply (x : FVec Ideal S8x4096x1024 .f32) (r : Fin 32768) (w : Fin 1024) :
    rowsT x (ix2 r w) = x (ix3 (rowB r.val r.isLt) (rowP r.val r.isLt) w) := by
  pointwise [rowsT, rowB, rowP]

theorem keysT_apply (z : FVec Ideal S8x4096x2568 .f32) (r : Fin 32768) (a : Fin 512) :
    keysT z (ix2 r a) = z (ix3 (rowB r.val r.isLt) (rowP r.val r.isLt) ⟨1536 + a.val, by omega⟩) := by
  pointwise [keysT, rowB, rowP]

theorem queriesT_apply (z : FVec Ideal S8x4096x2568 .f32) (t : Fin 64) (a l : Fin 512) :
    queriesT z (ix3 t a l) = Ideal.div (z (ix3 (rowB (t.val * 512 + l.val) (by omega)) (rowP (t.val * 512 + l.val) (by omega)) ⟨1024 + a.val, by omega⟩) * Ideal.ofBits .f32 0x3E000000#32)
      (Ideal.log (Ideal.ofBits .f32 0x40000000#32)) := by
  have e1 : (t.val * 512 + l.val) / 4096 = t.val / 8 := by omega
  have e2 : (t.val * 512 + l.val) % 4096 = t.val % 8 * 512 + l.val := by omega
  pointwise [queriesT]
  simp only [rowB, rowP, e1, e2]

theorem valuesT_apply (z : FVec Ideal S8x4096x2568 .f32) (t : Fin 128) (a : Fin 512) (l : Fin 256) :
    valuesT z (ix3 t a l) = z (ix3 (rowB (t.val * 256 + l.val) (by omega)) (rowP (t.val * 256 + l.val) (by omega)) ⟨2048 + a.val, by omega⟩) := by
  have e1 : (t.val * 256 + l.val) / 4096 = t.val / 16 := by omega
  have e2 : (t.val * 256 + l.val) % 4096 = t.val % 16 * 256 + l.val := by omega
  pointwise [valuesT]
  simp only [rowB, rowP, e1, e2]

section

variable (x : FVec Ideal S8x4096x1024 .f32) (g1 : FVec Ideal S1024 .f32) (w1 w3 : FVec Ideal S1024x2816 .f32) (w2 : FVec Ideal S2816x1024 .f32)
variable (gm : FVec Ideal S1024 .f32) (wi : FVec Ideal S1024x2568 .f32)

theorem fullT_row (b : Fin 8) (p : Fin 4096) : (fun w => fullT x g1 w1 w3 w2 (ix3 b p w)) = fullRow x g1 w1 w3 w2 b p := by
  funext w
  unfold fullT fullRow
  rw [halfT_apply]
  simp only [hidT_apply, nrmT_apply]

theorem proj_row (b : Fin 8) (p : Fin 4096) (a : Fin 2568) :
    projT (nrmT (fullT x g1 w1 w3 w2) gm) wi (ix3 b p a) = projRow x g1 w1 w3 w2 gm wi b p a := by
  rw [projT_apply]
  unfold projRow nextRow
  simp only [nrmT_apply, fullT_row]

/-- An array is the one it agrees with at its pairs of indices; and at its triples. -/
theorem ext2 (a b : ℕ) {β : Type} (u v : (⟨2, ![a, b]⟩ : Shape).Idx → β) (h : ∀ i j, u (ix2 i j) = v (ix2 i j)) : u = v := by
  funext j
  have hj : j = ix2 (j 0) (j 1) := by
    funext i
    fin_cases i <;> rfl
  rw [hj]
  exact h (j 0) (j 1)

theorem ext3 (a b c : ℕ) {β : Type} (u v : (⟨3, ![a, b, c]⟩ : Shape).Idx → β) (h : ∀ i j k, u (ix3 i j k) = v (ix3 i j k)) : u = v := by
  funext j
  have hj : j = ix3 (j 0) (j 1) (j 2) := by
    funext i
    fin_cases i <;> rfl
  rw [hj]
  exact h (j 0) (j 1) (j 2)

theorem rows_eq : rowsT (fullT x g1 w1 w3 w2) = rowsA x g1 w1 w3 w2 :=
  ext2 32768 1024 _ _ fun r w => (rowsT_apply _ r w).trans (congrFun (fullT_row x g1 w1 w3 w2 _ _) w)

theorem keys_eq : keysT (projT (nrmT (fullT x g1 w1 w3 w2) gm) wi) = keysA x g1 w1 w3 w2 gm wi :=
  ext2 32768 512 _ _ fun r a => (keysT_apply _ r a).trans (proj_row x g1 w1 w3 w2 gm wi _ _ _)

theorem queries_eq : queriesT (projT (nrmT (fullT x g1 w1 w3 w2) gm) wi)
    = fun j => Ideal.div (plainA x g1 w1 w3 w2 gm wi j * Ideal.ofBits .f32 0x3E000000#32) (Ideal.log (Ideal.ofBits .f32 0x40000000#32)) :=
  ext3 64 512 512 _ _ fun t a l => (queriesT_apply _ t a l).trans (congrArg (fun z => Ideal.div (z * Ideal.ofBits .f32 0x3E000000#32) (Ideal.log (Ideal.ofBits .f32 0x40000000#32))) (proj_row x g1 w1 w3 w2 gm wi _ _ _))

theorem values_eq : valuesT (projT (nrmT (fullT x g1 w1 w3 w2) gm) wi) = valuesA x g1 w1 w3 w2 gm wi :=
  ext3 128 512 256 _ _ fun t a l => (valuesT_apply _ t a l).trans (proj_row x g1 w1 w3 w2 gm wi _ _ _)

end

/-! ## The reference's program computes them -/

section

variable (m : (ℓ : Loc nD τ sig) → Buf (Elt Ideal) ℓ) (c : Dev nD)

/-- The positions after the first half feed-forward and their projection, from the program's arguments. -/
def fullM : FVec Ideal S8x4096x1024 .f32 :=
  fullT (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))
def projM : FVec Ideal S8x4096x2568 .f32 := projT (nrmT (fullM m c) (m ((c.tc : Thread nD τ).loc main_arg5))) (m ((c.tc : Thread nD τ).loc main_arg6))

theorem res_keys : Value.res_main_v48 m c = keysT (projM m c) := by
  unfold Value.res_main_v48
  rfl
theorem res_queries : Value.res_main_v51 m c = queriesT (projM m c) := by
  unfold Value.res_main_v51
  rfl
theorem res_values : Value.res_main_v54 m c = valuesT (projM m c) := by
  unfold Value.res_main_v54
  rfl

end

end Fox.Front.Ref
-- ==== Proof.FrontAlgebraic.lean ====
module

public import proofs.«01_k».proof.Proof.FrontResult
public import proofs.«01_k».proof.Proof.FrontRefer
public import proofs.«01_k».proof.Proof.FrontFrames
public import proofs.«01_k».proof.Proof.Prep

@[expose] public section

noncomputable section

namespace Fox.Front

open Idealize.ShloMosaic Idealize.ShloMosaic.TcCoe Idealize.SL.Sem

/-- An eighth over log 2, as the kernel multiplies by it. -/
theorem scale_word : (Named.named (F := Ideal) Cert.Kernel3Ideal.κ "scale" (φ := .f32) 0x3E38AA3B#32 : Ideal .f32) = (((1 / 8) * (Real.log 2)⁻¹ : ℝ) : EReal) :=
  IdealRules.named_const.ideal_named_scalar Cert.Kernel3Ideal.κ "scale" (φ := .f32) 0x3E38AA3B#32 _ rfl

/-- The reference's scaling is the kernel's. -/
theorem scaled (z : EReal) : Ideal.div (z * Ideal.ofBits .f32 0x3E000000#32) (Ideal.log (Ideal.ofBits .f32 0x40000000#32))
    = z * (Named.named (F := Ideal) Cert.Kernel3Ideal.κ "scale" (φ := .f32) 0x3E38AA3B#32 : Ideal .f32) := by
  rw [scale_word, log2_word, eighth_word, Ideal.div_coe (Real.log_pos (by norm_num)).ne', mul_assoc, ← EReal.coe_mul, one_div, one_div]

section

open Cert.Kernel3Ideal

variable (m : (ℓ : Loc nD τ sig) → Buf (Elt Ideal) ℓ) (c : Dev nD)

/-- What both programs leave at the four results, from the arguments the kernel starts with. -/
def rowsO : FVec Ideal S32768x1024 .f32 := rowsA (m (c, main_arg0)) (m (c, main_arg1)) (m (c, main_arg2)) (m (c, main_arg3)) (m (c, main_arg4))
def keysO : FVec Ideal S32768x512 .bf16 :=
  keysA (m (c, main_arg0)) (m (c, main_arg1)) (m (c, main_arg2)) (m (c, main_arg3)) (m (c, main_arg4)) (m (c, main_arg5)) (m (c, main_arg6))
def queriesO : FVec Ideal S64x512x512 .bf16 :=
  queriesA (m (c, main_arg0)) (m (c, main_arg1)) (m (c, main_arg2)) (m (c, main_arg3)) (m (c, main_arg4)) (m (c, main_arg5)) (m (c, main_arg6))
def valuesO : FVec Ideal S128x512x256 .bf16 :=
  valuesA (m (c, main_arg0)) (m (c, main_arg1)) (m (c, main_arg2)) (m (c, main_arg3)) (m (c, main_arg4)) (m (c, main_arg5)) (m (c, main_arg6))

/-- What the run leaves in a claimed result's array. -/
theorem ends {r} (h : Pipeline.RDat.FramePost (cfgs 0) (fun c => (dats m 0 c).toRForget dropped) (Gen.V m) r) (w : Fin cfg0.W) (hw : dropped w = false) :
    r.2.mem (c, Pipeline.arrRef spec0 w) = (dats m 0 c).arrAt w (cfgs 0).N :=
  ((dats m 0 c).toRForget_arrAt_iff hw _ _).mp ((h c).1 w)

end

set_option maxHeartbeats 2000000 in
theorem algebraic : Cert.algebraic_Kernel3Ideal_Reference3Ideal := by
  intro m g m' g' _ hargs
  refine ⟨rowsO m, keysO m, queriesO m, valuesO m, ?_, ?_⟩
  · exact (θ_run Cert.Kernel3Ideal.defs _ _).mono (fun r h c => ⟨(ends m c h.1 20 rfl).trans (result20 m c), (ends m c h.1 22 rfl).trans (result22 m c),
      (ends m c h.1 24 rfl).trans (result24 m c), (ends m c h.1 25 rfl).trans (result25 m c), kept m h.1 c⟩) (launched (F := Ideal) m g)
  · refine (θ_run Cert.Reference3Ideal.defs _ _).mono (fun r h c => ⟨(h c).1.trans ?_, (h c).2.1.trans ?_, (h c).2.2.1.trans ?_, (h c).2.2.2.1.trans ?_, (h c).2.2.2.2⟩)
      (Cert.Reference3Ideal.Value.run (F := Ideal) m' g')
    all_goals obtain ⟨a0, a1, a2, a3, a4, a5, a6, -⟩ := hargs c
    · show Ref.rowsT (Ref.fullM m' c) = _
      unfold Ref.fullM
      rw [a0, a1, a2, a3, a4]
      exact Ref.rows_eq _ _ _ _ _
    · refine (Ref.res_keys m' c).trans ?_
      unfold Ref.projM Ref.fullM
      rw [a0, a1, a2, a3, a4, a5, a6]
      exact Ref.keys_eq _ _ _ _ _ _ _
    · refine (Ref.res_queries m' c).trans ?_
      unfold Ref.projM Ref.fullM
      rw [a0, a1, a2, a3, a4, a5, a6]
      exact (Ref.queries_eq _ _ _ _ _ _ _).trans (funext fun j => scaled _)
    · refine (Ref.res_values m' c).trans ?_
      unfold Ref.projM Ref.fullM
      rw [a0, a1, a2, a3, a4, a5, a6]
      exact Ref.values_eq _ _ _ _ _ _ _

end Fox.Front
-- ==== Proof.lean ====
module

public import proofs.«01_k».proof.Defs
public import proofs.«01_k».proof.Proof.Frames
public import proofs.«01_k».proof.Proof.Algebraic
public import proofs.«01_k».proof.Proof.BackFrames
public import proofs.«01_k».proof.Proof.BackAlgebraic
public import proofs.«01_k».proof.Proof.FrontFrames
public import proofs.«01_k».proof.Proof.FrontAlgebraic

@[expose] public section

theorem Cert.Proof.claim : Cert.Claim :=
  letI := Fox.pre_facts
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Fox.pre_facts,
    Fox.frame_kernel, Fox.frame_ideal, Fox.frame_ideal_pre, Fox.frame_reference, Fox.frame_reference_pre,
    Fox.Back.frame_kernel, Fox.Back.frame_ideal, Fox.Back.frame_reference,
    Fox.Front.frame_kernel, Fox.Front.frame_ideal, Fox.Front.frame_reference, Fox.preserves, Fox.algebraic, Fox.Back.preserves, Fox.Back.algebraic,
    Fox.Front.preserves, Fox.Front.algebraic⟩
